-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v192_1)) (v1 : (c : Dev Cert.Kernel2Ideal.nD) → Buf (Elt Ideal) ((c.tc : Thread Cert.Kernel2Ideal.nD Cert.Kernel2Ideal.τ).loc Cert.Kernel2Ideal.main_v192_3)) (v2 : (c : Dev Cert.Kernel2Ideal.nD) → Buf (Elt Ideal) ((c.tc : Thread Cert.Kernel2Ideal.nD Cert.Kernel2Ideal.τ).loc Cert.Kernel2Ideal.main_v192_5)) (v3 : (c : Dev Cert.Kernel2Ideal.nD) → Buf (Elt Ideal) ((c.tc : Thread Cert.Kernel2Ideal.nD Cert.Kernel2Ideal.τ).loc Cert.Kernel2Ideal.main_v192_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v192_1) = v0 c
          ∧ r.2.mem ((c.tc : Thread Cert.Kernel2Ideal.nD Cert.Kernel2Ideal.τ).loc Cert.Kernel2Ideal.main_v192_3) = v1 c
          ∧ r.2.mem ((c.tc : Thread Cert.Kernel2Ideal.nD Cert.Kernel2Ideal.τ).loc Cert.Kernel2Ideal.main_v192_5) = v2 c
          ∧ r.2.mem ((c.tc : Thread Cert.Kernel2Ideal.nD Cert.Kernel2Ideal.τ).loc Cert.Kernel2Ideal.main_v192_6) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S8x2048x8x256 : Shape := ⟨4, ![8, 2048, 8, 256]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S8x256x64 : Shape := ⟨3, ![8, 256, 64]⟩
abbrev S_ : Shape := ⟨0, ![]⟩

class Facts : Prop where
  bcast_S_S8x2048x8x256 : S_.BroadcastsInDim S8x2048x8x256 (![] : Fin 0 → Fin S8x2048x8x256.rank)
  reducesTo_S8x2048x8x256_S_d0_1_2_3 : S8x2048x8x256.ReducesTo [0, 1, 2, 3] S_
  h_S_ : 0 < S_.numel
  bcast_S_S8x2048x8x32 : S_.BroadcastsInDim S8x2048x8x32 (![] : Fin 0 → Fin S8x2048x8x32.rank)
  reducesTo_S8x2048x8x32_S_d0_1_2_3 : S8x2048x8x32.ReducesTo [0, 1, 2, 3] S_
  bcast_S_S8x2048x256 : S_.BroadcastsInDim S8x2048x256 (![] : Fin 0 → Fin S8x2048x256.rank)
  reducesTo_S8x2048x256_S_d0_1_2 : S8x2048x256.ReducesTo [0, 1, 2] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn_part1 {F : FTy → Type} [FloatOps F] (main_v13 : IVec S_ 1) (main_v16 : IVec S8x2048x32 1) : IVec S_ 1 :=
  let main_c_5 : IVec S_ 1 := constantI S_ 1 1#1
  let main_v17 : IVec S_ 1 := (fun x v => Host.reduce IntOp.andi x v reducesTo_S8x2048x32_S_d0_1_2 h_S_) main_v16 main_c_5
  let main_v18 : IVec S_ 1 := andi main_v13 main_v17
  main_v18

def fn {F : FTy → Type} [FloatOps F] (main_arg0 : FVec F S8x2048x8x256 .f32) (main_arg1 : FVec F S8x2048x8x32 .f32) (main_arg2 : FVec F S8x2048x256 .f32) (main_arg3 : FVec F S8x2048x32 .f32) (main_arg4 : FVec F S8x256x64 .f32) : IVec S_ 1 :=
  let main_v0 : FVec F S8x2048x8x256 .f32 := Host.absf main_arg0
  let main_cst : FVec F S_ .f32 := constant S_ .f32 0x7F800000#32
  let main_v1 : FVec F S8x2048x8x256 .f32 := broadcastInDim S8x2048x8x256 ![] bcast_S_S8x2048x8x256 main_cst
  let main_v2 : IVec S8x2048x8x256 1 := cmpf .olt main_v0 main_v1
  let main_c : IVec S_ 1 := constantI S_ 1 1#1
  let main_v3 : IVec S_ 1 := (fun x v => Host.reduce IntOp.andi x v reducesTo_S8x2048x8x256_S_d0_1_2_3 h_S_) main_v2 main_c
  let main_v4 : FVec F S8x2048x8x32 .f32 := Host.absf main_arg1
  let main_cst_0 : FVec F S_ .f32 := constant S_ .f32 0x7F800000#32
  let main_v5 : FVec F S8x2048x8x32 .f32 := broadcastInDim S8x2048x8x32 ![] bcast_S_S8x2048x8x32 main_cst_0
  let main_v6 : IVec S8x2048x8x32 1 := cmpf .olt main_v4 main_v5
  let main_c_1 : IVec S_ 1 := constantI S_ 1 1#1
  let main_v7 : IVec S_ 1 := (fun x v => Host.reduce IntOp.andi x v reducesTo_S8x2048x8x32_S_d0_1_2_3 h_S_) main_v6 main_c_1
  let main_v8 : IVec S_ 1 := andi main_v3 main_v7
  let main_v9 : FVec F S8x2048x256 .f32 := Host.absf main_arg2
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  let main_c_3 : IVec S_ 1 := constantI S_ 1 1#1
  let main_v12 : IVec S_ 1 := (fun x v => Host.reduce IntOp.andi x v reducesTo_S8x2048x256_S_d0_1_2 h_S_) main_v11 main_c_3
  let main_v13 : IVec S_ 1 := andi main_v8 main_v12
  let main_v14 : FVec F S8x2048x32 .f32 := Host.absf main_arg3
  let main_cst_4 : FVec F S_ .f32 := constant S_ .f32 0x7F800000#32
  let main_v15 : FVec F S8x2048x32 .f32 := broadcastInDim S8x2048x32 ![] bcast_S_S8x2048x32 main_cst_4
  let main_v16 : IVec S8x2048x32 1 := cmpf .olt main_v14 main_v15
  fn_part1 (F := F) main_v13 main_v16
-- ==== Kernel.lean ====
abbrev S8x2048x8x256 : Shape := ⟨4, ![8, 2048, 8, 256]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S8x256x64 : Shape := ⟨3, ![8, 256, 64]⟩
abbrev S16384x2048 : Shape := ⟨2, ![16384, 2048]⟩
abbrev S16384x256 : Shape := ⟨2, ![16384, 256]⟩
abbrev S16384x128 : Shape := ⟨2, ![16384, 128]⟩
abbrev S1x128 : Shape := ⟨2, ![1, 128]⟩
abbrev S_ : Shape := ⟨0, ![]⟩
abbrev S16384x384 : Shape := ⟨2, ![16384, 384]⟩
abbrev S1x16384x384 : Shape := ⟨3, ![1, 16384, 384]⟩
abbrev S8x16384x384 : Shape := ⟨3, ![8, 16384, 384]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S8x256x512 : Shape := ⟨3, ![8, 256, 512]⟩
abbrev S1x256x64 : Shape := ⟨3, ![1, 256, 64]⟩
abbrev S256x64 : Shape := ⟨2, ![256, 64]⟩
abbrev S1 : Shape := ⟨1, ![1]⟩
abbrev S2 : Shape := ⟨1, ![2]⟩
abbrev S16384x512 : Shape := ⟨2, ![16384, 512]⟩
abbrev S8x128x384 : Shape := ⟨3, ![8, 128, 384]⟩
abbrev S2048x384 : Shape := ⟨2, ![2048, 384]⟩
abbrev S128x512 : Shape := ⟨2, ![128, 512]⟩
abbrev S1024x128 : Shape := ⟨2, ![1024, 128]⟩
abbrev S1024x256 : Shape := ⟨2, ![1024, 256]⟩
abbrev S1024x512 : Shape := ⟨2, ![1024, 512]⟩
abbrev S1024x384 : Shape := ⟨2, ![1024, 384]⟩
abbrev S128x1 : Shape := ⟨2, ![128, 1]⟩
abbrev S1x512 : Shape := ⟨2, ![1, 512]⟩
abbrev S512x384 : Shape := ⟨2, ![512, 384]⟩
abbrev S128x128 : Shape := ⟨2, ![128, 128]⟩
abbrev S128 : Shape := ⟨1, ![128]⟩
abbrev S512x256 : Shape := ⟨2, ![512, 256]⟩
abbrev S128x256 : Shape := ⟨2, ![128, 256]⟩
abbrev S1x256x512 : Shape := ⟨3, ![1, 256, 512]⟩
abbrev S256x512 : Shape := ⟨2, ![256, 512]⟩

abbrev nBuf : Space → Nat
  | .hbm => 348
  | .vmem => 12
  | .smem => 0
  | _ => 0

abbrev hbmTy0_0 (i : Nat) : BufTy := match i % 128 with
  | 0 => ⟨S8x2048x8x256, .f32⟩
  | 1 => ⟨S8x2048x8x32, .f32⟩
  | 2 => ⟨S8x2048x256, .f32⟩
  | 3 => ⟨S8x2048x32, .f32⟩
  | 4 => ⟨S8x256x64, .f32⟩
  | 5 => ⟨S16384x2048, .f32⟩
  | 6 => ⟨S16384x256, .f32⟩
  | 7 => ⟨S16384x256, .f32⟩
  | 8 => ⟨S16384x256, .bf16⟩
  | 9 => ⟨S16384x128, .f32⟩
  | 10 => ⟨S1x128, .i32⟩
  | 11 => ⟨S_, .i32⟩
  | 12 => ⟨S_, .i32⟩
  | 13 => ⟨S1x128, .i32⟩
  | 14 => ⟨S1x128, .i32⟩
  | 15 => ⟨S1x128, .i32⟩
  | 16 => ⟨S_, .i32⟩
  | 17 => ⟨S1x128, .i32⟩
  | 18 => ⟨S1x128, .i1⟩
  | 19 => ⟨S1x128, .i32⟩
  | 20 => ⟨S1x128, .i32⟩
  | 21 => ⟨S_, .i32⟩
  | 22 => ⟨S1x128, .i32⟩
  | 23 => ⟨S1x128, .i1⟩
  | 24 => ⟨S1x128, .i1⟩
  | 25 => ⟨S_, .i32⟩
  | 26 => ⟨S1x128, .i32⟩
  | 27 => ⟨S1x128, .i32⟩
  | 28 => ⟨S1x128, .i32⟩
  | 29 => ⟨S_, .i32⟩
  | 30 => ⟨S1x128, .i32⟩
  | 31 => ⟨S1x128, .i1⟩
  | 32 => ⟨S_, .f32⟩
  | 33 => ⟨S_, .f32⟩
  | 34 => ⟨S16384x128, .i1⟩
  | 35 => ⟨S16384x128, .f32⟩
  | 36 => ⟨S16384x128, .f32⟩
  | 37 => ⟨S16384x128, .bf16⟩
  | 38 => ⟨S16384x384, .bf16⟩
  | 39 => ⟨S16384x256, .f32⟩
  | 40 => ⟨S16384x256, .bf16⟩
  | 41 => ⟨S16384x128, .f32⟩
  | 42 => ⟨S1x128, .i32⟩
  | 43 => ⟨S_, .i32⟩
  | 44 => ⟨S_, .i32⟩
  | 45 => ⟨S1x128, .i32⟩
  | 46 => ⟨S1x128, .i32⟩
  | 47 => ⟨S1x128, .i32⟩
  | 48 => ⟨S_, .i32⟩
  | 49 => ⟨S1x128, .i32⟩
  | 50 => ⟨S1x128, .i1⟩
  | 51 => ⟨S1x128, .i32⟩
  | 52 => ⟨S1x128, .i32⟩
  | 53 => ⟨S_, .i32⟩
  | 54 => ⟨S1x128, .i32⟩
  | 55 => ⟨S1x128, .i1⟩
  | 56 => ⟨S1x128, .i1⟩
  | 57 => ⟨S_, .i32⟩
  | 58 => ⟨S1x128, .i32⟩
  | 59 => ⟨S1x128, .i32⟩
  | 60 => ⟨S1x128, .i32⟩
  | 61 => ⟨S_, .i32⟩
  | 62 => ⟨S1x128, .i32⟩
  | 63 => ⟨S1x128, .i1⟩
  | 64 => ⟨S_, .f32⟩
  | 65 => ⟨S_, .f32⟩
  | 66 => ⟨S16384x128, .i1⟩
  | 67 => ⟨S16384x128, .f32⟩
  | 68 => ⟨S16384x128, .f32⟩
  | 69 => ⟨S16384x128, .bf16⟩
  | 70 => ⟨S16384x384, .bf16⟩
  | 71 => ⟨S16384x256, .f32⟩
  | 72 => ⟨S16384x256, .bf16⟩
  | 73 => ⟨S16384x128, .f32⟩
  | 74 => ⟨S1x128, .i32⟩
  | 75 => ⟨S_, .i32⟩
  | 76 => ⟨S_, .i32⟩
  | 77 => ⟨S1x128, .i32⟩
  | 78 => ⟨S1x128, .i32⟩
  | 79 => ⟨S1x128, .i32⟩
  | 80 => ⟨S_, .i32⟩
  | 81 => ⟨S1x128, .i32⟩
  | 82 => ⟨S1x128, .i1⟩
  | 83 => ⟨S1x128, .i32⟩
  | 84 => ⟨S1x128, .i32⟩
  | 85 => ⟨S_, .i32⟩
  | 86 => ⟨S1x128, .i32⟩
  | 87 => ⟨S1x128, .i1⟩
  | 88 => ⟨S1x128, .i1⟩
  | 89 => ⟨S_, .i32⟩
  | 90 => ⟨S1x128, .i32⟩
  | 91 => ⟨S1x128, .i32⟩
  | 92 => ⟨S1x128, .i32⟩
  | 93 => ⟨S_, .i32⟩
  | 94 => ⟨S1x128, .i32⟩
  | 95 => ⟨S1x128, .i1⟩
  | 96 => ⟨S_, .f32⟩
  | 97 => ⟨S_, .f32⟩
  | 98 => ⟨S16384x128, .i1⟩
  | 99 => ⟨S16384x128, .f32⟩
  | 100 => ⟨S16384x128, .f32⟩
  | 101 => ⟨S16384x128, .bf16⟩
  | 102 => ⟨S16384x384, .bf16⟩
  | 103 => ⟨S16384x256, .f32⟩
  | 104 => ⟨S16384x256, .bf16⟩
  | 105 => ⟨S16384x128, .f32⟩
  | 106 => ⟨S1x128, .i32⟩
  | 107 => ⟨S_, .i32⟩
  | 108 => ⟨S_, .i32⟩
  | 109 => ⟨S1x128, .i32⟩
  | 110 => ⟨S1x128, .i32⟩
  | 111 => ⟨S1x128, .i32⟩
  | 112 => ⟨S_, .i32⟩
  | 113 => ⟨S1x128, .i32⟩
  | 114 => ⟨S1x128, .i1⟩
  | 115 => ⟨S1x128, .i32⟩
  | 116 => ⟨S1x128, .i32⟩
  | 117 => ⟨S_, .i32⟩
  | 118 => ⟨S1x128, .i32⟩
  | 119 => ⟨S1x128, .i1⟩
  | 120 => ⟨S1x128, .i1⟩
  | 121 => ⟨S_, .i32⟩
  | 122 => ⟨S1x128, .i32⟩
  | 123 => ⟨S1x128, .i32⟩
  | 124 => ⟨S1x128, .i32⟩
  | 125 => ⟨S_, .i32⟩
  | 126 => ⟨S1x128, .i32⟩
  | 127 => ⟨S1x128, .i1⟩
  | _ => ⟨S8x2048x8x256, .f32⟩

abbrev hbmTy0_1 (i : Nat) : BufTy := match i % 128 with
  | 0 => ⟨S_, .f32⟩
  | 1 => ⟨S_, .f32⟩
  | 2 => ⟨S16384x128, .i1⟩
  | 3 => ⟨S16384x128, .f32⟩
  | 4 => ⟨S16384x128, .f32⟩
  | 5 => ⟨S16384x128, .bf16⟩
  | 6 => ⟨S16384x384, .bf16⟩
  | 7 => ⟨S16384x256, .f32⟩
  | 8 => ⟨S16384x256, .bf16⟩
  | 9 => ⟨S16384x128, .f32⟩
  | 10 => ⟨S1x128, .i32⟩
  | 11 => ⟨S_, .i32⟩
  | 12 => ⟨S_, .i32⟩
  | 13 => ⟨S1x128, .i32⟩
  | 14 => ⟨S1x128, .i32⟩
  | 15 => ⟨S1x128, .i32⟩
  | 16 => ⟨S_, .i32⟩
  | 17 => ⟨S1x128, .i32⟩
  | 18 => ⟨S1x128, .i1⟩
  | 19 => ⟨S1x128, .i32⟩
  | 20 => ⟨S1x128, .i32⟩
  | 21 => ⟨S_, .i32⟩
  | 22 => ⟨S1x128, .i32⟩
  | 23 => ⟨S1x128, .i1⟩
  | 24 => ⟨S1x128, .i1⟩
  | 25 => ⟨S_, .i32⟩
  | 26 => ⟨S1x128, .i32⟩
  | 27 => ⟨S1x128, .i32⟩
  | 28 => ⟨S1x128, .i32⟩
  | 29 => ⟨S_, .i32⟩
  | 30 => ⟨S1x128, .i32⟩
  | 31 => ⟨S1x128, .i1⟩
  | 32 => ⟨S_, .f32⟩
  | 33 => ⟨S_, .f32⟩
  | 34 => ⟨S16384x128, .i1⟩
  | 35 => ⟨S16384x128, .f32⟩
  | 36 => ⟨S16384x128, .f32⟩
  | 37 => ⟨S16384x128, .bf16⟩
  | 38 => ⟨S16384x384, .bf16⟩
  | 39 => ⟨S16384x256, .f32⟩
  | 40 => ⟨S16384x256, .bf16⟩
  | 41 => ⟨S16384x128, .f32⟩
  | 42 => ⟨S1x128, .i32⟩
  | 43 => ⟨S_, .i32⟩
  | 44 => ⟨S_, .i32⟩
  | 45 => ⟨S1x128, .i32⟩
  | 46 => ⟨S1x128, .i32⟩
  | 47 => ⟨S1x128, .i32⟩
  | 48 => ⟨S_, .i32⟩
  | 49 => ⟨S1x128, .i32⟩
  | 50 => ⟨S1x128, .i1⟩
  | 51 => ⟨S1x128, .i32⟩
  | 52 => ⟨S1x128, .i32⟩
  | 53 => ⟨S_, .i32⟩
  | 54 => ⟨S1x128, .i32⟩
  | 55 => ⟨S1x128, .i1⟩
  | 56 => ⟨S1x128, .i1⟩
  | 57 => ⟨S_, .i32⟩
  | 58 => ⟨S1x128, .i32⟩
  | 59 => ⟨S1x128, .i32⟩
  | 60 => ⟨S1x128, .i32⟩
  | 61 => ⟨S_, .i32⟩
  | 62 => ⟨S1x128, .i32⟩
  | 63 => ⟨S1x128, .i1⟩
  | 64 => ⟨S_, .f32⟩
  | 65 => ⟨S_, .f32⟩
  | 66 => ⟨S16384x128, .i1⟩
  | 67 => ⟨S16384x128, .f32⟩
  | 68 => ⟨S16384x128, .f32⟩
  | 69 => ⟨S16384x128, .bf16⟩
  | 70 => ⟨S16384x384, .bf16⟩
  | 71 => ⟨S16384x256, .f32⟩
  | 72 => ⟨S16384x256, .bf16⟩
  | 73 => ⟨S16384x128, .f32⟩
  | 74 => ⟨S1x128, .i32⟩
  | 75 => ⟨S_, .i32⟩
  | 76 => ⟨S_, .i32⟩
  | 77 => ⟨S1x128, .i32⟩
  | 78 => ⟨S1x128, .i32⟩
  | 79 => ⟨S1x128, .i32⟩
  | 80 => ⟨S_, .i32⟩
  | 81 => ⟨S1x128, .i32⟩
  | 82 => ⟨S1x128, .i1⟩
  | 83 => ⟨S1x128, .i32⟩
  | 84 => ⟨S1x128, .i32⟩
  | 85 => ⟨S_, .i32⟩
  | 86 => ⟨S1x128, .i32⟩
  | 87 => ⟨S1x128, .i1⟩
  | 88 => ⟨S1x128, .i1⟩
  | 89 => ⟨S_, .i32⟩
  | 90 => ⟨S1x128, .i32⟩
  | 91 => ⟨S1x128, .i32⟩
  | 92 => ⟨S1x128, .i32⟩
  | 93 => ⟨S_, .i32⟩
  | 94 => ⟨S1x128, .i32⟩
  | 95 => ⟨S1x128, .i1⟩
  | 96 => ⟨S_, .f32⟩
  | 97 => ⟨S_, .f32⟩
  | 98 => ⟨S16384x128, .i1⟩
  | 99 => ⟨S16384x128, .f32⟩
  | 100 => ⟨S16384x128, .f32⟩
  | 101 => ⟨S16384x128, .bf16⟩
  | 102 => ⟨S16384x384, .bf16⟩
  | 103 => ⟨S16384x256, .f32⟩
  | 104 => ⟨S16384x256, .bf16⟩
  | 105 => ⟨S16384x128, .f32⟩
  | 106 => ⟨S1x128, .i32⟩
  | 107 => ⟨S_, .i32⟩
  | 108 => ⟨S_, .i32⟩
  | 109 => ⟨S1x128, .i32⟩
  | 110 => ⟨S1x128, .i32⟩
  | 111 => ⟨S1x128, .i32⟩
  | 112 => ⟨S_, .i32⟩
  | 113 => ⟨S1x128, .i32⟩
  | 114 => ⟨S1x128, .i1⟩
  | 115 => ⟨S1x128, .i32⟩
  | 116 => ⟨S1x128, .i32⟩
  | 117 => ⟨S_, .i32⟩
  | 118 => ⟨S1x128, .i32⟩
  | 119 => ⟨S1x128, .i1⟩
  | 120 => ⟨S1x128, .i1⟩
  | 121 => ⟨S_, .i32⟩
  | 122 => ⟨S1x128, .i32⟩
  | 123 => ⟨S1x128, .i32⟩
  | 124 => ⟨S1x128, .i32⟩
  | 125 => ⟨S_, .i32⟩
  | 126 => ⟨S1x128, .i32⟩
  | 127 => ⟨S1x128, .i1⟩
  | _ => ⟨S8x2048x8x256, .f32⟩

abbrev hbmTy0_2 (i : Nat) : BufTy := match i % 128 with
  | 0 => ⟨S_, .f32⟩
  | 1 => ⟨S_, .f32⟩
  | 2 => ⟨S16384x128, .i1⟩
  | 3 => ⟨S16384x128, .f32⟩
  | 4 => ⟨S16384x128, .f32⟩
  | 5 => ⟨S16384x128, .bf16⟩
  | 6 => ⟨S16384x384, .bf16⟩
  | 7 => ⟨S1x16384x384, .bf16⟩
  | 8 => ⟨S1x16384x384, .bf16⟩
  | 9 => ⟨S1x16384x384, .bf16⟩
  | 10 => ⟨S1x16384x384, .bf16⟩
  | 11 => ⟨S1x16384x384, .bf16⟩
  | 12 => ⟨S1x16384x384, .bf16⟩
  | 13 => ⟨S1x16384x384, .bf16⟩
  | 14 => ⟨S1x16384x384, .bf16⟩
  | 15 => ⟨S8x16384x384, .bf16⟩
  | 16 => ⟨S16384x256, .f32⟩
  | 17 => ⟨S16384x256, .bf16⟩
  | 18 => ⟨S16384x32, .f32⟩
  | 19 => ⟨S1x16384x1x32, .f32⟩
  | 20 => ⟨S1x16384x4x32, .f32⟩
  | 21 => ⟨S16384x128, .f32⟩
  | 22 => ⟨S16384x128, .bf16⟩
  | 23 => ⟨S16384x384, .bf16⟩
  | 24 => ⟨S_, .f32⟩
  | 25 => ⟨S8x256x512, .f32⟩
  | 26 => ⟨S1x256x64, .f32⟩
  | 27 => ⟨S256x64, .f32⟩
  | 28 => ⟨S_, .i32⟩
  | 29 => ⟨S1, .i32⟩
  | 30 => ⟨S_, .i32⟩
  | 31 => ⟨S1, .i32⟩
  | 32 => ⟨S2, .i32⟩
  | 33 => ⟨S8x256x512, .f32⟩
  | 34 => ⟨S1x256x64, .f32⟩
  | 35 => ⟨S256x64, .f32⟩
  | 36 => ⟨S_, .i32⟩
  | 37 => ⟨S1, .i32⟩
  | 38 => ⟨S_, .i32⟩
  | 39 => ⟨S1, .i32⟩
  | 40 => ⟨S2, .i32⟩
  | 41 => ⟨S8x256x512, .f32⟩
  | 42 => ⟨S1x256x64, .f32⟩
  | 43 => ⟨S256x64, .f32⟩
  | 44 => ⟨S_, .i32⟩
  | 45 => ⟨S1, .i32⟩
  | 46 => ⟨S_, .i32⟩
  | 47 => ⟨S1, .i32⟩
  | 48 => ⟨S2, .i32⟩
  | 49 => ⟨S8x256x512, .f32⟩
  | 50 => ⟨S1x256x64, .f32⟩
  | 51 => ⟨S256x64, .f32⟩
  | 52 => ⟨S_, .i32⟩
  | 53 => ⟨S1, .i32⟩
  | 54 => ⟨S_, .i32⟩
  | 55 => ⟨S1, .i32⟩
  | 56 => ⟨S2, .i32⟩
  | 57 => ⟨S8x256x512, .f32⟩
  | 58 => ⟨S1x256x64, .f32⟩
  | 59 => ⟨S256x64, .f32⟩
  | 60 => ⟨S_, .i32⟩
  | 61 => ⟨S1, .i32⟩
  | 62 => ⟨S_, .i32⟩
  | 63 => ⟨S1, .i32⟩
  | 64 => ⟨S2, .i32⟩
  | 65 => ⟨S8x256x512, .f32⟩
  | 66 => ⟨S1x256x64, .f32⟩
  | 67 => ⟨S256x64, .f32⟩
  | 68 => ⟨S_, .i32⟩
  | 69 => ⟨S1, .i32⟩
  | 70 => ⟨S_, .i32⟩
  | 71 => ⟨S1, .i32⟩
  | 72 => ⟨S2, .i32⟩
  | 73 => ⟨S8x256x512, .f32⟩
  | 74 => ⟨S1x256x64, .f32⟩
  | 75 => ⟨S256x64, .f32⟩
  | 76 => ⟨S_, .i32⟩
  | 77 => ⟨S1, .i32⟩
  | 78 => ⟨S_, .i32⟩
  | 79 => ⟨S1, .i32⟩
  | 80 => ⟨S2, .i32⟩
  | 81 => ⟨S8x256x512, .f32⟩
  | 82 => ⟨S1x256x64, .f32⟩
  | 83 => ⟨S256x64, .f32⟩
  | 84 => ⟨S_, .i32⟩
  | 85 => ⟨S1, .i32⟩
  | 86 => ⟨S_, .i32⟩
  | 87 => ⟨S1, .i32⟩
  | 88 => ⟨S2, .i32⟩
  | 89 => ⟨S8x256x512, .f32⟩
  | 90 => ⟨S8x256x512, .bf16⟩
  | 91 => ⟨S16384x512, .bf16⟩
  | _ => ⟨S8x2048x8x256, .f32⟩

abbrev hbmTy (i : Nat) : BufTy := match i / 128 with
  | 0 => hbmTy0_0 i
  | 1 => hbmTy0_1 i
  | 2 => hbmTy0_2 i
  | _ => ⟨S8x2048x8x256, .f32⟩

abbrev bufTy : (tb : Table) → Fin (tcTables nBuf tb) → BufTy
  | .hbm, ⟨i, _⟩ => hbmTy i
  | .local _ .vmem, ⟨0, _⟩ => ⟨S8x128x384, .bf16⟩
  | .local _ .vmem, ⟨1, _⟩ => ⟨S8x128x384, .bf16⟩
  | .local _ .vmem, ⟨2, _⟩ => ⟨S2048x384, .bf16⟩
  | .local _ .vmem, ⟨3, _⟩ => ⟨S2048x384, .bf16⟩
  | .local _ .vmem, ⟨4, _⟩ => ⟨S8x256x512, .bf16⟩
  | .local _ .vmem, ⟨5, _⟩ => ⟨S128x512, .bf16⟩
  | .local _ .vmem, ⟨6, _⟩ => ⟨S128x512, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x256, .f32⟩
  | .local _ .vmem, ⟨11, _⟩ => ⟨S1024x512, .bf16⟩
  | _, _ => ⟨S8x2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_1 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_c : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_0 : Ref sig .tc := ⟨.hbm, 57, rfl⟩
abbrev main_call2_v12 : Ref sig .tc := ⟨.hbm, 58, rfl⟩
abbrev main_call2_v13 : Ref sig .tc := ⟨.hbm, 59, rfl⟩
abbrev main_v16 : Ref sig .tc := ⟨.hbm, 60, rfl⟩
abbrev main_c_2 : Ref sig .tc := ⟨.hbm, 61, rfl⟩
abbrev main_v17 : Ref sig .tc := ⟨.hbm, 62, rfl⟩
abbrev main_v18 : Ref sig .tc := ⟨.hbm, 63, rfl⟩
abbrev main_cst_3 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_c_4 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_c : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_0 : Ref sig .tc := ⟨.hbm, 89, rfl⟩
abbrev main_call4_v12 : Ref sig .tc := ⟨.hbm, 90, rfl⟩
abbrev main_call4_v13 : Ref sig .tc := ⟨.hbm, 91, rfl⟩
abbrev main_v26 : Ref sig .tc := ⟨.hbm, 92, rfl⟩
abbrev main_c_5 : Ref sig .tc := ⟨.hbm, 93, rfl⟩
abbrev main_v27 : Ref sig .tc := ⟨.hbm, 94, rfl⟩
abbrev main_v28 : Ref sig .tc := ⟨.hbm, 95, rfl⟩
abbrev main_cst_6 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_c_7 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_call6_v5 : Ref sig .tc := ⟨.hbm, 113, rfl⟩
abbrev main_call6_v6 : Ref sig .tc := ⟨.hbm, 114, rfl⟩
abbrev main_call6_v7 : Ref sig .tc := ⟨.hbm, 115, rfl⟩
abbrev main_call6_v8 : Ref sig .tc := ⟨.hbm, 116, rfl⟩
abbrev main_call6_c : Ref sig .tc := ⟨.hbm, 117, rfl⟩
abbrev main_call6_v9 : Ref sig .tc := ⟨.hbm, 118, rfl⟩
abbrev main_call6_v10 : Ref sig .tc := ⟨.hbm, 119, rfl⟩
abbrev main_call6_v11 : Ref sig .tc := ⟨.hbm, 120, rfl⟩
abbrev main_call6_c_0 : Ref sig .tc := ⟨.hbm, 121, rfl⟩
abbrev main_call6_v12 : Ref sig .tc := ⟨.hbm, 122, rfl⟩
abbrev main_call6_v13 : Ref sig .tc := ⟨.hbm, 123, rfl⟩
abbrev main_v36 : Ref sig .tc := ⟨.hbm, 124, rfl⟩
abbrev main_c_8 : Ref sig .tc := ⟨.hbm, 125, rfl⟩
abbrev main_v37 : Ref sig .tc := ⟨.hbm, 126, rfl⟩
abbrev main_v38 : Ref sig .tc := ⟨.hbm, 127, rfl⟩
abbrev main_cst_9 : Ref sig .tc := ⟨.hbm, 128, rfl⟩
abbrev main_call7_v0 : Ref sig .tc := ⟨.hbm, 129, rfl⟩
abbrev main_call7_v1 : Ref sig .tc := ⟨.hbm, 130, rfl⟩
abbrev main_call7_v2 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_c_10 : Ref sig .tc := ⟨.hbm, 139, rfl⟩
abbrev main_call8_v0 : Ref sig .tc := ⟨.hbm, 140, rfl⟩
abbrev main_call8_v1 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_call8_v5 : Ref sig .tc := ⟨.hbm, 145, rfl⟩
abbrev main_call8_v6 : Ref sig .tc := ⟨.hbm, 146, rfl⟩
abbrev main_call8_v7 : Ref sig .tc := ⟨.hbm, 147, rfl⟩
abbrev main_call8_v8 : Ref sig .tc := ⟨.hbm, 148, rfl⟩
abbrev main_call8_c : Ref sig .tc := ⟨.hbm, 149, rfl⟩
abbrev main_call8_v9 : Ref sig .tc := ⟨.hbm, 150, rfl⟩
abbrev main_call8_v10 : Ref sig .tc := ⟨.hbm, 151, rfl⟩
abbrev main_call8_v11 : Ref sig .tc := ⟨.hbm, 152, rfl⟩
abbrev main_call8_c_0 : Ref sig .tc := ⟨.hbm, 153, rfl⟩
abbrev main_call8_v12 : Ref sig .tc := ⟨.hbm, 154, rfl⟩
abbrev main_call8_v13 : Ref sig .tc := ⟨.hbm, 155, rfl⟩
abbrev main_v46 : Ref sig .tc := ⟨.hbm, 156, rfl⟩
abbrev main_c_11 : Ref sig .tc := ⟨.hbm, 157, rfl⟩
abbrev main_v47 : Ref sig .tc := ⟨.hbm, 158, rfl⟩
abbrev main_v48 : Ref sig .tc := ⟨.hbm, 159, rfl⟩
abbrev main_cst_12 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_c_13 : Ref sig .tc := ⟨.hbm, 171, rfl⟩
abbrev main_call10_v0 : Ref sig .tc := ⟨.hbm, 172, rfl⟩
abbrev main_call10_v1 : Ref sig .tc := ⟨.hbm, 173, rfl⟩
abbrev main_call10_v2 : Ref sig .tc := ⟨.hbm, 174, rfl⟩
abbrev main_call10_v3 : Ref sig .tc := ⟨.hbm, 175, rfl⟩
abbrev main_call10_v4 : Ref sig .tc := ⟨.hbm, 176, rfl⟩
abbrev main_call10_v5 : Ref sig .tc := ⟨.hbm, 177, rfl⟩
abbrev main_call10_v6 : Ref sig .tc := ⟨.hbm, 178, rfl⟩
abbrev main_call10_v7 : Ref sig .tc := ⟨.hbm, 179, rfl⟩
abbrev main_call10_v8 : Ref sig .tc := ⟨.hbm, 180, rfl⟩
abbrev main_call10_c : Ref sig .tc := ⟨.hbm, 181, rfl⟩
abbrev main_call10_v9 : Ref sig .tc := ⟨.hbm, 182, rfl⟩
abbrev main_call10_v10 : Ref sig .tc := ⟨.hbm, 183, rfl⟩
abbrev main_call10_v11 : Ref sig .tc := ⟨.hbm, 184, rfl⟩
abbrev main_call10_c_0 : Ref sig .tc := ⟨.hbm, 185, rfl⟩
abbrev main_call10_v12 : Ref sig .tc := ⟨.hbm, 186, rfl⟩
abbrev main_call10_v13 : Ref sig .tc := ⟨.hbm, 187, rfl⟩
abbrev main_v56 : Ref sig .tc := ⟨.hbm, 188, rfl⟩
abbrev main_c_14 : Ref sig .tc := ⟨.hbm, 189, rfl⟩
abbrev main_v57 : Ref sig .tc := ⟨.hbm, 190, rfl⟩
abbrev main_v58 : Ref sig .tc := ⟨.hbm, 191, rfl⟩
abbrev main_cst_15 : Ref sig .tc := ⟨.hbm, 192, rfl⟩
abbrev main_call11_v0 : Ref sig .tc := ⟨.hbm, 193, rfl⟩
abbrev main_call11_v1 : Ref sig .tc := ⟨.hbm, 194, rfl⟩
abbrev main_call11_v2 : Ref sig .tc := ⟨.hbm, 195, rfl⟩
abbrev main_v59 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩
abbrev main_v64 : Ref sig .tc := ⟨.hbm, 201, rfl⟩
abbrev main_v65 : Ref sig .tc := ⟨.hbm, 202, rfl⟩
abbrev main_c_16 : Ref sig .tc := ⟨.hbm, 203, rfl⟩
abbrev main_call12_v0 : Ref sig .tc := ⟨.hbm, 204, rfl⟩
abbrev main_call12_v1 : Ref sig .tc := ⟨.hbm, 205, rfl⟩
abbrev main_call12_v2 : Ref sig .tc := ⟨.hbm, 206, rfl⟩
abbrev main_call12_v3 : Ref sig .tc := ⟨.hbm, 207, rfl⟩
abbrev main_call12_v4 : Ref sig .tc := ⟨.hbm, 208, rfl⟩
abbrev main_call12_v5 : Ref sig .tc := ⟨.hbm, 209, rfl⟩
abbrev main_call12_v6 : Ref sig .tc := ⟨.hbm, 210, rfl⟩
abbrev main_call12_v7 : Ref sig .tc := ⟨.hbm, 211, rfl⟩
abbrev main_call12_v8 : Ref sig .tc := ⟨.hbm, 212, rfl⟩
abbrev main_call12_c : Ref sig .tc := ⟨.hbm, 213, rfl⟩
abbrev main_call12_v9 : Ref sig .tc := ⟨.hbm, 214, rfl⟩
abbrev main_call12_v10 : Ref sig .tc := ⟨.hbm, 215, rfl⟩
abbrev main_call12_v11 : Ref sig .tc := ⟨.hbm, 216, rfl⟩
abbrev main_call12_c_0 : Ref sig .tc := ⟨.hbm, 217, rfl⟩
abbrev main_call12_v12 : Ref sig .tc := ⟨.hbm, 218, rfl⟩
abbrev main_call12_v13 : Ref sig .tc := ⟨.hbm, 219, rfl⟩
abbrev main_v66 : Ref sig .tc := ⟨.hbm, 220, rfl⟩
abbrev main_c_17 : Ref sig .tc := ⟨.hbm, 221, rfl⟩
abbrev main_v67 : Ref sig .tc := ⟨.hbm, 222, rfl⟩
abbrev main_v68 : Ref sig .tc := ⟨.hbm, 223, rfl⟩
abbrev main_cst_18 : Ref sig .tc := ⟨.hbm, 224, rfl⟩
abbrev main_call13_v0 : Ref sig .tc := ⟨.hbm, 225, rfl⟩
abbrev main_call13_v1 : Ref sig .tc := ⟨.hbm, 226, rfl⟩
abbrev main_call13_v2 : Ref sig .tc := ⟨.hbm, 227, rfl⟩
abbrev main_v69 : Ref sig .tc := ⟨.hbm, 228, rfl⟩
abbrev main_v70 : Ref sig .tc := ⟨.hbm, 229, rfl⟩
abbrev main_v71 : Ref sig .tc := ⟨.hbm, 230, rfl⟩
abbrev main_v72 : Ref sig .tc := ⟨.hbm, 231, rfl⟩
abbrev main_v73 : Ref sig .tc := ⟨.hbm, 232, rfl⟩
abbrev main_v74 : Ref sig .tc := ⟨.hbm, 233, rfl⟩
abbrev main_v75 : Ref sig .tc := ⟨.hbm, 234, rfl⟩
abbrev main_c_19 : Ref sig .tc := ⟨.hbm, 235, rfl⟩
abbrev main_call14_v0 : Ref sig .tc := ⟨.hbm, 236, rfl⟩
abbrev main_call14_v1 : Ref sig .tc := ⟨.hbm, 237, rfl⟩
abbrev main_call14_v2 : Ref sig .tc := ⟨.hbm, 238, rfl⟩
abbrev main_call14_v3 : Ref sig .tc := ⟨.hbm, 239, rfl⟩
abbrev main_call14_v4 : Ref sig .tc := ⟨.hbm, 240, rfl⟩
abbrev main_call14_v5 : Ref sig .tc := ⟨.hbm, 241, rfl⟩
abbrev main_call14_v6 : Ref sig .tc := ⟨.hbm, 242, rfl⟩
abbrev main_call14_v7 : Ref sig .tc := ⟨.hbm, 243, rfl⟩
abbrev main_call14_v8 : Ref sig .tc := ⟨.hbm, 244, rfl⟩
abbrev main_call14_c : Ref sig .tc := ⟨.hbm, 245, rfl⟩
abbrev main_call14_v9 : Ref sig .tc := ⟨.hbm, 246, rfl⟩
abbrev main_call14_v10 : Ref sig .tc := ⟨.hbm, 247, rfl⟩
abbrev main_call14_v11 : Ref sig .tc := ⟨.hbm, 248, rfl⟩
abbrev main_call14_c_0 : Ref sig .tc := ⟨.hbm, 249, rfl⟩
abbrev main_call14_v12 : Ref sig .tc := ⟨.hbm, 250, rfl⟩
abbrev main_call14_v13 : Ref sig .tc := ⟨.hbm, 251, rfl⟩
abbrev main_v76 : Ref sig .tc := ⟨.hbm, 252, rfl⟩
abbrev main_c_20 : Ref sig .tc := ⟨.hbm, 253, rfl⟩
abbrev main_v77 : Ref sig .tc := ⟨.hbm, 254, rfl⟩
abbrev main_v78 : Ref sig .tc := ⟨.hbm, 255, rfl⟩
abbrev main_cst_21 : Ref sig .tc := ⟨.hbm, 256, rfl⟩
abbrev main_call15_v0 : Ref sig .tc := ⟨.hbm, 257, rfl⟩
abbrev main_call15_v1 : Ref sig .tc := ⟨.hbm, 258, rfl⟩
abbrev main_call15_v2 : Ref sig .tc := ⟨.hbm, 259, rfl⟩
abbrev main_v79 : Ref sig .tc := ⟨.hbm, 260, rfl⟩
abbrev main_v80 : Ref sig .tc := ⟨.hbm, 261, rfl⟩
abbrev main_v81 : Ref sig .tc := ⟨.hbm, 262, rfl⟩
abbrev main_v82 : Ref sig .tc := ⟨.hbm, 263, rfl⟩
abbrev main_v83 : Ref sig .tc := ⟨.hbm, 264, rfl⟩
abbrev main_v84 : Ref sig .tc := ⟨.hbm, 265, rfl⟩
abbrev main_v85 : Ref sig .tc := ⟨.hbm, 266, rfl⟩
abbrev main_v86 : Ref sig .tc := ⟨.hbm, 267, rfl⟩
abbrev main_v87 : Ref sig .tc := ⟨.hbm, 268, rfl⟩
abbrev main_v88 : Ref sig .tc := ⟨.hbm, 269, rfl⟩
abbrev main_v89 : Ref sig .tc := ⟨.hbm, 270, rfl⟩
abbrev main_v90 : Ref sig .tc := ⟨.hbm, 271, rfl⟩
abbrev main_v91 : Ref sig .tc := ⟨.hbm, 272, rfl⟩
abbrev main_v92 : Ref sig .tc := ⟨.hbm, 273, rfl⟩
abbrev main_v93 : Ref sig .tc := ⟨.hbm, 274, rfl⟩
abbrev main_v94 : Ref sig .tc := ⟨.hbm, 275, rfl⟩
abbrev main_v95 : Ref sig .tc := ⟨.hbm, 276, rfl⟩
abbrev main_v96 : Ref sig .tc := ⟨.hbm, 277, rfl⟩
abbrev main_v97 : Ref sig .tc := ⟨.hbm, 278, rfl⟩
abbrev main_v98 : Ref sig .tc := ⟨.hbm, 279, rfl⟩
abbrev main_cst_22 : Ref sig .tc := ⟨.hbm, 280, rfl⟩
abbrev main_v99 : Ref sig .tc := ⟨.hbm, 281, rfl⟩
abbrev main_v100 : Ref sig .tc := ⟨.hbm, 282, rfl⟩
abbrev main_v101 : Ref sig .tc := ⟨.hbm, 283, rfl⟩
abbrev main_c_23 : Ref sig .tc := ⟨.hbm, 284, rfl⟩
abbrev main_v102 : Ref sig .tc := ⟨.hbm, 285, rfl⟩
abbrev main_c_24 : Ref sig .tc := ⟨.hbm, 286, rfl⟩
abbrev main_v103 : Ref sig .tc := ⟨.hbm, 287, rfl⟩
abbrev main_v104 : Ref sig .tc := ⟨.hbm, 288, rfl⟩
abbrev main_v105 : Ref sig .tc := ⟨.hbm, 289, rfl⟩
abbrev main_v106 : Ref sig .tc := ⟨.hbm, 290, rfl⟩
abbrev main_v107 : Ref sig .tc := ⟨.hbm, 291, rfl⟩
abbrev main_c_25 : Ref sig .tc := ⟨.hbm, 292, rfl⟩
abbrev main_v108 : Ref sig .tc := ⟨.hbm, 293, rfl⟩
abbrev main_c_26 : Ref sig .tc := ⟨.hbm, 294, rfl⟩
abbrev main_v109 : Ref sig .tc := ⟨.hbm, 295, rfl⟩
abbrev main_v110 : Ref sig .tc := ⟨.hbm, 296, rfl⟩
abbrev main_v111 : Ref sig .tc := ⟨.hbm, 297, rfl⟩
abbrev main_v112 : Ref sig .tc := ⟨.hbm, 298, rfl⟩
abbrev main_v113 : Ref sig .tc := ⟨.hbm, 299, rfl⟩
abbrev main_c_27 : Ref sig .tc := ⟨.hbm, 300, rfl⟩
abbrev main_v114 : Ref sig .tc := ⟨.hbm, 301, rfl⟩
abbrev main_c_28 : Ref sig .tc := ⟨.hbm, 302, rfl⟩
abbrev main_v115 : Ref sig .tc := ⟨.hbm, 303, rfl⟩
abbrev main_v116 : Ref sig .tc := ⟨.hbm, 304, rfl⟩
abbrev main_v117 : Ref sig .tc := ⟨.hbm, 305, rfl⟩
abbrev main_v118 : Ref sig .tc := ⟨.hbm, 306, rfl⟩
abbrev main_v119 : Ref sig .tc := ⟨.hbm, 307, rfl⟩
abbrev main_c_29 : Ref sig .tc := ⟨.hbm, 308, rfl⟩
abbrev main_v120 : Ref sig .tc := ⟨.hbm, 309, rfl⟩
abbrev main_c_30 : Ref sig .tc := ⟨.hbm, 310, rfl⟩
abbrev main_v121 : Ref sig .tc := ⟨.hbm, 311, rfl⟩
abbrev main_v122 : Ref sig .tc := ⟨.hbm, 312, rfl⟩
abbrev main_v123 : Ref sig .tc := ⟨.hbm, 313, rfl⟩
abbrev main_v124 : Ref sig .tc := ⟨.hbm, 314, rfl⟩
abbrev main_v125 : Ref sig .tc := ⟨.hbm, 315, rfl⟩
abbrev main_c_31 : Ref sig .tc := ⟨.hbm, 316, rfl⟩
abbrev main_v126 : Ref sig .tc := ⟨.hbm, 317, rfl⟩
abbrev main_c_32 : Ref sig .tc := ⟨.hbm, 318, rfl⟩
abbrev main_v127 : Ref sig .tc := ⟨.hbm, 319, rfl⟩
abbrev main_v128 : Ref sig .tc := ⟨.hbm, 320, rfl⟩
abbrev main_v129 : Ref sig .tc := ⟨.hbm, 321, rfl⟩
abbrev main_v130 : Ref sig .tc := ⟨.hbm, 322, rfl⟩
abbrev main_v131 : Ref sig .tc := ⟨.hbm, 323, rfl⟩
abbrev main_c_33 : Ref sig .tc := ⟨.hbm, 324, rfl⟩
abbrev main_v132 : Ref sig .tc := ⟨.hbm, 325, rfl⟩
abbrev main_c_34 : Ref sig .tc := ⟨.hbm, 326, rfl⟩
abbrev main_v133 : Ref sig .tc := ⟨.hbm, 327, rfl⟩
abbrev main_v134 : Ref sig .tc := ⟨.hbm, 328, rfl⟩
abbrev main_v135 : Ref sig .tc := ⟨.hbm, 329, rfl⟩
abbrev main_v136 : Ref sig .tc := ⟨.hbm, 330, rfl⟩
abbrev main_v137 : Ref sig .tc := ⟨.hbm, 331, rfl⟩
abbrev main_c_35 : Ref sig .tc := ⟨.hbm, 332, rfl⟩
abbrev main_v138 : Ref sig .tc := ⟨.hbm, 333, rfl⟩
abbrev main_c_36 : Ref sig .tc := ⟨.hbm, 334, rfl⟩
abbrev main_v139 : Ref sig .tc := ⟨.hbm, 335, rfl⟩
abbrev main_v140 : Ref sig .tc := ⟨.hbm, 336, rfl⟩
abbrev main_v141 : Ref sig .tc := ⟨.hbm, 337, rfl⟩
abbrev main_v142 : Ref sig .tc := ⟨.hbm, 338, rfl⟩
abbrev main_v143 : Ref sig .tc := ⟨.hbm, 339, rfl⟩
abbrev main_c_37 : Ref sig .tc := ⟨.hbm, 340, rfl⟩
abbrev main_v144 : Ref sig .tc := ⟨.hbm, 341, rfl⟩
abbrev main_c_38 : Ref sig .tc := ⟨.hbm, 342, rfl⟩
abbrev main_v145 : Ref sig .tc := ⟨.hbm, 343, rfl⟩
abbrev main_v146 : Ref sig .tc := ⟨.hbm, 344, rfl⟩
abbrev main_v147 : Ref sig .tc := ⟨.hbm, 345, rfl⟩
abbrev main_v148 : Ref sig .tc := ⟨.hbm, 346, rfl⟩
abbrev main_v149 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_19 : BitVec 32 := 0#32
  let arg1 : BitVec 32 := BitVec.ofNat 32 (i 1).val
  let c1_i32 : BitVec 32 := 1#32
  let v20 : BitVec 32 := Scalar.addi arg1 c1_i32
  let c128_i32_10 : BitVec 32 := 128#32
  let v21 : BitVec 32 := Scalar.muli v20 c128_i32_10
  let c512_i32 : BitVec 32 := 512#32
  let v22 : BitVec 32 := Scalar.addi v21 c512_i32
  let c1_i32_11 : BitVec 32 := 1#32
  let v23 : BitVec 32 := Scalar.subi v22 c1_i32_11
  let c0_i32 : BitVec 32 := 0#32
  let v25 : BitVec 1 := Scalar.cmpi .sgt v23 c0_i32
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c512_i32_12 : BitVec 32 := 512#32
  let c0_i32_14 : BitVec 32 := 0#32
  let v30 : BitVec 1 := Scalar.cmpi .sgt c512_i32_12 c0_i32_14
  let v31 : BitVec 32 := Scalar.extui v30
  let c0_i32_15 : BitVec 32 := 0#32
  let v32 : BitVec 1 := Scalar.cmpi .slt c512_i32_12 c0_i32_15
  let v33 : BitVec 32 := Scalar.extui v32
  let v34 : BitVec 32 := Scalar.subi v31 v33
  let v35 : BitVec 1 := Scalar.cmpi .ne v29 v34
  let v36 : BitVec 32 := Scalar.remsi v23 c512_i32_12
  let c0_i32_16 : BitVec 32 := 0#32
  let v37 : BitVec 1 := Scalar.cmpi .ne v36 c0_i32_16
  let v38 : BitVec 1 := Scalar.andi v35 v37
  let v24 : BitVec 32 := Scalar.divsi v23 c512_i32_12
  let c1_i32_17 : BitVec 32 := 1#32
  let v39 : BitVec 32 := Scalar.subi v24 c1_i32_17
  let v40 : BitVec 32 := Scalar.select v38 v39 v24
  let v41 : BitVec 32 := Scalar.subi v40 c0_i32_19
  let c1_i32_20 : BitVec 32 := 1#32
  let v43 : BitVec 32 := Scalar.divsi v41 c1_i32_20
  let v44 : BitVec 32 := Scalar.muli v43 c1_i32_20
  let v45 : BitVec 32 := Scalar.addi c0_i32_19 v44
  let c1_i32_21 : BitVec 32 := 1#32
  ⟨c0_i32_19, v45, c1_i32_21⟩
def k0_mult1 (i : grid0.Coords) (k0_t1 : Fin (k0_t1_loop i).trips) : BitVec 32 :=
  let c0_i32_19 : BitVec 32 := 0#32
  let c1_i32_21 : BitVec 32 := 1#32
  let arg11 : BitVec 32 := Scf.iv c0_i32_19 c1_i32_21 k0_t1
  let c512_i32_75 : BitVec 32 := 512#32
  let v119 : BitVec 32 := Scalar.muli arg11 c512_i32_75
  v119
def k0_off1 (i : grid0.Coords) (k0_t1 : Fin (k0_t1_loop i).trips) : Fin 2 → Nat :=
  let c0_i32_19 : BitVec 32 := 0#32
  let c1_i32_21 : BitVec 32 := 1#32
  let arg11 : BitVec 32 := Scf.iv c0_i32_19 c1_i32_21 k0_t1
  let c512_i32_75 : BitVec 32 := 512#32
  let v119 : BitVec 32 := Scalar.muli arg11 c512_i32_75
  let v120 : BitVec 32 := v119
  let v121 : Index := Scalar.indexCast v120
  let c0_76 : Index := 0#32
  ![v121.toNat, 0]
@[reducible] def k0_t2_loop (i : grid0.Coords) : Scf.Loop 32 :=
  let c0_i32_19 : BitVec 32 := 0#32
  let arg1 : BitVec 32 := BitVec.ofNat 32 (i 1).val
  let c1_i32 : BitVec 32 := 1#32
  let v20 : BitVec 32 := Scalar.addi arg1 c1_i32
  let c128_i32_10 : BitVec 32 := 128#32
  let v21 : BitVec 32 := Scalar.muli v20 c128_i32_10
  let c512_i32 : BitVec 32 := 512#32
  let v22 : BitVec 32 := Scalar.addi v21 c512_i32
  let c1_i32_11 : BitVec 32 := 1#32
  let v23 : BitVec 32 := Scalar.subi v22 c1_i32_11
  let c0_i32 : BitVec 32 := 0#32
  let v25 : BitVec 1 := Scalar.cmpi .sgt v23 c0_i32
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c512_i32_12 : BitVec 32 := 512#32
  let c0_i32_14 : BitVec 32 := 0#32
  let v30 : BitVec 1 := Scalar.cmpi .sgt c512_i32_12 c0_i32_14
  let v31 : BitVec 32 := Scalar.extui v30
  let c0_i32_15 : BitVec 32 := 0#32
  let v32 : BitVec 1 := Scalar.cmpi .slt c512_i32_12 c0_i32_15
  let v33 : BitVec 32 := Scalar.extui v32
  let v34 : BitVec 32 := Scalar.subi v31 v33
  let v35 : BitVec 1 := Scalar.cmpi .ne v29 v34
  let v36 : BitVec 32 := Scalar.remsi v23 c512_i32_12
  let c0_i32_16 : BitVec 32 := 0#32
  let v37 : BitVec 1 := Scalar.cmpi .ne v36 c0_i32_16
  let v38 : BitVec 1 := Scalar.andi v35 v37
  let v24 : BitVec 32 := Scalar.divsi v23 c512_i32_12
  let c1_i32_17 : BitVec 32 := 1#32
  let v39 : BitVec 32 := Scalar.subi v24 c1_i32_17
  let v40 : BitVec 32 := Scalar.select v38 v39 v24
  let v41 : BitVec 32 := Scalar.subi v40 c0_i32_19
  let c1_i32_20 : BitVec 32 := 1#32
  let v43 : BitVec 32 := Scalar.divsi v41 c1_i32_20
  let v44 : BitVec 32 := Scalar.muli v43 c1_i32_20
  let v45 : BitVec 32 := Scalar.addi c0_i32_19 v44
  let v42 : BitVec 32 := Scalar.addi c0_i32_19 v41
  let c1_i32_22 : BitVec 32 := 1#32
  ⟨v45, v42, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c1_i32 : BitVec 32 := 1#32
  let v20 : BitVec 32 := Scalar.addi arg1 c1_i32
  let c128_i32_10 : BitVec 32 := 128#32
  let v21 : BitVec 32 := Scalar.muli v20 c128_i32_10
  let c512_i32 : BitVec 32 := 512#32
  let v22 : BitVec 32 := Scalar.addi v21 c512_i32
  let c1_i32_11 : BitVec 32 := 1#32
  let v23 : BitVec 32 := Scalar.subi v22 c1_i32_11
  let c0_i32 : BitVec 32 := 0#32
  let v25 : BitVec 1 := Scalar.cmpi .sgt v23 c0_i32
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c512_i32_12 : BitVec 32 := 512#32
  let c0_i32_14 : BitVec 32 := 0#32
  let v30 : BitVec 1 := Scalar.cmpi .sgt c512_i32_12 c0_i32_14
  let v31 : BitVec 32 := Scalar.extui v30
  let c0_i32_15 : BitVec 32 := 0#32
  let v32 : BitVec 1 := Scalar.cmpi .slt c512_i32_12 c0_i32_15
  let v33 : BitVec 32 := Scalar.extui v32
  let v34 : BitVec 32 := Scalar.subi v31 v33
  let v35 : BitVec 1 := Scalar.cmpi .ne v29 v34
  let v36 : BitVec 32 := Scalar.remsi v23 c512_i32_12
  let c0_i32_16 : BitVec 32 := 0#32
  let v37 : BitVec 1 := Scalar.cmpi .ne v36 c0_i32_16
  let v38 : BitVec 1 := Scalar.andi v35 v37
  let v24 : BitVec 32 := Scalar.divsi v23 c512_i32_12
  let c1_i32_17 : BitVec 32 := 1#32
  let v39 : BitVec 32 := Scalar.subi v24 c1_i32_17
  let v40 : BitVec 32 := Scalar.select v38 v39 v24
  let v41 : BitVec 32 := Scalar.subi v40 c0_i32_19
  let c1_i32_20 : BitVec 32 := 1#32
  let v43 : BitVec 32 := Scalar.divsi v41 c1_i32_20
  let v44 : BitVec 32 := Scalar.muli v43 c1_i32_20
  let v45 : BitVec 32 := Scalar.addi c0_i32_19 v44
  let c1_i32_22 : BitVec 32 := 1#32
  let arg11 : BitVec 32 := Scf.iv v45 c1_i32_22 k0_t2
  let c512_i32_75 : BitVec 32 := 512#32
  let v119 : BitVec 32 := Scalar.muli arg11 c512_i32_75
  v119
def k0_off2 (i : grid0.Coords) (k0_t2 : Fin (k0_t2_loop i).trips) : Fin 2 → Nat :=
  let c0_i32_19 : BitVec 32 := 0#32
  let arg1 : BitVec 32 := BitVec.ofNat 32 (i 1).val
  let c1_i32 : BitVec 32 := 1#32
  let v20 : BitVec 32 := Scalar.addi arg1 c1_i32
  let c128_i32_10 : BitVec 32 := 128#32
  let v21 : BitVec 32 := Scalar.muli v20 c128_i32_10
  let c512_i32 : BitVec 32 := 512#32
  let v22 : BitVec 32 := Scalar.addi v21 c512_i32
  let c1_i32_11 : BitVec 32 := 1#32
  let v23 : BitVec 32 := Scalar.subi v22 c1_i32_11
  let c0_i32 : BitVec 32 := 0#32
  let v25 : BitVec 1 := Scalar.cmpi .sgt v23 c0_i32
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c512_i32_12 : BitVec 32 := 512#32
  let c0_i32_14 : BitVec 32 := 0#32
  let v30 : BitVec 1 := Scalar.cmpi .sgt c512_i32_12 c0_i32_14
  let v31 : BitVec 32 := Scalar.extui v30
  let c0_i32_15 : BitVec 32 := 0#32
  let v32 : BitVec 1 := Scalar.cmpi .slt c512_i32_12 c0_i32_15
  let v33 : BitVec 32 := Scalar.extui v32
  let v34 : BitVec 32 := Scalar.subi v31 v33
  let v35 : BitVec 1 := Scalar.cmpi .ne v29 v34
  let v36 : BitVec 32 := Scalar.remsi v23 c512_i32_12
  let c0_i32_16 : BitVec 32 := 0#32
  let v37 : BitVec 1 := Scalar.cmpi .ne v36 c0_i32_16
  let v38 : BitVec 1 := Scalar.andi v35 v37
  let v24 : BitVec 32 := Scalar.divsi v23 c512_i32_12
  let c1_i32_17 : BitVec 32 := 1#32
  let v39 : BitVec 32 := Scalar.subi v24 c1_i32_17
  let v40 : BitVec 32 := Scalar.select v38 v39 v24
  let v41 : BitVec 32 := Scalar.subi v40 c0_i32_19
  let c1_i32_20 : BitVec 32 := 1#32
  let v43 : BitVec 32 := Scalar.divsi v41 c1_i32_20
  let v44 : BitVec 32 := Scalar.muli v43 c1_i32_20
  let v45 : BitVec 32 := Scalar.addi c0_i32_19 v44
  let c1_i32_22 : BitVec 32 := 1#32
  let arg11 : BitVec 32 := Scf.iv v45 c1_i32_22 k0_t2
  let c512_i32_75 : BitVec 32 := 512#32
  let v119 : BitVec 32 := Scalar.muli arg11 c512_i32_75
  let v120 : BitVec 32 := v119
  let v121 : Index := Scalar.indexCast v120
  let c0_76 : Index := 0#32
  ![v121.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x8x256 : Shape := ⟨4, ![8, 2048, 8, 256]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S8x256x64 : Shape := ⟨3, ![8, 256, 64]⟩
abbrev S2048 : Shape := ⟨1, ![2048]⟩
abbrev S8x2048x2048x8 : Shape := ⟨4, ![8, 2048, 2048, 8]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x256x8x2048 : Shape := ⟨4, ![8, 256, 8, 2048]⟩
abbrev S8x64x8x2048 : Shape := ⟨4, ![8, 64, 8, 2048]⟩
abbrev S8x2048x8x64 : Shape := ⟨4, ![8, 2048, 8, 64]⟩
abbrev S16384x512 : Shape := ⟨2, ![16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x8x256, .f32⟩
  | .hbm, ⟨1, _⟩ => ⟨S8x2048x8x32, .f32⟩
  | .hbm, ⟨2, _⟩ => ⟨S8x2048x256, .f32⟩
  | .hbm, ⟨3, _⟩ => ⟨S8x2048x32, .f32⟩
  | .hbm, ⟨4, _⟩ => ⟨S8x256x64, .f32⟩
  | .hbm, ⟨5, _⟩ => ⟨S2048, .i32⟩
  | .hbm, ⟨6, _⟩ => ⟨S8x2048x2048x8, .f32⟩
  | .hbm, ⟨7, _⟩ => ⟨S8x8x2048x2048, .f32⟩
  | .hbm, ⟨8, _⟩ => ⟨S8x2048x2048x8, .f32⟩
  | .hbm, ⟨9, _⟩ => ⟨S8x8x2048x2048, .f32⟩
  | .hbm, ⟨10, _⟩ => ⟨S8x8x2048x2048, .f32⟩
  | .hbm, ⟨11, _⟩ => ⟨S_, .f32⟩
  | .hbm, ⟨12, _⟩ => ⟨S8x8x2048x2048, .f32⟩
  | .hbm, ⟨13, _⟩ => ⟨S8x8x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x1x2048x2048, .i1⟩
  | .hbm, ⟨20, _⟩ => ⟨S_, .f32⟩
  | .hbm, ⟨21, _⟩ => ⟨S_, .f32⟩
  | .hbm, ⟨22, _⟩ => ⟨S8x8x2048x2048, .i1⟩
  | .hbm, ⟨23, _⟩ => ⟨S8x8x2048x2048, .f32⟩
  | .hbm, ⟨24, _⟩ => ⟨S8x8x2048x2048, .f32⟩
  | .hbm, ⟨25, _⟩ => ⟨S_, .f32⟩
  | .hbm, ⟨26, _⟩ => ⟨S8x8x2048, .f32⟩
  | .hbm, ⟨27, _⟩ => ⟨S_, .f32⟩
  | .hbm, ⟨28, _⟩ => ⟨S8x8x2048, .f32⟩
  | .hbm, ⟨29, _⟩ => ⟨S8x8x2048, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S8x8x2048x1, .f32⟩
  | .hbm, ⟨37, _⟩ => ⟨S8x8x2048x2048, .f32⟩
  | .hbm, ⟨38, _⟩ => ⟨S8x8x2048x2048, .f32⟩
  | .hbm, ⟨39, _⟩ => ⟨S8x256x8x2048, .f32⟩
  | .hbm, ⟨40, _⟩ => ⟨S8x2048x8x256, .f32⟩
  | .hbm, ⟨41, _⟩ => ⟨S8x64x8x2048, .f32⟩
  | .hbm, ⟨42, _⟩ => ⟨S8x2048x8x64, .f32⟩
  | .hbm, ⟨43, _⟩ => ⟨S16384x512, .f32⟩
  | .hbm, ⟨44, _⟩ => ⟨S16384x512, .bf16⟩
  | _, _ => ⟨S8x2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x4552 : Shape := ⟨2, ![1024, 4552]⟩
abbrev S64 : Shape := ⟨1, ![64]⟩
abbrev S384 : Shape := ⟨1, ![384]⟩
abbrev S384x8x96 : Shape := ⟨3, ![384, 8, 96]⟩
abbrev S96 : Shape := ⟨1, ![96]⟩
abbrev S8x64x256 : Shape := ⟨3, ![8, 64, 256]⟩
abbrev S256 : Shape := ⟨1, ![256]⟩
abbrev S32 : Shape := ⟨1, ![32]⟩
abbrev S0 : Shape := ⟨1, ![0]⟩
abbrev S1024x512 : Shape := ⟨2, ![1024, 512]⟩
abbrev S1024x256 : Shape := ⟨2, ![1024, 256]⟩
abbrev S1024x8 : Shape := ⟨2, ![1024, 8]⟩
abbrev S1024x32 : Shape := ⟨2, ![1024, 32]⟩
abbrev S1024x384 : Shape := ⟨2, ![1024, 384]⟩
abbrev S1024x1024 : Shape := ⟨2, ![1024, 1024]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S1024x4736 : Shape := ⟨2, ![1024, 4736]⟩
abbrev S_ : Shape := ⟨0, ![]⟩
abbrev S8x1024 : Shape := ⟨2, ![8, 1024]⟩
abbrev S384x8x64 : Shape := ⟨3, ![384, 8, 64]⟩
abbrev S384x512 : Shape := ⟨2, ![384, 512]⟩
abbrev S384x8x32 : Shape := ⟨3, ![384, 8, 32]⟩
abbrev S384x256 : Shape := ⟨2, ![384, 256]⟩
abbrev S384x768 : Shape := ⟨2, ![384, 768]⟩
abbrev S512x2048 : Shape := ⟨2, ![512, 2048]⟩
abbrev S1x64x256 : Shape := ⟨3, ![1, 64, 256]⟩
abbrev S64x256 : Shape := ⟨2, ![64, 256]⟩
abbrev S1 : Shape := ⟨1, ![1]⟩
abbrev S2 : Shape := ⟨1, ![2]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x384 : Shape := ⟨2, ![1, 384]⟩
abbrev S1x32 : Shape := ⟨2, ![1, 32]⟩
abbrev S8x32 : Shape := ⟨2, ![8, 32]⟩
abbrev S1x256 : Shape := ⟨2, ![1, 256]⟩
abbrev S4x32 : Shape := ⟨2, ![4, 32]⟩
abbrev S128 : Shape := ⟨1, ![128]⟩
abbrev S1x128 : Shape := ⟨2, ![1, 128]⟩
abbrev S512x512 : Shape := ⟨2, ![512, 512]⟩
abbrev S512x256 : Shape := ⟨2, ![512, 256]⟩
abbrev S256x512 : Shape := ⟨2, ![256, 512]⟩
abbrev S256x256 : Shape := ⟨2, ![256, 256]⟩
abbrev S16384x1024 : Shape := ⟨2, ![16384, 1024]⟩
abbrev S2048 : Shape := ⟨1, ![2048]⟩
abbrev S2048x1 : Shape := ⟨2, ![2048, 1]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S16 : Shape := ⟨1, ![16]⟩
abbrev S1x16 : Shape := ⟨2, ![1, 16]⟩
abbrev S2048x16 : Shape := ⟨2, ![2048, 16]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S16384x512 : Shape := ⟨2, ![16384, 512]⟩
abbrev S16384x128 : Shape := ⟨2, ![16384, 128]⟩
abbrev S16384x256 : Shape := ⟨2, ![16384, 256]⟩
abbrev S16384x384 : Shape := ⟨2, ![16384, 384]⟩
abbrev S8x16384x128 : Shape := ⟨3, ![8, 16384, 128]⟩
abbrev S8x16384 : Shape := ⟨2, ![8, 16384]⟩
abbrev S8x16384x384 : Shape := ⟨3, ![8, 16384, 384]⟩
abbrev S256x1024 : Shape := ⟨2, ![256, 1024]⟩
abbrev S256x128 : Shape := ⟨2, ![256, 128]⟩
abbrev S256x384 : Shape := ⟨2, ![256, 384]⟩
abbrev S8x256x128 : Shape := ⟨3, ![8, 256, 128]⟩
abbrev S8x256 : Shape := ⟨2, ![8, 256]⟩
abbrev S8x256x384 : Shape := ⟨3, ![8, 256, 384]⟩
abbrev S256x1 : Shape := ⟨2, ![256, 1]⟩
abbrev S1x256x128 : Shape := ⟨3, ![1, 256, 128]⟩
abbrev S256x768 : Shape := ⟨2, ![256, 768]⟩
abbrev S256x2048 : Shape := ⟨2, ![256, 2048]⟩
abbrev S1x256x256 : Shape := ⟨3, ![1, 256, 256]⟩

abbrev nBuf : Space → Nat
  | .hbm => 267
  | .vmem => 56
  | .smem => 0
  | _ => 0

abbrev hbmTy0_0 (i : Nat) : BufTy := match i % 128 with
  | 0 => ⟨S8x2048x1024, .f32⟩
  | 1 => ⟨S1024, .f32⟩
  | 2 => ⟨S1024x4552, .f32⟩
  | 3 => ⟨S64, .f32⟩
  | 4 => ⟨S64, .f32⟩
  | 5 => ⟨S384, .f32⟩
  | 6 => ⟨S384x8x96, .f32⟩
  | 7 => ⟨S96, .f32⟩
  | 8 => ⟨S8x64x256, .f32⟩
  | 9 => ⟨S256, .f32⟩
  | 10 => ⟨S32, .f32⟩
  | 11 => ⟨S0, .i32⟩
  | 12 => ⟨S1024x512, .f32⟩
  | 13 => ⟨S1024x512, .f32⟩
  | 14 => ⟨S1024x512, .f32⟩
  | 15 => ⟨S1024x256, .f32⟩
  | 16 => ⟨S1024x8, .f32⟩
  | 17 => ⟨S1024x32, .f32⟩
  | 18 => ⟨S1024x384, .f32⟩
  | 19 => ⟨S1024x256, .f32⟩
  | 20 => ⟨S1024x32, .f32⟩
  | 21 => ⟨S1024x1024, .f32⟩
  | 22 => ⟨S1024x1024, .f32⟩
  | 23 => ⟨S1x1024x1x32, .f32⟩
  | 24 => ⟨S1x1024x4x32, .f32⟩
  | 25 => ⟨S1024x128, .f32⟩
  | 26 => ⟨S1x1024x1x32, .f32⟩
  | 27 => ⟨S1x1024x4x32, .f32⟩
  | 28 => ⟨S1024x128, .f32⟩
  | 29 => ⟨S1024x4736, .f32⟩
  | 30 => ⟨S1024x4736, .bf16⟩
  | 31 => ⟨S_, .f32⟩
  | 32 => ⟨S8x1024, .f32⟩
  | 33 => ⟨S8x1024, .f32⟩
  | 34 => ⟨S8x1024, .f32⟩
  | 35 => ⟨S8x1024, .bf16⟩
  | 36 => ⟨S384x8x64, .f32⟩
  | 37 => ⟨S384x512, .f32⟩
  | 38 => ⟨S384x8x32, .f32⟩
  | 39 => ⟨S384x256, .f32⟩
  | 40 => ⟨S384x768, .f32⟩
  | 41 => ⟨S384x768, .bf16⟩
  | 42 => ⟨S_, .f32⟩
  | 43 => ⟨S512x2048, .f32⟩
  | 44 => ⟨S1x64x256, .f32⟩
  | 45 => ⟨S64x256, .f32⟩
  | 46 => ⟨S_, .i32⟩
  | 47 => ⟨S1, .i32⟩
  | 48 => ⟨S_, .i32⟩
  | 49 => ⟨S1, .i32⟩
  | 50 => ⟨S2, .i32⟩
  | 51 => ⟨S512x2048, .f32⟩
  | 52 => ⟨S1x64x256, .f32⟩
  | 53 => ⟨S64x256, .f32⟩
  | 54 => ⟨S_, .i32⟩
  | 55 => ⟨S1, .i32⟩
  | 56 => ⟨S_, .i32⟩
  | 57 => ⟨S1, .i32⟩
  | 58 => ⟨S2, .i32⟩
  | 59 => ⟨S512x2048, .f32⟩
  | 60 => ⟨S1x64x256, .f32⟩
  | 61 => ⟨S64x256, .f32⟩
  | 62 => ⟨S_, .i32⟩
  | 63 => ⟨S1, .i32⟩
  | 64 => ⟨S_, .i32⟩
  | 65 => ⟨S1, .i32⟩
  | 66 => ⟨S2, .i32⟩
  | 67 => ⟨S512x2048, .f32⟩
  | 68 => ⟨S1x64x256, .f32⟩
  | 69 => ⟨S64x256, .f32⟩
  | 70 => ⟨S_, .i32⟩
  | 71 => ⟨S1, .i32⟩
  | 72 => ⟨S_, .i32⟩
  | 73 => ⟨S1, .i32⟩
  | 74 => ⟨S2, .i32⟩
  | 75 => ⟨S512x2048, .f32⟩
  | 76 => ⟨S1x64x256, .f32⟩
  | 77 => ⟨S64x256, .f32⟩
  | 78 => ⟨S_, .i32⟩
  | 79 => ⟨S1, .i32⟩
  | 80 => ⟨S_, .i32⟩
  | 81 => ⟨S1, .i32⟩
  | 82 => ⟨S2, .i32⟩
  | 83 => ⟨S512x2048, .f32⟩
  | 84 => ⟨S1x64x256, .f32⟩
  | 85 => ⟨S64x256, .f32⟩
  | 86 => ⟨S_, .i32⟩
  | 87 => ⟨S1, .i32⟩
  | 88 => ⟨S_, .i32⟩
  | 89 => ⟨S1, .i32⟩
  | 90 => ⟨S2, .i32⟩
  | 91 => ⟨S512x2048, .f32⟩
  | 92 => ⟨S1x64x256, .f32⟩
  | 93 => ⟨S64x256, .f32⟩
  | 94 => ⟨S_, .i32⟩
  | 95 => ⟨S1, .i32⟩
  | 96 => ⟨S_, .i32⟩
  | 97 => ⟨S1, .i32⟩
  | 98 => ⟨S2, .i32⟩
  | 99 => ⟨S512x2048, .f32⟩
  | 100 => ⟨S1x64x256, .f32⟩
  | 101 => ⟨S64x256, .f32⟩
  | 102 => ⟨S_, .i32⟩
  | 103 => ⟨S1, .i32⟩
  | 104 => ⟨S_, .i32⟩
  | 105 => ⟨S1, .i32⟩
  | 106 => ⟨S2, .i32⟩
  | 107 => ⟨S512x2048, .f32⟩
  | 108 => ⟨S512x2048, .bf16⟩
  | 109 => ⟨S1x1024, .f32⟩
  | 110 => ⟨S1x64, .f32⟩
  | 111 => ⟨S8x64, .f32⟩
  | 112 => ⟨S512, .f32⟩
  | 113 => ⟨S1x512, .f32⟩
  | 114 => ⟨S1x64, .f32⟩
  | 115 => ⟨S8x64, .f32⟩
  | 116 => ⟨S512, .f32⟩
  | 117 => ⟨S1x512, .f32⟩
  | 118 => ⟨S1x384, .f32⟩
  | 119 => ⟨S64, .f32⟩
  | 120 => ⟨S1x64, .f32⟩
  | 121 => ⟨S8x64, .f32⟩
  | 122 => ⟨S512, .f32⟩
  | 123 => ⟨S1x512, .f32⟩
  | 124 => ⟨S32, .f32⟩
  | 125 => ⟨S1x32, .f32⟩
  | 126 => ⟨S8x32, .f32⟩
  | 127 => ⟨S256, .f32⟩
  | _ => ⟨S8x2048x1024, .f32⟩

abbrev hbmTy0_1 (i : Nat) : BufTy := match i % 128 with
  | 0 => ⟨S1x256, .f32⟩
  | 1 => ⟨S1x256, .f32⟩
  | 2 => ⟨S1x32, .f32⟩
  | 3 => ⟨S4x32, .f32⟩
  | 4 => ⟨S128, .f32⟩
  | 5 => ⟨S1x128, .f32⟩
  | 6 => ⟨S512x512, .i32⟩
  | 7 => ⟨S_, .i32⟩
  | 8 => ⟨S512x512, .i32⟩
  | 9 => ⟨S512x512, .i32⟩
  | 10 => ⟨S512x512, .i32⟩
  | 11 => ⟨S_, .i32⟩
  | 12 => ⟨S512x512, .i32⟩
  | 13 => ⟨S512x512, .i32⟩
  | 14 => ⟨S512x512, .i1⟩
  | 15 => ⟨S_, .f32⟩
  | 16 => ⟨S_, .f32⟩
  | 17 => ⟨S512x512, .f32⟩
  | 18 => ⟨S512x512, .f32⟩
  | 19 => ⟨S512x512, .f32⟩
  | 20 => ⟨S512x512, .bf16⟩
  | 21 => ⟨S512x256, .i32⟩
  | 22 => ⟨S_, .i32⟩
  | 23 => ⟨S512x256, .i32⟩
  | 24 => ⟨S512x256, .i32⟩
  | 25 => ⟨S512x256, .i32⟩
  | 26 => ⟨S_, .i32⟩
  | 27 => ⟨S512x256, .i32⟩
  | 28 => ⟨S512x256, .i32⟩
  | 29 => ⟨S512x256, .i1⟩
  | 30 => ⟨S_, .f32⟩
  | 31 => ⟨S_, .f32⟩
  | 32 => ⟨S512x256, .f32⟩
  | 33 => ⟨S512x256, .f32⟩
  | 34 => ⟨S512x256, .f32⟩
  | 35 => ⟨S512x256, .bf16⟩
  | 36 => ⟨S256x512, .i32⟩
  | 37 => ⟨S_, .i32⟩
  | 38 => ⟨S256x512, .i32⟩
  | 39 => ⟨S256x512, .i32⟩
  | 40 => ⟨S256x512, .i32⟩
  | 41 => ⟨S_, .i32⟩
  | 42 => ⟨S256x512, .i32⟩
  | 43 => ⟨S256x512, .i32⟩
  | 44 => ⟨S256x512, .i1⟩
  | 45 => ⟨S_, .f32⟩
  | 46 => ⟨S_, .f32⟩
  | 47 => ⟨S256x512, .f32⟩
  | 48 => ⟨S256x512, .f32⟩
  | 49 => ⟨S256x512, .f32⟩
  | 50 => ⟨S256x512, .bf16⟩
  | 51 => ⟨S256x256, .i32⟩
  | 52 => ⟨S_, .i32⟩
  | 53 => ⟨S256x256, .i32⟩
  | 54 => ⟨S256x256, .i32⟩
  | 55 => ⟨S256x256, .i32⟩
  | 56 => ⟨S_, .i32⟩
  | 57 => ⟨S256x256, .i32⟩
  | 58 => ⟨S256x256, .i32⟩
  | 59 => ⟨S256x256, .i1⟩
  | 60 => ⟨S_, .f32⟩
  | 61 => ⟨S_, .f32⟩
  | 62 => ⟨S256x256, .f32⟩
  | 63 => ⟨S256x256, .f32⟩
  | 64 => ⟨S256x256, .f32⟩
  | 65 => ⟨S256x256, .bf16⟩
  | 66 => ⟨S16384x1024, .f32⟩
  | 67 => ⟨S2048, .i32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S32, .f32⟩
  | 76 => ⟨S_, .f32⟩
  | 77 => ⟨S32, .f32⟩
  | 78 => ⟨S32, .f32⟩
  | 79 => ⟨S2048, .f32⟩
  | 80 => ⟨S2048x1, .f32⟩
  | 81 => ⟨S1x32, .f32⟩
  | 82 => ⟨S2048x32, .f32⟩
  | 83 => ⟨S2048x32, .f32⟩
  | 84 => ⟨S2048x32, .f32⟩
  | 85 => ⟨S2048x32, .f32⟩
  | 86 => ⟨S2048x32, .f32⟩
  | 87 => ⟨S2048x64, .f32⟩
  | 88 => ⟨S2048x32, .f32⟩
  | 89 => ⟨S2048x64, .f32⟩
  | 90 => ⟨S1x2048x1x64, .f32⟩
  | 91 => ⟨S1x2048x8x64, .f32⟩
  | 92 => ⟨S2048x512, .f32⟩
  | 93 => ⟨S1x2048x1x64, .f32⟩
  | 94 => ⟨S1x2048x8x64, .f32⟩
  | 95 => ⟨S2048x512, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S16, .f32⟩
  | 104 => ⟨S_, .f32⟩
  | 105 => ⟨S16, .f32⟩
  | 106 => ⟨S16, .f32⟩
  | 107 => ⟨S2048, .f32⟩
  | 108 => ⟨S2048x1, .f32⟩
  | 109 => ⟨S1x16, .f32⟩
  | 110 => ⟨S2048x16, .f32⟩
  | 111 => ⟨S2048x16, .f32⟩
  | 112 => ⟨S2048x16, .f32⟩
  | 113 => ⟨S2048x16, .f32⟩
  | 114 => ⟨S2048x16, .f32⟩
  | 115 => ⟨S2048x32, .f32⟩
  | 116 => ⟨S2048x16, .f32⟩
  | 117 => ⟨S2048x32, .f32⟩
  | 118 => ⟨S1x2048x1x32, .f32⟩
  | 119 => ⟨S1x2048x8x32, .f32⟩
  | 120 => ⟨S2048x256, .f32⟩
  | 121 => ⟨S1x2048x1x32, .f32⟩
  | 122 => ⟨S1x2048x8x32, .f32⟩
  | 123 => ⟨S2048x256, .f32⟩
  | 124 => ⟨S16384x512, .f32⟩
  | 125 => ⟨S16384x512, .f32⟩
  | 126 => ⟨S16384x128, .f32⟩
  | 127 => ⟨S16384x256, .f32⟩
  | _ => ⟨S8x2048x1024, .f32⟩

abbrev hbmTy0_2 (i : Nat) : BufTy := match i % 128 with
  | 0 => ⟨S16384x128, .f32⟩
  | 1 => ⟨S16384x1024, .f32⟩
  | 2 => ⟨S16384x1024, .f32⟩
  | 3 => ⟨S16384x512, .bf16⟩
  | 4 => ⟨S16384x512, .bf16⟩
  | 5 => ⟨S16384x128, .bf16⟩
  | 6 => ⟨S16384x384, .bf16⟩
  | 7 => ⟨S8x16384x128, .bf16⟩
  | 8 => ⟨S8x16384x128, .bf16⟩
  | 9 => ⟨S8x16384, .f32⟩
  | 10 => ⟨S8x16384x384, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4736, .bf16⟩
  | .local _ .vmem, ⟨4, _⟩ => ⟨S8x1024, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S1x512, .f32⟩
  | .local _ .vmem, ⟨14, _⟩ => ⟨S1x512, .f32⟩
  | .local _ .vmem, ⟨15, _⟩ => ⟨S1x384, .f32⟩
  | .local _ .vmem, ⟨16, _⟩ => ⟨S1x512, .f32⟩
  | .local _ .vmem, ⟨17, _⟩ => ⟨S1x256, .f32⟩
  | .local _ .vmem, ⟨18, _⟩ => ⟨S1x256, .f32⟩
  | .local _ .vmem, ⟨19, _⟩ => ⟨S1x128, .f32⟩
  | .local _ .vmem, ⟨20, _⟩ => ⟨S512x512, .bf16⟩
  | .local _ .vmem, ⟨21, _⟩ => ⟨S512x256, .bf16⟩
  | .local _ .vmem, ⟨22, _⟩ => ⟨S256x512, .bf16⟩
  | .local _ .vmem, ⟨23, _⟩ => ⟨S256x256, .bf16⟩
  | .local _ .vmem, ⟨24, _⟩ => ⟨S384x768, .bf16⟩
  | .local _ .vmem, ⟨25, _⟩ => ⟨S512x2048, .bf16⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x128, .f32⟩
  | .local _ .vmem, ⟨31, _⟩ => ⟨S256x128, .f32⟩
  | .local _ .vmem, ⟨32, _⟩ => ⟨S256x256, .f32⟩
  | .local _ .vmem, ⟨33, _⟩ => ⟨S256x256, .f32⟩
  | .local _ .vmem, ⟨34, _⟩ => ⟨S256x128, .f32⟩
  | .local _ .vmem, ⟨35, _⟩ => ⟨S256x128, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x512, .bf16⟩
  | .local _ .vmem, ⟨41, _⟩ => ⟨S256x512, .bf16⟩
  | .local _ .vmem, ⟨42, _⟩ => ⟨S256x512, .bf16⟩
  | .local _ .vmem, ⟨43, _⟩ => ⟨S256x512, .bf16⟩
  | .local _ .vmem, ⟨44, _⟩ => ⟨S256x128, .bf16⟩
  | .local _ .vmem, ⟨45, _⟩ => ⟨S256x128, .bf16⟩
  | .local _ .vmem, ⟨46, _⟩ => ⟨S256x384, .bf16⟩
  | .local _ .vmem, ⟨47, _⟩ => ⟨S256x384, .bf16⟩
  | .local _ .vmem, ⟨48, _⟩ => ⟨S8x256x128, .bf16⟩
  | .local _ .vmem, ⟨49, _⟩ => ⟨S8x256x128, .bf16⟩
  | .local _ .vmem, ⟨50, _⟩ => ⟨S8x256x128, .bf16⟩
  | .local _ .vmem, ⟨51, _⟩ => ⟨S8x256x128, .bf16⟩
  | .local _ .vmem, ⟨52, _⟩ => ⟨S8x256, .f32⟩
  | .local _ .vmem, ⟨53, _⟩ => ⟨S8x256, .f32⟩
  | .local _ .vmem, ⟨54, _⟩ => ⟨S8x256x384, .bf16⟩
  | .local _ .vmem, ⟨55, _⟩ => ⟨S8x256x384, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_1 : Ref sig .tc := ⟨.hbm, 46, rfl⟩
abbrev main_v32 : Ref sig .tc := ⟨.hbm, 47, rfl⟩
abbrev main_c_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_3 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_c_17 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_18 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_19 : Ref sig .tc := ⟨.hbm, 143, rfl⟩
abbrev main_cst_20 : Ref sig .tc := ⟨.hbm, 144, rfl⟩
abbrev main_call0_v0 : Ref sig .tc := ⟨.hbm, 145, rfl⟩
abbrev main_call0_v1 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c_21 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_23 : Ref sig .tc := ⟨.hbm, 158, rfl⟩
abbrev main_cst_24 : Ref sig .tc := ⟨.hbm, 159, rfl⟩
abbrev main_call1_v0 : Ref sig .tc := ⟨.hbm, 160, rfl⟩
abbrev main_call1_v1 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_25 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_c_26 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_27 : Ref sig .tc := ⟨.hbm, 173, rfl⟩
abbrev main_cst_28 : Ref sig .tc := ⟨.hbm, 174, rfl⟩
abbrev main_call2_v0 : Ref sig .tc := ⟨.hbm, 175, rfl⟩
abbrev main_call2_v1 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_29 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_30 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_31 : Ref sig .tc := ⟨.hbm, 188, rfl⟩
abbrev main_cst_32 : Ref sig .tc := ⟨.hbm, 189, rfl⟩
abbrev main_call3_v0 : Ref sig .tc := ⟨.hbm, 190, rfl⟩
abbrev main_call3_v1 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_33 : Ref sig .tc := ⟨.hbm, 197, rfl⟩
abbrev main_v143 : Ref sig .tc := ⟨.hbm, 198, rfl⟩
abbrev main_v144 : Ref sig .tc := ⟨.hbm, 199, rfl⟩
abbrev main_cst_34 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_35 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_36 : Ref sig .tc := ⟨.hbm, 225, rfl⟩
abbrev main_v168 : Ref sig .tc := ⟨.hbm, 226, rfl⟩
abbrev main_v169 : Ref sig .tc := ⟨.hbm, 227, rfl⟩
abbrev main_cst_37 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_38 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192_0 : Ref sig .tc := ⟨.hbm, 252, rfl⟩
abbrev main_v192_1 : Ref sig .tc := ⟨.hbm, 253, rfl⟩
abbrev main_v192_2 : Ref sig .tc := ⟨.hbm, 254, rfl⟩
abbrev main_v192_3 : Ref sig .tc := ⟨.hbm, 255, rfl⟩
abbrev main_v192_4 : Ref sig .tc := ⟨.hbm, 256, rfl⟩
abbrev main_v192_5 : Ref sig .tc := ⟨.hbm, 257, rfl⟩
abbrev main_v192_6 : Ref sig .tc := ⟨.hbm, 258, rfl⟩
abbrev main_v192_7 : Ref sig .tc := ⟨.hbm, 259, rfl⟩
abbrev main_v192_8 : Ref sig .tc := ⟨.hbm, 260, rfl⟩
abbrev main_v192_9 : Ref sig .tc := ⟨.hbm, 261, rfl⟩
abbrev main_v192_10 : Ref sig .tc := ⟨.hbm, 262, rfl⟩
abbrev main_v192_11 : Ref sig .tc := ⟨.hbm, 263, rfl⟩
abbrev main_v192_12 : Ref sig .tc := ⟨.hbm, 264, rfl⟩
abbrev main_v192_13 : Ref sig .tc := ⟨.hbm, 265, rfl⟩
abbrev main_v192_14 : Ref sig .tc := ⟨.hbm, 266, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_stg30_0 : Ref sig .tc := ⟨.vmem, 44, rfl⟩
abbrev cc0_stg30_1 : Ref sig .tc := ⟨.vmem, 45, rfl⟩
abbrev cc0_stg31_0 : Ref sig .tc := ⟨.vmem, 46, rfl⟩
abbrev cc0_stg31_1 : Ref sig .tc := ⟨.vmem, 47, rfl⟩
abbrev cc0_stg32_0 : Ref sig .tc := ⟨.vmem, 48, rfl⟩
abbrev cc0_stg32_1 : Ref sig .tc := ⟨.vmem, 49, rfl⟩
abbrev cc0_stg33_0 : Ref sig .tc := ⟨.vmem, 50, rfl⟩
abbrev cc0_stg33_1 : Ref sig .tc := ⟨.vmem, 51, rfl⟩
abbrev cc0_stg34_0 : Ref sig .tc := ⟨.vmem, 52, rfl⟩
abbrev cc0_stg34_1 : Ref sig .tc := ⟨.vmem, 53, rfl⟩
abbrev cc0_stg35_0 : Ref sig .tc := ⟨.vmem, 54, rfl⟩
abbrev cc0_stg35_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43
abbrev cc0_sem30_0 : DmaSem sig := 44
abbrev cc0_sem30_1 : DmaSem sig := 45
abbrev cc0_sem31_0 : DmaSem sig := 46
abbrev cc0_sem31_1 : DmaSem sig := 47
abbrev cc0_sem32_0 : DmaSem sig := 48
abbrev cc0_sem32_1 : DmaSem sig := 49
abbrev cc0_sem33_0 : DmaSem sig := 50
abbrev cc0_sem33_1 : DmaSem sig := 51
abbrev cc0_sem34_0 : DmaSem sig := 52
abbrev cc0_sem34_1 : DmaSem sig := 53
abbrev cc0_sem35_0 : DmaSem sig := 54
abbrev cc0_sem35_1 : DmaSem sig := 55

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_33 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_35 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S384x768 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x2048 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x128 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x384 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S8x256x128 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S8x256x128 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S8x256 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S8x256x384 .bf16 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]
-- ==== Reference2Ideal.lean ====
abbrev S8x2048x1024 : Shape := ⟨3, ![8, 2048, 1024]⟩
abbrev S1024 : Shape := ⟨1, ![1024]⟩
abbrev S1024x4552 : Shape := ⟨2, ![1024, 4552]⟩
abbrev S64 : Shape := ⟨1, ![64]⟩
abbrev S384 : Shape := ⟨1, ![384]⟩
abbrev S384x8x96 : Shape := ⟨3, ![384, 8, 96]⟩
abbrev S96 : Shape := ⟨1, ![96]⟩
abbrev S8x64x256 : Shape := ⟨3, ![8, 64, 256]⟩
abbrev S256 : Shape := ⟨1, ![256]⟩
abbrev S32 : Shape := ⟨1, ![32]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4552 : Shape := ⟨3, ![8, 2048, 4552]⟩
abbrev S8x2048x512 : Shape := ⟨3, ![8, 2048, 512]⟩
abbrev S8x2048x256 : Shape := ⟨3, ![8, 2048, 256]⟩
abbrev S1x1x256 : Shape := ⟨3, ![1, 1, 256]⟩
abbrev S16384x512 : Shape := ⟨2, ![16384, 512]⟩
abbrev S16384x256 : Shape := ⟨2, ![16384, 256]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4552, .f32⟩
  | .hbm, ⟨3, _⟩ => ⟨S64, .f32⟩
  | .hbm, ⟨4, _⟩ => ⟨S64, .f32⟩
  | .hbm, ⟨5, _⟩ => ⟨S384, .f32⟩
  | .hbm, ⟨6, _⟩ => ⟨S384x8x96, .f32⟩
  | .hbm, ⟨7, _⟩ => ⟨S96, .f32⟩
  | .hbm, ⟨8, _⟩ => ⟨S8x64x256, .f32⟩
  | .hbm, ⟨9, _⟩ => ⟨S256, .f32⟩
  | .hbm, ⟨10, _⟩ => ⟨S32, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x2048x4552, .f32⟩
  | .hbm, ⟨28, _⟩ => ⟨S8x2048x512, .f32⟩
  | .hbm, ⟨29, _⟩ => ⟨S8x2048x256, .f32⟩
  | .hbm, ⟨30, _⟩ => ⟨S8x2048x1024, .f32⟩
  | .hbm, ⟨31, _⟩ => ⟨S8x2048x1024, .f32⟩
  | .hbm, ⟨32, _⟩ => ⟨S8x2048x256, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S8x2048x256, .f32⟩
  | .hbm, ⟨44, _⟩ => ⟨S8x2048x256, .f32⟩
  | .hbm, ⟨45, _⟩ => ⟨S1x1x256, .f32⟩
  | .hbm, ⟨46, _⟩ => ⟨S8x2048x256, .f32⟩
  | .hbm, ⟨47, _⟩ => ⟨S8x2048x256, .f32⟩
  | .hbm, ⟨48, _⟩ => ⟨S16384x512, .f32⟩
  | .hbm, ⟨49, _⟩ => ⟨S16384x256, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048x1024, .f32⟩
  | .hbm, ⟨57, _⟩ => ⟨S8x2048x1024, .f32⟩
  | .hbm, ⟨58, _⟩ => ⟨S16384x1024, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048x1024, .f32⟩
  | .hbm, ⟨66, _⟩ => ⟨S8x2048x1024, .f32⟩
  | .hbm, ⟨67, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x8x64 : Shape := ⟨4, ![8, 2048, 8, 64]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S16384x1024 : Shape := ⟨2, ![16384, 1024]⟩
abbrev S16384x512 : Shape := ⟨2, ![16384, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 25
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8x64, .f32⟩
  | .hbm, ⟨2, _⟩ => ⟨S8x2048x8x64, .f32⟩
  | .hbm, ⟨3, _⟩ => ⟨S8x2048x1024, .f32⟩
  | .hbm, ⟨4, _⟩ => ⟨S8x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S1024x1024, .bf16⟩
  | .hbm, ⟨15, _⟩ => ⟨S16384x1024, .f32⟩
  | .hbm, ⟨16, _⟩ => ⟨S16384x512, .f32⟩
  | .hbm, ⟨17, _⟩ => ⟨S16384x512, .bf16⟩
  | .hbm, ⟨18, _⟩ => ⟨S16384x512, .f32⟩
  | .hbm, ⟨19, _⟩ => ⟨S16384x512, .bf16⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | .hbm, ⟨24, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x2048x1024 : Shape := ⟨3, ![8, 2048, 1024]⟩
abbrev S8x2048x8x64 : Shape := ⟨4, ![8, 2048, 8, 64]⟩
abbrev S512x1024 : Shape := ⟨2, ![512, 1024]⟩
abbrev S1024x1024 : Shape := ⟨2, ![1024, 1024]⟩
abbrev S1024 : Shape := ⟨1, ![1024]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8x64, .f32⟩
  | .hbm, ⟨2, _⟩ => ⟨S8x2048x8x64, .f32⟩
  | .hbm, ⟨3, _⟩ => ⟨S8x2048x1024, .f32⟩
  | .hbm, ⟨4, _⟩ => ⟨S8x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S8x2048x512, .f32⟩
  | .hbm, ⟨11, _⟩ => ⟨S8x2048x1024, .f32⟩
  | .hbm, ⟨12, _⟩ => ⟨S8x2048x1024, .f32⟩
  | .hbm, ⟨13, _⟩ => ⟨S8x2048x512, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Same.lean ====
/- The kernel and the ideal kernel are one program: their texts agree, so that a run of the one over any float values is a
run of the other. -/
module

public import proofs.«01_k».proof.Defs
public import proofs.«01_k».proof.Proof.Gen.Kernel
public import proofs.«01_k».proof.Proof.Gen.KernelIdeal

@[expose] public section

noncomputable section

namespace Cert.Proof

open Idealize.ShloMosaic

/-- The kernel's body table and the ideal kernel's are one table, -/
theorem table_eq {F : FTy → Type} [FloatOps F] : Cert.Kernel.defs₀ (F := F) = Cert.KernelIdeal.defs₀ (F := F) :=
  congrArg Defs.onTc (funext fun l => funext fun a => match l, a with
    | 0, (_, _) => rfl
    | ⟨_ + 1, h⟩, _ => absurd h (Nat.not_lt.2 (Nat.le_add_left _ _)))

theorem defs_eq {F : FTy → Type} [FloatOps F] : Cert.Kernel.defs (F := F) = Cert.KernelIdeal.defs (F := F) :=
  congrArg (Pipeline.defs (Cert.Kernel.pcfgs (F := F))) table_eq

set_option maxHeartbeats 4000000 in
/-- and so are the two programs. -/
theorem main_eq : Cert.Kernel.main (F := Bits) = Cert.KernelIdeal.main (F := Bits) := rfl

end Cert.Proof

end
-- ==== Proof.Step.lean ====
/- What one block of the latent-attention kernel computes, as functions of whole vectors.

The 1024 rows of a block are 8 heads of 128 rows. A trip of the kernel's loop treats the heads one after another: it
reads the rows of one head, computes that head's new running maximum, running sum and accumulator, and stores them over
the same rows. Here the eight stores are put together (`glue`) into one vector, so that a trip is a function of the
vectors before it. Everything is stated for any float semantics `F`. -/
module

public import proofs.«01_k».proof.Proof.Gen.KernelIdeal.Skeleton
public import Idealize.ShloMosaic.Lib.WritesUnit
public import Idealize.ShloMosaic.Lib.Pointwise.Index
public import Idealize.ShloMosaic.Lib.Pipeline.FrameBody
public import Idealize.ShloMosaic.Lib.Pipeline.Value

@[expose] public section

set_option maxRecDepth 16384

noncomputable section

namespace Cert.Proof

open Cert.KernelIdeal Cert.KernelIdeal.Gen Idealize.ShloMosaic

/-! ## Rows of one head, and eight heads put together -/

section Rows

variable {N : ℕ} {α : Type}

/-- Rows `[128 h, 128 h + 128)` of a block lie within its 1024 rows. -/
theorem headInb (h : Fin 8) (a : Fin 2) :
    (![128 * h.val, 0] : Fin 2 → ℕ) a + (![128, N] : Fin 2 → ℕ) a ≤ (![1024, N] : Fin 2 → ℕ) a := by
  have hh := h.isLt
  match a with
  | ⟨0, _⟩ => show 128 * h.val + 128 ≤ 1024; omega
  | ⟨1, _⟩ => show 0 + N ≤ N; omega

/-- The rows of head `h`, as a rectangle of the block. -/
abbrev headRect (N : ℕ) (h : Fin 8) : Rect (⟨2, ![1024, N]⟩ : Shape) :=
  Rect.unit (s := (⟨2, ![1024, N]⟩ : Shape)) ![128 * h.val, 0] ![128, N] (headInb h)

/-- The rows of head `h` of a block. -/
def headRows (h : Fin 8) (X : (⟨2, ![1024, N]⟩ : Shape).Idx → α) : (⟨2, ![128, N]⟩ : Shape).Idx → α :=
  fun j => X ((headRect N h).toLoadRect.idx j)

/-- The block whose rows of head `h` are `B h`. -/
def glue (B : Fin 8 → (⟨2, ![128, N]⟩ : Shape).Idx → α) : (⟨2, ![1024, N]⟩ : Shape).Idx → α :=
  fun y => B ⟨(y 0).val / 128, by have : (y 0).val < 1024 := (y 0).isLt; omega⟩
    (ix2 (⟨(y 0).val % 128, Nat.mod_lt _ (by decide)⟩ : Fin 128) (y 1))

/-- A head's rows of eight heads put together are that head's. -/
theorem headRows_glue (h : Fin 8) (B : Fin 8 → (⟨2, ![128, N]⟩ : Shape).Idx → α) : headRows h (glue B) = B h := by
  funext j
  have hj : (j 0).val < 128 := (j 0).isLt
  have e0 : ((headRect N h).toLoadRect.idx j 0).val = 128 * h.val + (j 0).val := by
    show 128 * h.val + 1 * (j 0).val = _; omega
  have e1 : ((headRect N h).toLoadRect.idx j 1) = j 1 := Fin.ext (by show 0 + 1 * (j 1).val = _; omega)
  unfold headRows glue
  have eh : (⟨((headRect N h).toLoadRect.idx j 0).val / 128, by have := h.isLt; omega⟩ : Fin 8) = h :=
    Fin.ext (by show _ / 128 = h.val; rw [e0]; omega)
  have er : (⟨((headRect N h).toLoadRect.idx j 0).val % 128, Nat.mod_lt _ (by decide)⟩ : Fin 128) = j 0 :=
    Fin.ext (by show _ % 128 = (j 0).val; rw [e0]; omega)
  rw [er, e1, eh]
  congr 1
  exact ix2_eta j

end Rows

section Stores

variable {N : ℕ} {sig : RefSig} {κ : Kind} {sp : Space} {e : EltTy} {Val : EltTy → Type}

/-- The eight stores of a trip, newest first: head `h`'s rows hold `B h`. -/
abbrev headPieces (B : Fin 8 → (⟨2, ![128, N]⟩ : Shape).Idx → Val e) : List (View.Piece Val (⟨2, ![1024, N]⟩ : Shape) e) :=
  View.tilePieces (s := (⟨2, ![1024, N]⟩ : Shape)) ![128, N] (fun h : Fin 8 => ![128 * h.val, 0]) headInb B 8 (le_refl 8)

/-- After the eight stores, whatever was there before, the buffer reads the eight heads put together. -/
theorem read_headPieces (v : View sig κ sp (⟨2, ![1024, N]⟩ : Shape) e) (f : v.ty.Contents Val)
    (B : Fin 8 → (⟨2, ![128, N]⟩ : Shape).Idx → Val e) (L : List (View.Piece Val (⟨2, ![1024, N]⟩ : Shape) e)) :
    v.read Val (v.writes Val f (headPieces B ++ L)) = glue B := by
  funext y
  have hy : (y 0).val < 1024 := (y 0).isLt
  rw [View.writes_append]
  exact View.read_tilePieces (s := (⟨2, ![1024, N]⟩ : Shape)) v _ ![128, N] (fun h : Fin 8 => ![128 * h.val, 0]) headInb B 8
    (le_refl 8) y ⟨(y 0).val / 128, by omega⟩ (by show _ / 128 < 8; omega)
    (ix2 (⟨(y 0).val % 128, Nat.mod_lt _ (by decide)⟩ : Fin 128) (y 1))
    (fun a => by
      match a with
      | ⟨0, _⟩ => show (y 0).val = 128 * ((y 0).val / 128) + (y 0).val % 128; omega
      | ⟨1, _⟩ => show (y 1).val = 0 + (y 1).val; omega)
    (0 : Fin 2) (fun h' hne => by
      have : h'.val ≠ (y 0).val / 128 := fun hh => hne (Fin.ext hh)
      show (y 0).val < 128 * h'.val ∨ 128 * h'.val + 128 ≤ (y 0).val
      omega)

/-- The first `j` of the eight stores are those of the heads below `j`. -/
theorem mem_headPieces (B : Fin 8 → (⟨2, ![128, N]⟩ : Shape).Idx → Val e) (j : ℕ) (hj : j ≤ 8)
    (p : View.Piece Val (⟨2, ![1024, N]⟩ : Shape) e) :
    p ∈ View.tilePieces (s := (⟨2, ![1024, N]⟩ : Shape)) ![128, N] (fun h : Fin 8 => ![128 * h.val, 0]) headInb B j hj
      ↔ ∃ h : Fin 8, h.val < j ∧ p = ⟨headRect N h, B h⟩ := by
  induction j with
  | zero => simp [View.tilePieces]
  | succ j ih =>
    rw [View.tilePieces_succ, List.mem_cons, ih]
    constructor
    · rintro (rfl | ⟨h, hh, rfl⟩)
      · exact ⟨⟨j, hj⟩, Nat.lt_succ_self j, rfl⟩
      · exact ⟨h, Nat.lt_succ_of_lt hh, rfl⟩
    · rintro ⟨h, hh, rfl⟩
      rcases Nat.lt_succ_iff_lt_or_eq.mp hh with h' | h'
      · exact .inr ⟨h, h', rfl⟩
      · obtain rfl : h = ⟨j, hj⟩ := Fin.ext h'
        exact .inl rfl

/-- The eight stores' contents as a function of the stores alone. -/
theorem canon_headPieces [∀ e, Nonempty (Val e)] (B : Fin 8 → (⟨2, ![128, N]⟩ : Shape).Idx → Val e) :
    View.canon (headPieces B) = glue B := by
  funext y
  have hy : (y 0).val < 1024 := (y 0).isLt
  refine View.canon_apply_of_pieces _ _ (fun p hp x => ?_) y ?_
  · obtain ⟨h, -, rfl⟩ := (mem_headPieces B 8 (le_refl 8) p).mp hp
    exact (congrFun (headRows_glue h B) x).symm
  · refine ⟨_, (mem_headPieces B 8 (le_refl 8) _).mpr ⟨⟨(y 0).val / 128, by omega⟩, by show _ / 128 < 8; omega, rfl⟩, ?_⟩
    rw [Rect.mem_set_unit]
    intro a
    match a with
    | ⟨0, _⟩ => show 128 * ((y 0).val / 128) ≤ (y 0).val ∧ (y 0).val < 128 * ((y 0).val / 128) + 128; omega
    | ⟨1, _⟩ => exact ⟨Nat.zero_le _, by show (y 1).val < 0 + N; have : (y 1).val < N := (y 1).isLt; omega⟩

/-- A load of head `h`'s rows after the eight stores reads that head's store. -/
theorem readCov_headPieces [∀ e, Nonempty (Val e)] (v : View sig κ sp (⟨2, ![1024, N]⟩ : Shape) e)
    (B : Fin 8 → (⟨2, ![128, N]⟩ : Shape).Idx → Val e) (h : Fin 8) :
    v.readCov (headPieces B) (headRect N h).toLoadRect = B h := by
  rw [View.readCov_eq_canon', canon_headPieces]
  exact headRows_glue h B

/-- A load of the whole block after the eight stores reads the eight heads put together. -/
theorem readCov_headPieces_whole [∀ e, Nonempty (Val e)] (v : View sig κ sp (⟨2, ![1024, N]⟩ : Shape) e)
    (B : Fin 8 → (⟨2, ![128, N]⟩ : Shape).Idx → Val e) (inb) :
    v.readCov (headPieces B) (Rect.unit (s := (⟨2, ![1024, N]⟩ : Shape)) ![0, 0] ![1024, N] inb).toLoadRect = glue B := by
  rw [View.readCov_eq_canon', canon_headPieces]
  funext j
  refine congrArg (glue B) (funext fun a => Fin.ext ?_)
  match a with
  | ⟨0, _⟩ => show 0 + 1 * (j 0).val = (j 0).val; omega
  | ⟨1, _⟩ => show 0 + 1 * (j 1).val = (j 1).val; omega

end Stores

/-! ## One head of one chunk of keys -/

variable {F : FTy → Type} [FloatOps F]

/-- The chunk's logits: queries times keys, scaled. -/
def logits (q : FVec F S1024x384 .bf16) (kk : Vec F S512x384 .bf16) : FVec F S1024x512 .f32 := k0_pay3 q kk

/-- Which of the chunk's keys a row may see: key `512 k + c` for the row of position `t`, when it is at most `t`. -/
def maskAt (t : IVec S128x1 32) (c : IVec S1x512 32) (k : ℕ) : IVec S128x512 1 :=
  cmpi .sle
    (broadcastTo S128x512 (addi (broadcast S1x512 (Scalar.muli (Scf.iv 0#32 1#32 k) 512#32)) c) broadcasts_S1x512_S128x512)
    (broadcastTo S128x512 t broadcasts_S128x1_S128x512)

/-- Slices of 128 rows of a block. -/
theorem headSlices (N : ℕ) (h : Fin 8) :
    (⟨2, ![1024, N]⟩ : Shape).Slices ![128 * h.val, 0] (⟨2, ![128, N]⟩ : Shape) := ⟨rfl, headInb h⟩

/-- A head's logits with the hidden keys at minus infinity. -/
def shB (s : FVec F S1024x512 .f32) (mask : IVec S128x512 1) (h : Fin 8) : FVec F S128x512 .f32 :=
  select mask (extractStridedSlice S128x512 ![128 * h.val, 0] s (headSlices 512 h))
    (broadcast S128x512 (Scalar.ofBits .f32 0xFF800000#32 : F .f32))

/-- A head's new running maximum. -/
def mN (s : FVec F S1024x512 .f32) (mask : IVec S128x512 1) (h : Fin 8) (m : FVec F S128x128 .f32) : FVec F S128x128 .f32 :=
  maximumf m (broadcastTo S128x128 (shapeCast S128x1
    (multiReduction .maximumf [1] S128 (shB s mask h) 0xFF800000#32 reduces_S128x512_S128 (.inl rfl) rfl)
    shapeCasts_S128_S128x1) broadcasts_S128x1_S128x128)

/-- A head's weights: the exponentials of its logits less the new maximum. -/
def pN (s : FVec F S1024x512 .f32) (mask : IVec S128x512 1) (h : Fin 8) (m : FVec F S128x128 .f32) : FVec F S128x512 .f32 :=
  exp (subf (shB s mask h)
    (concatenate S128x512 1 [⟨S128x128, mN s mask h m⟩, ⟨S128x128, mN s mask h m⟩, ⟨S128x128, mN s mask h m⟩, ⟨S128x128, mN s mask h m⟩]
      concatenates_S128x128_S128x128_S128x128_S128x128_S128x512_d1))

/-- The factor by which a head's earlier sum and accumulator shrink. -/
def aN (s : FVec F S1024x512 .f32) (mask : IVec S128x512 1) (h : Fin 8) (m : FVec F S128x128 .f32) : FVec F S128x128 .f32 :=
  exp (subf m (mN s mask h m))

/-- A head's new running sum. -/
def lN (s : FVec F S1024x512 .f32) (mask : IVec S128x512 1) (h : Fin 8) (m l : FVec F S128x128 .f32) : FVec F S128x128 .f32 :=
  addf (mulf (aN s mask h m) l) (broadcastTo S128x128 (shapeCast S128x1
    (multiReduction .add [1] S128 (pN s mask h m) 0x00000000#32 reduces_S128x512_S128 (.inl rfl) rfl)
    shapeCasts_S128_S128x1) broadcasts_S128x1_S128x128)

/-- A head's new accumulator, from the factor `a` and the block's weighted values `pv`. -/
def accN (pv : FVec F S1024x256 .f32) (h : Fin 8) (acc : FVec F S128x256 .f32) (a : FVec F S128x128 .f32) :
    FVec F S128x256 .f32 :=
  addf (mulf acc (concatenate S128x256 1 [⟨S128x128, a⟩, ⟨S128x128, a⟩] concatenates_S128x128_S128x128_S128x256_d1))
    (extractStridedSlice S128x256 ![128 * h.val, 0] pv (headSlices 256 h))

/-! ## One trip over the whole block -/

/-- The block's running maxima after a chunk. -/
def stepM (s : FVec F S1024x512 .f32) (mask : IVec S128x512 1) (M : FVec F S1024x128 .f32) : FVec F S1024x128 .f32 :=
  glue fun h => mN s mask h (headRows h M)

/-- The block's running sums after a chunk. -/
def stepL (s : FVec F S1024x512 .f32) (mask : IVec S128x512 1) (M L : FVec F S1024x128 .f32) : FVec F S1024x128 .f32 :=
  glue fun h => lN s mask h (headRows h M) (headRows h L)

/-- The block's weights of a chunk, narrowed. -/
def stepP (s : FVec F S1024x512 .f32) (mask : IVec S128x512 1) (M : FVec F S1024x128 .f32) : FVec F S1024x512 .bf16 :=
  glue fun h => truncf .bf16 (pN s mask h (headRows h M)) bitsLt_bf16_f32

/-- The block's accumulators after a chunk with keys `kk`. -/
def stepA (kk : Vec F S512x384 .bf16) (s : FVec F S1024x512 .f32) (mask : IVec S128x512 1) (M : FVec F S1024x128 .f32)
    (A : FVec F S1024x256 .f32) : FVec F S1024x256 .f32 :=
  glue fun h => accN (k0_pay73 (k0_pay2 kk) (stepP s mask M)) h (headRows h A) (aN s mask h (headRows h M))

/-! ## The pieces a trip stores, before the stores' casts to their own shape are dropped -/

/-- The stores of the new maxima. -/
def mPieces (s : FVec F S1024x512 .f32) (mask : IVec S128x512 1) (M : FVec F S1024x128 .f32) (h : Fin 8) : FVec F S128x128 .f32 :=
  shapeCast S128x128 (mN s mask h (headRows h M)) shapeCasts_S128x128_S128x128

/-- The stores of the new sums. -/
def lPieces (s : FVec F S1024x512 .f32) (mask : IVec S128x512 1) (M L : FVec F S1024x128 .f32) (h : Fin 8) : FVec F S128x128 .f32 :=
  shapeCast S128x128 (lN s mask h (headRows h M) (headRows h L)) shapeCasts_S128x128_S128x128

/-- The stores of the factors. -/
def aPieces (s : FVec F S1024x512 .f32) (mask : IVec S128x512 1) (M : FVec F S1024x128 .f32) (h : Fin 8) : FVec F S128x128 .f32 :=
  shapeCast S128x128 (aN s mask h (headRows h M)) shapeCasts_S128x128_S128x128

/-- The stores of the weights. -/
def pPieces (s : FVec F S1024x512 .f32) (mask : IVec S128x512 1) (M : FVec F S1024x128 .f32) (h : Fin 8) : FVec F S128x512 .bf16 :=
  shapeCast S128x512 (truncf .bf16 (pN s mask h (headRows h M)) bitsLt_bf16_f32) shapeCasts_S128x512_S128x512

/-- The stores of the accumulators, from the weights `P` and the factors `a` read back. -/
def accPieces (kk : Vec F S512x384 .bf16) (P : FVec F S1024x512 .bf16) (A : FVec F S1024x256 .f32)
    (a : Fin 8 → FVec F S128x128 .f32) (h : Fin 8) : FVec F S128x256 .f32 :=
  shapeCast S128x256 (accN (k0_pay73 (k0_pay2 kk) P) h (headRows h A) (a h)) shapeCasts_S128x256_S128x256

theorem glue_mPieces (s : FVec F S1024x512 .f32) (mask : IVec S128x512 1) (M : FVec F S1024x128 .f32) :
    glue (mPieces s mask M) = stepM s mask M :=
  congrArg glue (funext fun _ => shapeCast_self _ _)

theorem glue_lPieces (s : FVec F S1024x512 .f32) (mask : IVec S128x512 1) (M L : FVec F S1024x128 .f32) :
    glue (lPieces s mask M L) = stepL s mask M L :=
  congrArg glue (funext fun _ => shapeCast_self _ _)

theorem glue_pPieces (s : FVec F S1024x512 .f32) (mask : IVec S128x512 1) (M : FVec F S1024x128 .f32) :
    glue (pPieces s mask M) = stepP s mask M :=
  congrArg glue (funext fun _ => shapeCast_self _ _)

theorem glue_accPieces (kk : Vec F S512x384 .bf16) (s : FVec F S1024x512 .f32) (mask : IVec S128x512 1)
    (M : FVec F S1024x128 .f32) (A : FVec F S1024x256 .f32) :
    glue (accPieces kk (stepP s mask M) A (aPieces s mask M)) = stepA kk s mask M A :=
  congrArg glue (funext fun _ => by
    show shapeCast _ (accN _ _ _ (shapeCast _ _ _)) _ = _
    rw [shapeCast_self, shapeCast_self])

end Cert.Proof

end
-- ==== Proof.Trip.lean ====
/- A trip of the kernel's loop leaves the buffers of running maxima, sums and accumulators as the step functions say,
and so the whole loop leaves them in the state after that many chunks. -/
module

public import proofs.«01_k».proof.Proof.Step
public import proofs.«01_k».proof.Proof.Gen.KernelIdeal.Loops

@[expose] public section

set_option maxRecDepth 16384

noncomputable section

namespace Cert.Proof

open Cert.KernelIdeal Cert.KernelIdeal.Gen Idealize.ShloMosaic Idealize.ShloMosaic.TcCoe

/-- The nine buffers a grid point of the kernel works on: queries, keys, value weights, output, running maxima, running
sums, factors, accumulators, weights. -/
structure Bufs where
  arg2 : Memref sig .tc .vmem S8x128x384 .bf16
  harg2 : arg2.IsWhole
  arg3 : Memref sig .tc .vmem S2048x384 .bf16
  harg3 : arg3.IsWhole
  arg4 : Memref sig .tc .vmem S8x256x512 .bf16
  harg4 : arg4.IsWhole
  arg5 : Memref sig .tc .vmem S128x512 .bf16
  harg5 : arg5.IsWhole
  arg6 : Memref sig .tc .vmem S1024x128 .f32
  harg6 : arg6.IsWhole
  arg7 : Memref sig .tc .vmem S1024x128 .f32
  harg7 : arg7.IsWhole
  arg8 : Memref sig .tc .vmem S1024x128 .f32
  harg8 : arg8.IsWhole
  arg9 : Memref sig .tc .vmem S1024x256 .f32
  harg9 : arg9.IsWhole
  arg10 : Memref sig .tc .vmem S1024x512 .bf16
  harg10 : arg10.IsWhole

/-- The integers of the kernel's body that the loop is handed besides. -/
structure Ints where
  v23 : BitVec 32
  c512 : BitVec 32
  v24 : BitVec 32
  v29 : BitVec 32
  v31 : BitVec 32
  v32 : BitVec 1

variable {F : FTy → Type} [FloatOps F]

/-- The stores of trip `k`. -/
abbrev Bufs.trip (b : Bufs) (z : Ints) (c : Dev nD) (i : grid0.Coords) (q : FVec F S1024x384 .bf16) (t : IVec S128x1 32)
    (col : IVec S1x512 32) (f3 : b.arg3.view.ty.Contents (Elt F)) (k : Fin (k0_t1_loop i).trips) :=
  trip_k0_t1 (F := F) Variants.none c none i b.arg2 b.harg2 b.arg3 b.harg3 b.arg4 b.harg4 b.arg5 b.harg5 b.arg6 b.harg6
    b.arg7 b.harg7 b.arg8 b.harg8 b.arg9 b.harg9 b.arg10 b.harg10 q t col z.v23 z.c512 z.v24 z.v29 z.v31 z.v32 f3 k

/-- The stores of the trips before `k`. -/
abbrev Bufs.trips (b : Bufs) (z : Ints) (c : Dev nD) (i : grid0.Coords) (q : FVec F S1024x384 .bf16) (t : IVec S128x1 32)
    (col : IVec S1x512 32) (f3 : b.arg3.view.ty.Contents (Elt F)) (f6 : b.arg6.view.ty.Contents (Elt F))
    (f7 : b.arg7.view.ty.Contents (Elt F)) (f8 : b.arg8.view.ty.Contents (Elt F)) (f9 : b.arg9.view.ty.Contents (Elt F))
    (f10 : b.arg10.view.ty.Contents (Elt F)) (k : ℕ) :=
  pb_k0_t1 (F := F) Variants.none c none i b.arg2 b.harg2 b.arg3 b.harg3 b.arg4 b.harg4 b.arg5 b.harg5 b.arg6 b.harg6
    b.arg7 b.harg7 b.arg8 b.harg8 b.arg9 b.harg9 b.arg10 b.harg10 q t col z.v23 z.c512 z.v24 z.v29 z.v31 z.v32 f3
    f6 f7 f8 f9 f10 k

variable (b : Bufs) (z : Ints) (c : Dev nD) (i : grid0.Coords) (q : FVec F S1024x384 .bf16) (t : IVec S128x1 32)
  (col : IVec S1x512 32) (f3 : b.arg3.view.ty.Contents (Elt F)) (f6 : b.arg6.view.ty.Contents (Elt F))
  (f7 : b.arg7.view.ty.Contents (Elt F)) (f8 : b.arg8.view.ty.Contents (Elt F)) (f9 : b.arg9.view.ty.Contents (Elt F))
  (f10 : b.arg10.view.ty.Contents (Elt F)) (k : Fin (k0_t1_loop i).trips)

/-- The chunk of keys trip `k` loads. -/
def Bufs.keys : Vec F S512x384 .bf16 :=
  b.arg3.view.readAt (Elt F) (Rect.unit (s := S2048x384) (k0_off1 i k) S512x384.size (k0_off1_inb i k)).toLoadRect f3

theorem trip_m : (b.trip z c i q t col f3 k).1 f6 f7 f8 f9 f10
    = headPieces (mPieces (logits q (b.keys i f3 k)) (maskAt t col k) (b.arg6.view.read (Elt F) f6)) := by
  unfold Bufs.trip trip_k0_t1
  rfl

theorem trip_l : (b.trip z c i q t col f3 k).2.1 f6 f7 f8 f9 f10
    = headPieces (lPieces (logits q (b.keys i f3 k)) (maskAt t col k) (b.arg6.view.read (Elt F) f6) (b.arg7.view.read (Elt F) f7)) := by
  unfold Bufs.trip trip_k0_t1
  rfl

theorem wholeInb (N : ℕ) (a : Fin 2) :
    (![0, 0] : Fin 2 → ℕ) a + (![1024, N] : Fin 2 → ℕ) a ≤ (![1024, N] : Fin 2 → ℕ) a := by
  match a with
  | ⟨0, _⟩ => show 0 + 1024 ≤ 1024; omega
  | ⟨1, _⟩ => show 0 + N ≤ N; omega

theorem trip_acc_loads : (b.trip z c i q t col f3 k).2.2.2.1 f6 f7 f8 f9 f10
    = headPieces (accPieces (b.keys i f3 k)
        (b.arg10.view.readCov (Val := Elt F) (headPieces (pPieces (logits q (b.keys i f3 k)) (maskAt t col k) (b.arg6.view.read (Elt F) f6)))
          (Rect.unit (s := S1024x512) ![0, 0] ![1024, 512] (wholeInb 512)).toLoadRect)
        (b.arg9.view.read (Elt F) f9)
        (fun h => b.arg8.view.readCov (Val := Elt F)
          (headPieces (aPieces (logits q (b.keys i f3 k)) (maskAt t col k) (b.arg6.view.read (Elt F) f6)))
          (headRect 128 h).toLoadRect)) := by
  unfold Bufs.trip trip_k0_t1
  rfl

theorem trip_acc : (b.trip z c i q t col f3 k).2.2.2.1 f6 f7 f8 f9 f10
    = headPieces (accPieces (b.keys i f3 k)
        (stepP (logits q (b.keys i f3 k)) (maskAt t col k) (b.arg6.view.read (Elt F) f6))
        (b.arg9.view.read (Elt F) f9)
        (aPieces (logits q (b.keys i f3 k)) (maskAt t col k) (b.arg6.view.read (Elt F) f6))) := by
  rw [trip_acc_loads, ← glue_pPieces]
  congr 2
  · exact readCov_headPieces_whole _ _ _
  · funext h
    exact readCov_headPieces _ _ h

/-- The keys of chunk `k`, out of all the group's keys. -/
def chunk (K : FVec F S2048x384 .bf16) (k : ℕ) : FVec F S512x384 .bf16 := fun j =>
  K (ix2 (⟨(512 * k + (j 0).val) % 2048, Nat.mod_lt _ (by decide)⟩ : Fin 2048) (j 1))

/-- The running maxima, sums and accumulators after `k` chunks of the keys `K`. -/
def state (q : FVec F S1024x384 .bf16) (t : IVec S128x1 32) (col : IVec S1x512 32) (K : FVec F S2048x384 .bf16) :
    ℕ → FVec F S1024x128 .f32 × FVec F S1024x128 .f32 × FVec F S1024x256 .f32
  | 0 => (k0_pay163, k0_pay164, k0_pay165)
  | k + 1 =>
    let st := state q t col K k
    (stepM (logits q (chunk K k)) (maskAt t col k) st.1, stepL (logits q (chunk K k)) (maskAt t col k) st.1 st.2.1,
      stepA (chunk K k) (logits q (chunk K k)) (maskAt t col k) st.1 st.2.2)

/-- A grid point runs one trip for each 512 keys its rows may see. -/
theorem trips_eq (i : grid0.Coords) : (k0_t1_loop i).trips = (i 1).val / 4 + 1 := by
  revert i
  decide +kernel

/-- Trip `k`'s keys start at row `512 k`. -/
theorem off_eq : k0_off1 i k = ![512 * k.val, 0] := by
  have hk : k.val < 4 := by
    have h := lt_of_lt_of_eq k.isLt (trips_eq i)
    have : (i 1).val < 16 := (i 1).isLt
    omega
  have e : ∀ n : Fin 4, (Scalar.indexCast (Scalar.muli (Scf.iv 0#32 1#32 n.val) 512#32)).toNat = 512 * n.val := by
    decide +kernel
  funext a
  match a with
  | ⟨0, _⟩ => exact e ⟨k.val, hk⟩
  | ⟨1, _⟩ => rfl

/-- The trip's keys are the chunk of that number. -/
theorem keys_eq : b.keys i f3 k = chunk (b.arg3.view.read (Elt F) f3) k := by
  have hk : k.val < 4 := by
    have h := lt_of_lt_of_eq k.isLt (trips_eq i)
    have : (i 1).val < 16 := (i 1).isLt
    omega
  funext j
  have hj : (j 0).val < 512 := (j 0).isLt
  refine congrArg (b.arg3.view.read (Elt F) f3) (funext fun a => Fin.ext ?_)
  match a with
  | ⟨0, _⟩ =>
    show k0_off1 i k 0 + 1 * (j 0).val = (512 * k.val + (j 0).val) % 2048
    rw [off_eq]; show 512 * k.val + 1 * (j 0).val = _; omega
  | ⟨1, _⟩ =>
    show k0_off1 i k 1 + 1 * (j 1).val = (j 1).val
    rw [off_eq]; show 0 + 1 * (j 1).val = _; omega

/-- If before trip `k` the buffers read the state after `k` chunks, the loop being entered with the first state, then so
before every later trip. -/
theorem read_trips (h6 : b.arg6.view.read (Elt F) f6 = k0_pay163) (h7 : b.arg7.view.read (Elt F) f7 = k0_pay164)
    (h9 : b.arg9.view.read (Elt F) f9 = k0_pay165) (n : ℕ) (hn : n ≤ (k0_t1_loop i).trips) :
    b.arg6.view.read (Elt F) (b.arg6.view.writes (Elt F) f6 (b.trips z c i q t col f3 f6 f7 f8 f9 f10 n).1)
        = (state q t col (b.arg3.view.read (Elt F) f3) n).1
    ∧ b.arg7.view.read (Elt F) (b.arg7.view.writes (Elt F) f7 (b.trips z c i q t col f3 f6 f7 f8 f9 f10 n).2.1)
        = (state q t col (b.arg3.view.read (Elt F) f3) n).2.1
    ∧ b.arg9.view.read (Elt F) (b.arg9.view.writes (Elt F) f9 (b.trips z c i q t col f3 f6 f7 f8 f9 f10 n).2.2.2.1)
        = (state q t col (b.arg3.view.read (Elt F) f3) n).2.2 := by
  induction n with
  | zero => exact ⟨h6, h7, h9⟩
  | succ n ih =>
    obtain ⟨i6, i7, i9⟩ := ih (Nat.le_of_succ_le hn)
    have e := pb_k0_t1_succ (F := F) Variants.none c none i b.arg2 b.harg2 b.arg3 b.harg3 b.arg4 b.harg4 b.arg5 b.harg5
      b.arg6 b.harg6 b.arg7 b.harg7 b.arg8 b.harg8 b.arg9 b.harg9 b.arg10 b.harg10 q t col z.v23 z.c512 z.v24 z.v29 z.v31
      z.v32 f3 f6 f7 f8 f9 f10 ⟨n, hn⟩
    refine ⟨?_, ?_, ?_⟩
    · refine (congrArg (fun L => b.arg6.view.read (Elt F) (b.arg6.view.writes (Elt F) f6 L.1)) e).trans ?_
      refine (congrArg (fun L => b.arg6.view.read (Elt F) (b.arg6.view.writes (Elt F) f6 (L ++ _))) (trip_m b z c i q t col f3 _ _ _ _ _ ⟨n, hn⟩)).trans ?_
      rw [read_headPieces, glue_mPieces, i6, keys_eq]
      rfl
    · refine (congrArg (fun L => b.arg7.view.read (Elt F) (b.arg7.view.writes (Elt F) f7 L.2.1)) e).trans ?_
      refine (congrArg (fun L => b.arg7.view.read (Elt F) (b.arg7.view.writes (Elt F) f7 (L ++ _))) (trip_l b z c i q t col f3 _ _ _ _ _ ⟨n, hn⟩)).trans ?_
      rw [read_headPieces, glue_lPieces, i6, i7, keys_eq]
      rfl
    · refine (congrArg (fun L => b.arg9.view.read (Elt F) (b.arg9.view.writes (Elt F) f9 L.2.2.2.1)) e).trans ?_
      refine (congrArg (fun L => b.arg9.view.read (Elt F) (b.arg9.view.writes (Elt F) f9 (L ++ _))) (trip_acc b z c i q t col f3 _ _ _ _ _ ⟨n, hn⟩)).trans ?_
      rw [read_headPieces, glue_accPieces, i6, i9, keys_eq]
      rfl

end Cert.Proof

end
-- ==== Proof.Body.lean ====
/- The kernel's body at one grid point: from its input blocks it leaves, in the output's buffer, the block `outVal` of
them, whatever its scratch held. The pipeline's run and the frame follow. -/
module

public import proofs.«01_k».proof.Proof.Gen.KernelIdeal.Frame
public import proofs.«01_k».proof.Proof.Trip
public import Idealize.ShloMosaic.Lib.Tactic
public import Idealize.ShloMosaic.Lib.Claim
public import Idealize.ShloMosaic.Lib.VecWindow
public import Idealize.ShloMosaic.Lib.Pipeline.TableIdle

@[expose] public section

set_option maxRecDepth 16384

noncomputable section

namespace Cert.Proof

open Cert.KernelIdeal Cert.KernelIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open Idealize.ShloMosaic.Rounds
open Idealize.ShloMosaic.Pipeline (Dat Cfg Window BodyObligation cellOf)
open scoped Idealize.SL.BI

variable {F : FTy → Type} [FloatOps F]

local notation "𝕄" => MT nD τ sig Unit (Elt F) ℕ (UR sig nD τ) ℕ

/-! ## What a grid point computes -/

/-- The column numbers of a chunk of keys. -/
def cols : IVec S1x512 32 := iota .tc S1x512 32 [1] iota_S1x512_d1_w32

theorem wInb (h : Fin 8) (a : Fin 3) : (![h.val, 0, 0] : Fin 3 → ℕ) a + S1x256x512.size a ≤ S8x256x512.size a := by
  have := h.isLt
  match a with
  | ⟨0, _⟩ => show h.val + 1 ≤ 8; omega
  | ⟨1, _⟩ => show 0 + 256 ≤ 256; omega
  | ⟨2, _⟩ => show 0 + 512 ≤ 512; omega

/-- The value weights of head `h`. -/
def wHead (X4 : Vec F S8x256x512 .bf16) (h : Fin 8) : Vec F S1x256x512 .bf16 := fun j =>
  X4 ((Rect.unit (s := S8x256x512) ![h.val, 0, 0] S1x256x512.size (wInb h)).toLoadRect.idx j)

/-- A head's contribution to the output: its accumulator over its sum, narrowed, times its value weights. -/
def outHead (A : FVec F S128x256 .f32) (l : FVec F S128x128 .f32) (w : Vec F S1x256x512 .bf16) : FVec F S128x512 .f32 :=
  matmul dot_S128x256_S256x512_S128x512_1_0_0_1_n_n none
    (truncf .bf16 (divf A (concatenate S128x256 1 [⟨S128x128, l⟩, ⟨S128x128, l⟩] concatenates_S128x128_S128x128_S128x256_d1)) bitsLt_bf16_f32)
    (shapeCast S256x512 w shapeCasts_S1x256x512_S256x512) (constant S128x512 .f32 0x00000000#32)

/-- The heads' contributions added up, narrowed. -/
def outOf (A : Fin 8 → FVec F S128x256 .f32) (l : Fin 8 → FVec F S128x128 .f32) (w : Fin 8 → Vec F S1x256x512 .bf16) :
    FVec F S128x512 .bf16 :=
  truncf .bf16 (addf (addf (addf (addf (addf (addf (addf (outHead (A 0) (l 0) (w 0)) (outHead (A 1) (l 1) (w 1)))
    (outHead (A 2) (l 2) (w 2))) (outHead (A 3) (l 3) (w 3))) (outHead (A 4) (l 4) (w 4))) (outHead (A 5) (l 5) (w 5)))
    (outHead (A 6) (l 6) (w 6))) (outHead (A 7) (l 7) (w 7))) bitsLt_bf16_f32

/-- The body's own grouping of these sums is `outOf`. -/
theorem pays_eq (A : Fin 8 → FVec F S128x256 .f32) (l : Fin 8 → FVec F S128x128 .f32) (w : Fin 8 → Vec F S1x256x512 .bf16) :
    k0_pay1 (k0_pay172 (k0_pay171 (A 0) (l 0) (w 0) (A 1) (l 1) (w 1)) (A 2) (l 2) (w 2) (A 3) (l 3) (w 3) (A 4) (l 4) (w 4))
      (k0_pay173 (A 5) (l 5)) (k0_pay174 (w 5)) (A 6) (l 6) (w 6) (A 7) (l 7) (w 7) = outOf A l w := rfl

/-- The output of the heads' loads is `outOf` of the rows of each head. -/
theorem loads_eq {s4 s7 s9 : Space} (v4 : View sig .tc s4 S8x256x512 .bf16) (v7 : View sig .tc s7 S1024x128 .f32) (v9 : View sig .tc s9 S1024x256 .f32)
  (f4) (L7) (L9) : k0_pay1 (k0_pay172 (k0_pay171 (v9.readCov (Val := Elt F) L9 (Rect.unit (s := S1024x256) ![0, 0] S128x256.size inb_S1024x256_S128x256_0_0).toLoadRect)
 (v7.readCov (Val := Elt F) L7 (Rect.unit (s := S1024x128) ![0, 0] S128x128.size inb_S1024x128_S128x128_0_0).toLoadRect)
 (v4.readAt (Elt F) (Rect.unit (s := S8x256x512) ![0, 0, 0] S1x256x512.size inb_S8x256x512_S1x256x512_0_0_0).toLoadRect f4) (v9.readCov (Val := Elt F) L9 (Rect.unit (s := S1024x256) ![128, 0] S128x256.size inb_S1024x256_S128x256_128_0).toLoadRect)
 (v7.readCov (Val := Elt F) L7 (Rect.unit (s := S1024x128) ![128, 0] S128x128.size inb_S1024x128_S128x128_128_0).toLoadRect)
 (v4.readAt (Elt F) (Rect.unit (s := S8x256x512) ![1, 0, 0] S1x256x512.size inb_S8x256x512_S1x256x512_1_0_0).toLoadRect f4)) (v9.readCov (Val := Elt F) L9 (Rect.unit (s := S1024x256) ![256, 0] S128x256.size inb_S1024x256_S128x256_256_0).toLoadRect)
 (v7.readCov (Val := Elt F) L7 (Rect.unit (s := S1024x128) ![256, 0] S128x128.size inb_S1024x128_S128x128_256_0).toLoadRect)
 (v4.readAt (Elt F) (Rect.unit (s := S8x256x512) ![2, 0, 0] S1x256x512.size inb_S8x256x512_S1x256x512_2_0_0).toLoadRect f4) (v9.readCov (Val := Elt F) L9 (Rect.unit (s := S1024x256) ![384, 0] S128x256.size inb_S1024x256_S128x256_384_0).toLoadRect)
 (v7.readCov (Val := Elt F) L7 (Rect.unit (s := S1024x128) ![384, 0] S128x128.size inb_S1024x128_S128x128_384_0).toLoadRect)
 (v4.readAt (Elt F) (Rect.unit (s := S8x256x512) ![3, 0, 0] S1x256x512.size inb_S8x256x512_S1x256x512_3_0_0).toLoadRect f4) (v9.readCov (Val := Elt F) L9 (Rect.unit (s := S1024x256) ![512, 0] S128x256.size inb_S1024x256_S128x256_512_0).toLoadRect)
 (v7.readCov (Val := Elt F) L7 (Rect.unit (s := S1024x128) ![512, 0] S128x128.size inb_S1024x128_S128x128_512_0).toLoadRect)
 (v4.readAt (Elt F) (Rect.unit (s := S8x256x512) ![4, 0, 0] S1x256x512.size inb_S8x256x512_S1x256x512_4_0_0).toLoadRect f4)) (k0_pay173 (v9.readCov (Val := Elt F) L9 (Rect.unit (s := S1024x256) ![640, 0] S128x256.size inb_S1024x256_S128x256_640_0).toLoadRect)
 (v7.readCov (Val := Elt F) L7 (Rect.unit (s := S1024x128) ![640, 0] S128x128.size inb_S1024x128_S128x128_640_0).toLoadRect)
 ) (k0_pay174 (v4.readAt (Elt F) (Rect.unit (s := S8x256x512) ![5, 0, 0] S1x256x512.size inb_S8x256x512_S1x256x512_5_0_0).toLoadRect f4)) (v9.readCov (Val := Elt F) L9 (Rect.unit (s := S1024x256) ![768, 0] S128x256.size inb_S1024x256_S128x256_768_0).toLoadRect)
 (v7.readCov (Val := Elt F) L7 (Rect.unit (s := S1024x128) ![768, 0] S128x128.size inb_S1024x128_S128x128_768_0).toLoadRect)
 (v4.readAt (Elt F) (Rect.unit (s := S8x256x512) ![6, 0, 0] S1x256x512.size inb_S8x256x512_S1x256x512_6_0_0).toLoadRect f4) (v9.readCov (Val := Elt F) L9 (Rect.unit (s := S1024x256) ![896, 0] S128x256.size inb_S1024x256_S128x256_896_0).toLoadRect)
 (v7.readCov (Val := Elt F) L7 (Rect.unit (s := S1024x128) ![896, 0] S128x128.size inb_S1024x128_S128x128_896_0).toLoadRect)
 (v4.readAt (Elt F) (Rect.unit (s := S8x256x512) ![7, 0, 0] S1x256x512.size inb_S8x256x512_S1x256x512_7_0_0).toLoadRect f4) =
   outOf (fun h => v9.readCov (Val := Elt F) L9 (headRect 256 h).toLoadRect)
      (fun h => v7.readCov (Val := Elt F) L7 (headRect 128 h).toLoadRect) (wHead (View.read (Elt F) v4 f4)) := pays_eq (fun h => v9.readCov (Val := Elt F) L9 (headRect 256 h).toLoadRect) (fun h => v7.readCov (Val := Elt F) L7 (headRect 128 h).toLoadRect) (wHead (View.read (Elt F) v4 f4))

/-- The state of a grid point after its loop: as many chunks as its rows may see. -/
def lastState (i : grid0.Coords) (X2 : Vec F S8x128x384 .bf16) (X3 : Vec F S2048x384 .bf16) :
    FVec F S1024x128 .f32 × FVec F S1024x128 .f32 × FVec F S1024x256 .f32 :=
  state (k0_pay162 X2) (k0_pay166 i) cols X3 ((i 1).val / 4 + 1)

/-- The output block of a grid point, of its queries, keys and value weights. -/
def outVal (i : grid0.Coords) (X2 : Vec F S8x128x384 .bf16) (X3 : Vec F S2048x384 .bf16) (X4 : Vec F S8x256x512 .bf16) :
    Vec F S128x512 .bf16 :=
  outOf (fun h => headRows h (lastState i X2 X3).2.2) (fun h => headRows h (lastState i X2 X3).2.1) (wHead X4)

/-! ## The run of the body -/

/-- The loop that would take up the trips an unrolled loop leaves over has none. -/
theorem trips2_eq (i : grid0.Coords) : (k0_t2_loop i).trips = 0 := by
  revert i
  decide +kernel

/-- The body's integers handed to the loop. -/
def Ints.of (i : grid0.Coords) : Ints where
  v23 := Scalar.subi (Scalar.addi (Scalar.muli (Scalar.addi (BitVec.ofNat 32 (i 1).val) 1#32) 128#32) 512#32) 1#32
  c512 := 512#32
  v24 := Scalar.divsi (Scalar.subi (Scalar.addi (Scalar.muli (Scalar.addi (BitVec.ofNat 32 (i 1).val) 1#32) 128#32) 512#32) 1#32) 512#32
  v29 := Scalar.subi
    (Scalar.extui (Scalar.cmpi .sgt (Scalar.subi (Scalar.addi (Scalar.muli (Scalar.addi (BitVec.ofNat 32 (i 1).val) 1#32) 128#32) 512#32) 1#32) 0#32))
    (Scalar.extui (Scalar.cmpi .slt (Scalar.subi (Scalar.addi (Scalar.muli (Scalar.addi (BitVec.ofNat 32 (i 1).val) 1#32) 128#32) 512#32) 1#32) 0#32))
  v31 := 1#32
  v32 := 0#1

section Out

variable (b : Bufs) (z : Ints) (c : Dev nD) (i : grid0.Coords) (f2 : b.arg2.view.ty.Contents (Elt F))
  (f3 : b.arg3.view.ty.Contents (Elt F)) (f4 : b.arg4.view.ty.Contents (Elt F)) (f8 : b.arg8.view.ty.Contents (Elt F))
  (f10 : b.arg10.view.ty.Contents (Elt F))

/-- The scratch as the loop finds it: maxima at minus infinity, sums and accumulators at zero. -/
def fill6 : List (View.Piece (Elt F) S1024x128 .f32) := [⟨Rect.unit ![0, 0] S1024x128.size inb_S1024x128_S1024x128_0_0, k0_pay163⟩]
def fill7 : List (View.Piece (Elt F) S1024x128 .f32) := [⟨Rect.unit ![0, 0] S1024x128.size inb_S1024x128_S1024x128_0_0, k0_pay164⟩]
def fill9 : List (View.Piece (Elt F) S1024x256 .f32) := [⟨Rect.unit ![0, 0] S1024x256.size inb_S1024x256_S1024x256_0_0, k0_pay165⟩]

/-- The queries the body loads. -/
abbrev Bufs.queries : FVec F S1024x384 .bf16 :=
  k0_pay162 (b.arg2.view.readAt (Elt F) (Rect.unit (s := S8x128x384) ![0, 0, 0] S8x128x384.size inb_S8x128x384_S8x128x384_0_0_0).toLoadRect f2)

/-- The stores of the whole loop. -/
abbrev Bufs.all := b.trips z c i (b.queries f2) (k0_pay166 i) cols f3
  (b.arg6.view.writes (Elt F) b.arg6.view.junk fill6) (b.arg7.view.writes (Elt F) b.arg7.view.junk fill7) f8
  (b.arg9.view.writes (Elt F) b.arg9.view.junk fill9) f10 (k0_t1_loop i).trips

omit z c i f2 f3 f4 f8 f10 in
theorem read_fill6 : b.arg6.view.read (Elt F) (b.arg6.view.writes (Elt F) b.arg6.view.junk fill6) = k0_pay163 :=
  View.read_writes_full _ _ _ _ _

omit z c i f2 f3 f4 f8 f10 in
theorem read_fill7 : b.arg7.view.read (Elt F) (b.arg7.view.writes (Elt F) b.arg7.view.junk fill7) = k0_pay164 :=
  View.read_writes_full _ _ _ _ _

omit z c i f2 f3 f4 f8 f10 in
theorem read_fill9 : b.arg9.view.read (Elt F) (b.arg9.view.writes (Elt F) b.arg9.view.junk fill9) = k0_pay165 :=
  View.read_writes_full _ _ _ _ _

/-- The output as the body computes it from what it loads is `outVal`. -/
theorem out_eq (L) (hL : L = b.all z c i f2 f3 f8 f10) :
    outOf
      (fun h => b.arg9.view.readCov (Val := Elt F) (L.2.2.2.1 ++ fill9) (headRect 256 h).toLoadRect)
      (fun h => b.arg7.view.readCov (Val := Elt F) (L.2.1 ++ fill7) (headRect 128 h).toLoadRect)
      (wHead (b.arg4.view.read (Elt F) f4))
    = outVal i (b.arg2.view.read (Elt F) f2) (b.arg3.view.read (Elt F) f3) (b.arg4.view.read (Elt F) f4) := by
  obtain ⟨-, h7, h9⟩ := read_trips b z c i (b.queries f2) (k0_pay166 i) cols f3 _ _ f8 _ f10
    (read_fill6 b) (read_fill7 b) (read_fill9 b) _ (le_refl _)
  rw [← View.writes_append] at h7 h9
  have hq : k0_pay162 (b.arg2.view.read (Elt F) f2) = b.queries f2 := congrArg k0_pay162 (View.readAt_full _ _ _).symm
  unfold outVal lastState
  rw [hq, ← trips_eq i, ← h7, ← h9]
  change outOf (fun h => headRows h (b.arg9.view.read (Elt F) (b.arg9.view.writes (Elt F) b.arg9.view.junk (L.2.2.2.1 ++ fill9))))
    (fun h => headRows h (b.arg7.view.read (Elt F) (b.arg7.view.writes (Elt F) b.arg7.view.junk (L.2.1 ++ fill7)))) _ = _
  rw [hL]

end Out

set_option maxHeartbeats 800000 in
/-- The body's triple, for any continuation: from the input blocks, whatever the output's buffer and the scratch hold, the
body runs to its end with the inputs as they were and the output block `outVal` of them. -/
theorem kernelRun (c : Dev nD) (i : grid0.Coords) (E : Set ℕ) (b : Bufs) (X2 : FVec F S8x128x384 .bf16) (X3 : FVec F S2048x384 .bf16)
    (X4 : FVec F S8x256x512 .bf16) (Q : PUnit → sProp 𝕄) :
    iprop(owns (c : Thread nD τ) b.arg2 fullShare X2 ∗ owns (c : Thread nD τ) b.arg3 fullShare X3
      ∗ owns (c : Thread nD τ) b.arg4 fullShare X4 ∗ (∃ d, owns (c : Thread nD τ) b.arg5 fullShare d)
      ∗ (∃ d, owns (c : Thread nD τ) b.arg6 fullShare d) ∗ (∃ d, owns (c : Thread nD τ) b.arg7 fullShare d)
      ∗ (∃ d, owns (c : Thread nD τ) b.arg8 fullShare d) ∗ (∃ d, owns (c : Thread nD τ) b.arg9 fullShare d)
      ∗ (∃ d, owns (c : Thread nD τ) b.arg10 fullShare d)
      ∗ (iprop(owns (c : Thread nD τ) b.arg2 fullShare X2 ∗ owns (c : Thread nD τ) b.arg3 fullShare X3
        ∗ owns (c : Thread nD τ) b.arg4 fullShare X4 ∗ owns (c : Thread nD τ) b.arg5 fullShare (outVal i X2 X3 X4)
        ∗ (∃ d, owns (c : Thread nD τ) b.arg6 fullShare d) ∗ (∃ d, owns (c : Thread nD τ) b.arg7 fullShare d)
        ∗ (∃ d, owns (c : Thread nD τ) b.arg8 fullShare d) ∗ (∃ d, owns (c : Thread nD τ) b.arg9 fullShare d)
        ∗ (∃ d, owns (c : Thread nD τ) b.arg10 fullShare d)) -∗ Q ⟨⟩))
      ⊢ wp frame (wpE (defs₀ (F := F)) Variants.none c none) E (cc0_mla_prompt i b.arg2 b.harg2 b.arg3 b.harg3 b.arg4 b.harg4
          b.arg5 b.harg5 b.arg6 b.harg6 b.arg7 b.harg7 b.arg8 b.harg8 b.arg9 b.harg9 b.arg10 b.harg10) Q := by
  obtain ⟨arg2, harg2, arg3, harg3, arg4, harg4, arg5, harg5, arg6, harg6, arg7, harg7, arg8, harg8, arg9, harg9, arg10, harg10⟩ := b
  simp only [cc0_mla_prompt_eq_skeleton]; unfold cc0_mla_prompt_skel; unfold owns
  iintro ⟨⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst e2 e3 e4
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (View.read_writes_eq_canon _ _ _ (fun y => ⟨_, List.mem_singleton_self _, by
      rw [Rect.mem_set_unit]
      intro a
      match a with
      | ⟨0, _⟩ => exact ⟨Nat.zero_le _, (show (y 0).val < 0 + 128 from by have : (y 0).val < 128 := (y 0).isLt; omega)⟩
      | ⟨1, _⟩ => exact ⟨Nat.zero_le _, (show (y 1).val < 0 + 512 from by have : (y 1).val < 512 := (y 1).isLt; omega)⟩⟩)).trans ?_
    refine (View.canon_cons_unit_zero (by funext a; match a with | ⟨0, _⟩ => rfl | ⟨1, _⟩ => rfl) _ _ _).trans ?_
    have hL : pb_k0_t1 Variants.none c none i arg2 harg2 arg3 harg3 arg4 harg4 arg5 harg5 arg6 harg6 arg7 harg7 arg8 harg8 arg9 harg9
        arg10 harg10 (kernelRun.sl.r c arg2 f2) (k0_pay166 i) kernelRun.sl.v19 (kernelRun.sl.v23 i) (512#32) (kernelRun.sl.v24 i)
        (kernelRun.sl.v29 i) (1#32) (0#1) f3 (arg6.view.writes (Elt F) arg6.view.junk kernelRun.sl.H6_1)
        (arg7.view.writes (Elt F) arg7.view.junk kernelRun.sl.H7_1) f8 (arg9.view.writes (Elt F) arg9.view.junk kernelRun.sl.H9_1) f10
        (Scf.trips (k0_t1_loop i).lb (k0_t1_loop i).ub (k0_t1_loop i).st)
      = Bufs.all ⟨arg2, harg2, arg3, harg3, arg4, harg4, arg5, harg5, arg6, harg6, arg7, harg7, arg8, harg8, arg9, harg9, arg10, harg10⟩
          (Ints.of i) c i f2 f3 f8 f10 := rfl
    have h0 : Scf.trips (k0_t2_loop i).lb (k0_t2_loop i).ub (k0_t2_loop i).st = 0 := trips2_eq i
    refine Eq.trans ?_ (out_eq ⟨arg2, harg2, arg3, harg3, arg4, harg4, arg5, harg5, arg6, harg6, arg7, harg7, arg8, harg8, arg9, harg9, arg10, harg10⟩ (Ints.of i) c i f2 f3 f4 f8 f10 _ hL)
    clear hL
    delta kernelRun.sl.r_2 kernelRun.sl.r_3 kernelRun.sl.r_4 kernelRun.sl.r_1 kernelRun.sl.v99 kernelRun.sl.v100 kernelRun.sl.v108 kernelRun.sl.v109
      kernelRun.sl.v46 kernelRun.sl.v47 kernelRun.sl.v54 kernelRun.sl.v55 kernelRun.sl.v63 kernelRun.sl.v64 kernelRun.sl.v72
      kernelRun.sl.v73 kernelRun.sl.v81 kernelRun.sl.v82 kernelRun.sl.v90 kernelRun.sl.v91
    rw [h0]
    generalize Scf.trips (k0_t1_loop i).lb (k0_t1_loop i).ub (k0_t1_loop i).st = n
    simp (config := { proj := false }) only [pb_k0_t2]
    generalize pb_k0_t1 Variants.none c none i arg2 harg2 arg3 harg3 arg4 harg4 arg5 harg5 arg6 harg6 arg7 harg7 arg8 harg8 arg9 harg9
        arg10 harg10 (kernelRun.sl.r c arg2 f2) (k0_pay166 i) kernelRun.sl.v19 (kernelRun.sl.v23 i) (512#32) (kernelRun.sl.v24 i)
        (kernelRun.sl.v29 i) (1#32) (0#1) f3 (arg6.view.writes (Elt F) arg6.view.junk kernelRun.sl.H6_1)
        (arg7.view.writes (Elt F) arg7.view.junk kernelRun.sl.H7_1) f8 (arg9.view.writes (Elt F) arg9.view.junk kernelRun.sl.H9_1) f10 n = L
    have s7 : kernelRun.sl.H7_1 (F := F) = fill7 := rfl
    have a5 : kernelRun.sl.H9_1 = fill9 (F := F) := rfl
    rw [s7, a5]
    simp (config := { proj := true }) only [List.nil_append]
    exact loads_eq arg4.view arg7.view arg9.view f4 (L.2.1 ++ fill7) (L.2.2.2.1 ++ fill9)
  isplitl [H6]; · iexists _; iexists _; isplitr
                  swap; · iexact H6
                  ipureintro; rfl
  isplitl [H7]; · iexists _; iexists _; isplitr
                  swap; · iexact H7
                  ipureintro; rfl
  isplitl [H8]; · iexists _; iexists _; isplitr
                  swap; · iexact H8
                  ipureintro; rfl
  isplitl [H9]; · iexists _; iexists _; isplitr
                  swap; · iexact H9
                  ipureintro; rfl
  iexists _; iexists _; isplitr
  swap; · iexact H10
  ipureintro; rfl

/-! ## The pipeline's proof data -/

variable (m : (ℓ : Loc nD τ sig) → Buf (Elt F) ℓ) (ρ : Dev nD → PrngReg)

/-- The proof data of the pipeline on core `c`: the arrays as the region finds them, each input's buffer at its block, the
output's at `outVal` of the input blocks, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outVal (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outVal (grid0.coords t) (iblk m c 0 t) (iblk m c 1 t) (iblk m c 2 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The buffers of the body at point `t`. -/
abbrev bufsAt (t : Fin cfg0.N) : Bufs := ⟨(win0_0.stage (cfg0.slots t 0)), (hstage0_0 ((cfg0.slots t 0).cast nbuf0_0)), (win0_1.stage (cfg0.slots t 1)), (hstage0_1 ((cfg0.slots t 1).cast nbuf0_1)), (win0_2.stage (cfg0.slots t 2)), (hstage0_2 ((cfg0.slots t 2).cast nbuf0_2)), (win0_3.stage (cfg0.slots t 3)), (hstage0_3 ((cfg0.slots t 3).cast nbuf0_3)), (Memref.whole cc0_scratch0), (Memref.isWhole_whole _), (Memref.whole cc0_scratch1), (Memref.isWhole_whole _), (Memref.whole cc0_scratch2), (Memref.isWhole_whole _), (Memref.whole cc0_scratch3), (Memref.isWhole_whole _), (Memref.whole cc0_scratch4), (Memref.isWhole_whole _)⟩

/-- The scratch, each buffer at some contents, and the generator register. -/
theorem inv_eq (c : Dev nD) :
    (Pipeline.ΦA spec0 c : sProp 𝕄)
      = iprop(iprop((∃ d, owns (c : Thread nD τ) (Memref.whole cc0_scratch0 : Memref sig .tc .vmem S1024x128 .f32) fullShare d)
          ∗ (∃ d, owns (c : Thread nD τ) (Memref.whole cc0_scratch1 : Memref sig .tc .vmem S1024x128 .f32) fullShare d)
          ∗ (∃ d, owns (c : Thread nD τ) (Memref.whole cc0_scratch2 : Memref sig .tc .vmem S1024x128 .f32) fullShare d)
          ∗ (∃ d, owns (c : Thread nD τ) (Memref.whole cc0_scratch3 : Memref sig .tc .vmem S1024x256 .f32) fullShare d)
          ∗ (∃ d, owns (c : Thread nD τ) (Memref.whole cc0_scratch4 : Memref sig .tc .vmem S1024x512 .bf16) fullShare d))
          ∗ (∃ r, prngReg c r)) := by
  unfold Pipeline.ΦA; rw [scopedRest0_eq]; simp only [owns_whole]; try rfl

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq, after0_0, after0_1, after0_2, after0_3]
  iintro ⟨⟨⟨HA, HB, HC, HD, HE⟩, Hg⟩, Ho, ⟨%d0, H0⟩, ⟨%d1, H1⟩, ⟨%d2, H2⟩, ⟨%d3, H3⟩⟩
  iapply (kernelRun c (grid0.coords t) Set.univ (bufsAt t) (iblk m c 0 t) (iblk m c 1 t) (iblk m c 2 t) _)
  isplitl [H0]; · iexact H0
  isplitl [H1]; · iexact H1
  isplitl [H2]; · iexact H2
  isplitl [H3]; · iexists _; iexact H3
  isplitl [HA]; · iexact HA
  isplitl [HB]; · iexact HB
  isplitl [HC]; · iexact HC
  isplitl [HD]; · iexact HD
  isplitl [HE]; · iexact HE
  iintro ⟨H0, H1, H2, H3, HA, HB, HC, HD, HE⟩
  isplitl [HA HB HC HD HE Hg]
  · isplitl [HA HB HC HD HE]
    · isplitl [HA]; · iexact HA
      isplitl [HB]; · iexact HB
      isplitl [HC]; · iexact HC
      isplitl [HD]; · iexact HD
      iexact HE
    · iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the arrays as the proof data says and all counters at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof

end
-- ==== Proof.Frames.lean ====
/- The frame claims: kernel, ideal kernel and reference end with their arguments unchanged and every counter at zero. -/
module

public import proofs.«01_k».proof.Defs
public import proofs.«01_k».proof.Proof.Same
public import proofs.«01_k».proof.Proof.Gen.ReferenceIdeal.Run
public import proofs.«01_k».proof.Proof.Body

@[expose] public section

noncomputable section

namespace Cert.Proof

open Idealize.ShloMosaic Idealize.SL.Sem

/-- The shape relations that the precondition's operations take. -/
theorem pre_facts : Cert.Pre_finite_inputs.Facts :=
  ⟨by decide, by decide, by decide, by decide, by decide, by decide, by decide, by decide, by decide⟩

theorem frame_kernel : Cert.quiescent_Kernel := fun m ρ _ => by
  rw [defs_eq, main_eq]
  exact frame_main (F := Bits) m ρ

theorem frame_kernelIdeal : Cert.quiescent_KernelIdeal := fun m ρ _ => frame_main (F := Ideal) m ρ

theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

end Cert.Proof

end
-- ==== Proof.HostTerms.lean ====
/-
The terms of the region's three input arrays, over the arguments.

The queries' array stacks one matrix per head: the head's latent query, and beside it 128 lanes
of four heads' rotary queries of which only the head's own 32 are kept. The keys' array holds
the latents and, beside them, the rotary key four times over. The value weights' array holds
each head's weights in that head's own 64 columns of 512, and zero elsewhere.
-/
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.Proof

open Cert.KernelIdeal Cert.KernelIdeal.Gen Idealize.ShloMosaic Idealize.ShloMosaic.TcCoe

variable {F : FTy → Type} [FloatOps F]

/-- The quotient by 32 of each of 128 lane numbers, rounded down. -/
def laneGroup : IVec S1x128 32 :=
  select (andi (cmpi .ne (signi (iotaInDim S1x128 32 1)) (broadcastInDim S1x128 ![] bcast_S_S1x128 (signi (id (constantI S_ 32 32#32)))))
      (cmpi .ne (Host.remsi (iotaInDim S1x128 32 1) (broadcastInDim S1x128 ![] bcast_S_S1x128 (id (constantI S_ 32 32#32))))
        (broadcastInDim S1x128 ![] bcast_S_S1x128 (constantI S_ 32 0#32))))
    (subi (Host.divsi (iotaInDim S1x128 32 1) (broadcastInDim S1x128 ![] bcast_S_S1x128 (id (constantI S_ 32 32#32))))
      (broadcastInDim S1x128 ![] bcast_S_S1x128 (constantI S_ 32 1#32)))
    (Host.divsi (iotaInDim S1x128 32 1) (broadcastInDim S1x128 ![] bcast_S_S1x128 (id (constantI S_ 32 32#32))))

/-- One head's queries: its latent query, columns `o` on, and the rotary queries of the four heads from column `p` on, of
    which the 32 of group `g` are kept. -/
def qHead (a0 : Vec F S8x2048x8x256 .f32) (a1 : Vec F S8x2048x8x32 .f32) (o p : ℕ) (g : BitVec 32)
    (ho : S16384x2048.Slices ![0, o] S16384x256) (hp : S16384x256.Slices ![0, p] S16384x128) : Vec F S16384x384 .bf16 :=
  concatenate S16384x384 1
    [⟨S16384x256, truncf .bf16 (extractStridedSlice S16384x256 ![0, o] (shapeCast S16384x2048 a0 shapeCasts_S8x2048x8x256_S16384x2048) ho) bitsLt_bf16_f32⟩,
     ⟨S16384x128, truncf .bf16 (select (broadcastInDim S16384x128 ![0, 1] bcast_S1x128_S16384x128_0_1
          (cmpi .eq laneGroup (broadcastInDim S1x128 ![] bcast_S_S1x128 (constantI S_ 32 g))))
        (extractStridedSlice S16384x128 ![0, p] (shapeCast S16384x256 a1 shapeCasts_S8x2048x8x32_S16384x256) hp)
        (broadcastInDim S16384x128 ![] bcast_S_S16384x128 (id (constant S_ .f32 0x00000000#32)))) bitsLt_bf16_f32⟩]
    concatenates_S16384x256_S16384x128_S16384x384_d1

/-- A head's queries as a slab of one. -/
def qSlab (x : Vec F S16384x384 .bf16) : Vec F S1x16384x384 .bf16 :=
  broadcastInDim S1x16384x384 ![1, 2] bcast_S16384x384_S1x16384x384_1_2 x

/-- The pair of start indices of a head's value weights: the head, and its first column. -/
def startPair (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- One head's value weights written into its columns. -/
def wStep (w : Vec F S8x256x64 .f32) (h : ℕ) (a b : BitVec 32) (hh : S8x256x64.Slices ![h, 0, 0] S1x256x64)
    (x : Vec F S8x256x512 .f32) : Vec F S8x256x512 .f32 :=
  Host.scatter scatter_S8x256x512_S2_S256x64_01_0_02_0 (fun _ b => b) x (startPair a b)
    (shapeCast S256x64 (extractStridedSlice S1x256x64 ![h, 0, 0] w hh) shapeCasts_S1x256x64_S256x64)

/-- The value weights' array before any head is written: zero. -/
def wZero : Vec F S8x256x512 .f32 := broadcastInDim S8x256x512 ![] bcast_S_S8x256x512 (constant S_ .f32 0x00000000#32)

end Cert.Proof

end
-- ==== Proof.HostSeg.lean ====
/-
The host operations before the region, head by head.

The queries of each head are made by a stretch of operations of their own (`seg0` to `seg7`);
a last stretch stacks them and makes the keys' and the value weights' arrays. Each lemma here
reads one buffer after one stretch, from whatever the buffers held before it.
-/
module

public import proofs.«01_k».proof.Proof.HostTerms

@[expose] public section

set_option maxRecDepth 16384

noncomputable section

namespace Cert.Proof

open Cert.KernelIdeal Cert.KernelIdeal.Gen Idealize.ShloMosaic Idealize.ShloMosaic.TcCoe Idealize.ShloMosaic.StableHlo

variable {F : FTy → Type} [FloatOps F]

/-- The rotary queries of four heads, all but those of group `g` at zero. -/
def ropeOf (x : Vec F S16384x256 .f32) (p : ℕ) (g : BitVec 32) (hp : S16384x256.Slices ![0, p] S16384x128) : Vec F S16384x128 .f32 :=
  select (broadcastInDim S16384x128 ![0, 1] bcast_S1x128_S16384x128_0_1
      (cmpi .eq laneGroup (broadcastInDim S1x128 ![] bcast_S_S1x128 (constantI S_ 32 g))))
    (extractStridedSlice S16384x128 ![0, p] x hp)
    (broadcastInDim S16384x128 ![] bcast_S_S16384x128 (id (constant S_ .f32 0x00000000#32)))

/-- A head's latent queries. -/
def latOf (x : Vec F S16384x2048 .f32) (o : ℕ) (ho : S16384x2048.Slices ![0, o] S16384x256) : Vec F S16384x256 .bf16 :=
  truncf .bf16 (extractStridedSlice S16384x256 ![0, o] x ho) bitsLt_bf16_f32

/-- A head's latent and rotary queries side by side. -/
def catOf (l : Vec F S16384x256 .bf16) (r : Vec F S16384x128 .f32) : Vec F S16384x384 .bf16 :=
  concatenate S16384x384 1 [⟨S16384x256, l⟩, ⟨S16384x128, truncf .bf16 r bitsLt_bf16_f32⟩] concatenates_S16384x256_S16384x128_S16384x384_d1

/-- The operations that make head 0's queries. -/
def seg0 : List (HloOp τ sig (Elt F)) := hostOps0 ++ hostOps0_1 ++ hostOps0_2 ++ hostOps0_3

/-- The operations that make head 1's queries, after joining head 0's. -/
def seg1 : List (HloOp τ sig (Elt F)) := hostOps0_4 ++ hostOps0_5 ++ hostOps0_6 ++ hostOps0_7

/-- The operations that make head 2's queries, after joining head 1's. -/
def seg2 : List (HloOp τ sig (Elt F)) := hostOps0_8 ++ hostOps0_9 ++ hostOps0_10 ++ hostOps0_11

/-- The operations that make head 3's queries, after joining head 2's. -/
def seg3 : List (HloOp τ sig (Elt F)) := hostOps0_12 ++ hostOps0_13 ++ hostOps0_14 ++ hostOps0_15

/-- The operations that make head 4's queries, after joining head 3's. -/
def seg4 : List (HloOp τ sig (Elt F)) := hostOps0_16 ++ hostOps0_17 ++ hostOps0_18 ++ hostOps0_19

/-- The operations that make head 5's queries, after joining head 4's. -/
def seg5 : List (HloOp τ sig (Elt F)) := hostOps0_20 ++ hostOps0_21 ++ hostOps0_22 ++ hostOps0_23

/-- The operations that make head 6's queries, after joining head 5's. -/
def seg6 : List (HloOp τ sig (Elt F)) := hostOps0_24 ++ hostOps0_25 ++ hostOps0_26 ++ hostOps0_27

/-- The operations that make head 7's queries, after joining head 6's. -/
def seg7 : List (HloOp τ sig (Elt F)) := hostOps0_28 ++ hostOps0_29 ++ hostOps0_30 ++ hostOps0_31

/-- The last operations before the region. -/
def seg8 : List (HloOp τ sig (Elt F)) := hostOps0_32

variable (W : Valuation τ sig (Elt F))

theorem seg0_arg2 : after seg0 W (Proc.devRef .tc main_arg2) = W (Proc.devRef .tc main_arg2) := by
  unfold seg0
  after_reads_simp
  <;> rfl

theorem seg0_arg3 : after seg0 W (Proc.devRef .tc main_arg3) = W (Proc.devRef .tc main_arg3) := by
  unfold seg0
  after_reads_simp
  <;> rfl

theorem seg0_arg4 : after seg0 W (Proc.devRef .tc main_arg4) = W (Proc.devRef .tc main_arg4) := by
  unfold seg0
  after_reads_simp
  <;> rfl

theorem seg0_q : after seg0 W (Proc.devRef .tc main_v0) = shapeCast S16384x2048 (W (Proc.devRef .tc main_arg0) : Vec F S8x2048x8x256 .f32) shapeCasts_S8x2048x8x256_S16384x2048 := by
  unfold seg0
  after_reads_simp
  <;> rfl

theorem seg0_r : after seg0 W (Proc.devRef .tc main_v1) = shapeCast S16384x256 (W (Proc.devRef .tc main_arg1) : Vec F S8x2048x8x32 .f32) shapeCasts_S8x2048x8x32_S16384x256 := by
  unfold seg0
  after_reads_simp
  <;> rfl

theorem seg0_lat : after seg0 W (Proc.devRef .tc main_v3) = latOf (shapeCast S16384x2048 (W (Proc.devRef .tc main_arg0) : Vec F S8x2048x8x256 .f32) shapeCasts_S8x2048x8x256_S16384x2048) 0 slices_S16384x2048_S16384x256_0_0 := by
  unfold seg0
  after_reads_simp
  <;> rfl

theorem seg0_rope : after seg0 W (Proc.devRef .tc main_v9) = ropeOf (shapeCast S16384x256 (W (Proc.devRef .tc main_arg1) : Vec F S8x2048x8x32 .f32) shapeCasts_S8x2048x8x32_S16384x256) 0 0#32 slices_S16384x256_S16384x128_0_0 := by
  unfold seg0
  after_reads_simp
  <;> rfl

theorem seg1_arg2 : after seg1 W (Proc.devRef .tc main_arg2) = W (Proc.devRef .tc main_arg2) := by
  unfold seg1
  after_reads_simp
  <;> rfl

theorem seg1_arg3 : after seg1 W (Proc.devRef .tc main_arg3) = W (Proc.devRef .tc main_arg3) := by
  unfold seg1
  after_reads_simp
  <;> rfl

theorem seg1_arg4 : after seg1 W (Proc.devRef .tc main_arg4) = W (Proc.devRef .tc main_arg4) := by
  unfold seg1
  after_reads_simp
  <;> rfl

theorem seg1_q : after seg1 W (Proc.devRef .tc main_v0) = W (Proc.devRef .tc main_v0) := by
  unfold seg1
  after_reads_simp
  <;> rfl

theorem seg1_r : after seg1 W (Proc.devRef .tc main_v1) = W (Proc.devRef .tc main_v1) := by
  unfold seg1
  after_reads_simp
  <;> rfl

theorem seg1_lat : after seg1 W (Proc.devRef .tc main_v13) = latOf (W (Proc.devRef .tc main_v0)) 256 slices_S16384x2048_S16384x256_0_256 := by
  unfold seg1
  after_reads_simp
  <;> rfl

theorem seg1_rope : after seg1 W (Proc.devRef .tc main_v19) = ropeOf (W (Proc.devRef .tc main_v1)) 0 1#32 slices_S16384x256_S16384x128_0_0 := by
  unfold seg1
  after_reads_simp
  <;> rfl

theorem seg1_cat : after seg1 W (Proc.devRef .tc main_v11) = catOf (W (Proc.devRef .tc main_v3)) (W (Proc.devRef .tc main_v9)) := by
  unfold seg1
  after_reads_simp
  <;> rfl

theorem seg2_arg2 : after seg2 W (Proc.devRef .tc main_arg2) = W (Proc.devRef .tc main_arg2) := by
  unfold seg2
  after_reads_simp
  <;> rfl

theorem seg2_arg3 : after seg2 W (Proc.devRef .tc main_arg3) = W (Proc.devRef .tc main_arg3) := by
  unfold seg2
  after_reads_simp
  <;> rfl

theorem seg2_arg4 : after seg2 W (Proc.devRef .tc main_arg4) = W (Proc.devRef .tc main_arg4) := by
  unfold seg2
  after_reads_simp
  <;> rfl

theorem seg2_q : after seg2 W (Proc.devRef .tc main_v0) = W (Proc.devRef .tc main_v0) := by
  unfold seg2
  after_reads_simp
  <;> rfl

theorem seg2_r : after seg2 W (Proc.devRef .tc main_v1) = W (Proc.devRef .tc main_v1) := by
  unfold seg2
  after_reads_simp
  <;> rfl

theorem seg2_lat : after seg2 W (Proc.devRef .tc main_v23) = latOf (W (Proc.devRef .tc main_v0)) 512 slices_S16384x2048_S16384x256_0_512 := by
  unfold seg2
  after_reads_simp
  <;> rfl

theorem seg2_rope : after seg2 W (Proc.devRef .tc main_v29) = ropeOf (W (Proc.devRef .tc main_v1)) 0 2#32 slices_S16384x256_S16384x128_0_0 := by
  unfold seg2
  after_reads_simp
  <;> rfl

theorem seg2_cat : after seg2 W (Proc.devRef .tc main_v21) = catOf (W (Proc.devRef .tc main_v13)) (W (Proc.devRef .tc main_v19)) := by
  unfold seg2
  after_reads_simp
  <;> rfl

theorem seg2_keep0 : after seg2 W (Proc.devRef .tc main_v11) = W (Proc.devRef .tc main_v11) := by
  unfold seg2
  after_reads_simp
  <;> rfl

theorem seg3_arg2 : after seg3 W (Proc.devRef .tc main_arg2) = W (Proc.devRef .tc main_arg2) := by
  unfold seg3
  after_reads_simp
  <;> rfl

theorem seg3_arg3 : after seg3 W (Proc.devRef .tc main_arg3) = W (Proc.devRef .tc main_arg3) := by
  unfold seg3
  after_reads_simp
  <;> rfl

theorem seg3_arg4 : after seg3 W (Proc.devRef .tc main_arg4) = W (Proc.devRef .tc main_arg4) := by
  unfold seg3
  after_reads_simp
  <;> rfl

theorem seg3_q : after seg3 W (Proc.devRef .tc main_v0) = W (Proc.devRef .tc main_v0) := by
  unfold seg3
  after_reads_simp
  <;> rfl

theorem seg3_r : after seg3 W (Proc.devRef .tc main_v1) = W (Proc.devRef .tc main_v1) := by
  unfold seg3
  after_reads_simp
  <;> rfl

theorem seg3_lat : after seg3 W (Proc.devRef .tc main_v33) = latOf (W (Proc.devRef .tc main_v0)) 768 slices_S16384x2048_S16384x256_0_768 := by
  unfold seg3
  after_reads_simp
  <;> rfl

theorem seg3_rope : after seg3 W (Proc.devRef .tc main_v39) = ropeOf (W (Proc.devRef .tc main_v1)) 0 3#32 slices_S16384x256_S16384x128_0_0 := by
  unfold seg3
  after_reads_simp
  <;> rfl

theorem seg3_cat : after seg3 W (Proc.devRef .tc main_v31) = catOf (W (Proc.devRef .tc main_v23)) (W (Proc.devRef .tc main_v29)) := by
  unfold seg3
  after_reads_simp
  <;> rfl

theorem seg3_keep0 : after seg3 W (Proc.devRef .tc main_v11) = W (Proc.devRef .tc main_v11) := by
  unfold seg3
  after_reads_simp
  <;> rfl

theorem seg3_keep1 : after seg3 W (Proc.devRef .tc main_v21) = W (Proc.devRef .tc main_v21) := by
  unfold seg3
  after_reads_simp
  <;> rfl

theorem seg4_arg2 : after seg4 W (Proc.devRef .tc main_arg2) = W (Proc.devRef .tc main_arg2) := by
  unfold seg4
  after_reads_simp
  <;> rfl

theorem seg4_arg3 : after seg4 W (Proc.devRef .tc main_arg3) = W (Proc.devRef .tc main_arg3) := by
  unfold seg4
  after_reads_simp
  <;> rfl

theorem seg4_arg4 : after seg4 W (Proc.devRef .tc main_arg4) = W (Proc.devRef .tc main_arg4) := by
  unfold seg4
  after_reads_simp
  <;> rfl

theorem seg4_q : after seg4 W (Proc.devRef .tc main_v0) = W (Proc.devRef .tc main_v0) := by
  unfold seg4
  after_reads_simp
  <;> rfl

theorem seg4_r : after seg4 W (Proc.devRef .tc main_v1) = W (Proc.devRef .tc main_v1) := by
  unfold seg4
  after_reads_simp
  <;> rfl

theorem seg4_lat : after seg4 W (Proc.devRef .tc main_v43) = latOf (W (Proc.devRef .tc main_v0)) 1024 slices_S16384x2048_S16384x256_0_1024 := by
  unfold seg4
  after_reads_simp
  <;> rfl

theorem seg4_rope : after seg4 W (Proc.devRef .tc main_v49) = ropeOf (W (Proc.devRef .tc main_v1)) 128 0#32 slices_S16384x256_S16384x128_0_128 := by
  unfold seg4
  after_reads_simp
  <;> rfl

theorem seg4_cat : after seg4 W (Proc.devRef .tc main_v41) = catOf (W (Proc.devRef .tc main_v33)) (W (Proc.devRef .tc main_v39)) := by
  unfold seg4
  after_reads_simp
  <;> rfl

theorem seg4_keep0 : after seg4 W (Proc.devRef .tc main_v11) = W (Proc.devRef .tc main_v11) := by
  unfold seg4
  after_reads_simp
  <;> rfl

theorem seg4_keep1 : after seg4 W (Proc.devRef .tc main_v21) = W (Proc.devRef .tc main_v21) := by
  unfold seg4
  after_reads_simp
  <;> rfl

theorem seg4_keep2 : after seg4 W (Proc.devRef .tc main_v31) = W (Proc.devRef .tc main_v31) := by
  unfold seg4
  after_reads_simp
  <;> rfl

theorem seg5_arg2 : after seg5 W (Proc.devRef .tc main_arg2) = W (Proc.devRef .tc main_arg2) := by
  unfold seg5
  after_reads_simp
  <;> rfl

theorem seg5_arg3 : after seg5 W (Proc.devRef .tc main_arg3) = W (Proc.devRef .tc main_arg3) := by
  unfold seg5
  after_reads_simp
  <;> rfl

theorem seg5_arg4 : after seg5 W (Proc.devRef .tc main_arg4) = W (Proc.devRef .tc main_arg4) := by
  unfold seg5
  after_reads_simp
  <;> rfl

theorem seg5_q : after seg5 W (Proc.devRef .tc main_v0) = W (Proc.devRef .tc main_v0) := by
  unfold seg5
  after_reads_simp
  <;> rfl

theorem seg5_r : after seg5 W (Proc.devRef .tc main_v1) = W (Proc.devRef .tc main_v1) := by
  unfold seg5
  after_reads_simp
  <;> rfl

theorem seg5_lat : after seg5 W (Proc.devRef .tc main_v53) = latOf (W (Proc.devRef .tc main_v0)) 1280 slices_S16384x2048_S16384x256_0_1280 := by
  unfold seg5
  after_reads_simp
  <;> rfl

theorem seg5_rope : after seg5 W (Proc.devRef .tc main_v59) = ropeOf (W (Proc.devRef .tc main_v1)) 128 1#32 slices_S16384x256_S16384x128_0_128 := by
  unfold seg5
  after_reads_simp
  <;> rfl

theorem seg5_cat : after seg5 W (Proc.devRef .tc main_v51) = catOf (W (Proc.devRef .tc main_v43)) (W (Proc.devRef .tc main_v49)) := by
  unfold seg5
  after_reads_simp
  <;> rfl

theorem seg5_keep0 : after seg5 W (Proc.devRef .tc main_v11) = W (Proc.devRef .tc main_v11) := by
  unfold seg5
  after_reads_simp
  <;> rfl

theorem seg5_keep1 : after seg5 W (Proc.devRef .tc main_v21) = W (Proc.devRef .tc main_v21) := by
  unfold seg5
  after_reads_simp
  <;> rfl

theorem seg5_keep2 : after seg5 W (Proc.devRef .tc main_v31) = W (Proc.devRef .tc main_v31) := by
  unfold seg5
  after_reads_simp
  <;> rfl

theorem seg5_keep3 : after seg5 W (Proc.devRef .tc main_v41) = W (Proc.devRef .tc main_v41) := by
  unfold seg5
  after_reads_simp
  <;> rfl

theorem seg6_arg2 : after seg6 W (Proc.devRef .tc main_arg2) = W (Proc.devRef .tc main_arg2) := by
  unfold seg6
  after_reads_simp
  <;> rfl

theorem seg6_arg3 : after seg6 W (Proc.devRef .tc main_arg3) = W (Proc.devRef .tc main_arg3) := by
  unfold seg6
  after_reads_simp
  <;> rfl

theorem seg6_arg4 : after seg6 W (Proc.devRef .tc main_arg4) = W (Proc.devRef .tc main_arg4) := by
  unfold seg6
  after_reads_simp
  <;> rfl

theorem seg6_q : after seg6 W (Proc.devRef .tc main_v0) = W (Proc.devRef .tc main_v0) := by
  unfold seg6
  after_reads_simp
  <;> rfl

theorem seg6_r : after seg6 W (Proc.devRef .tc main_v1) = W (Proc.devRef .tc main_v1) := by
  unfold seg6
  after_reads_simp
  <;> rfl

theorem seg6_lat : after seg6 W (Proc.devRef .tc main_v63) = latOf (W (Proc.devRef .tc main_v0)) 1536 slices_S16384x2048_S16384x256_0_1536 := by
  unfold seg6
  after_reads_simp
  <;> rfl

theorem seg6_rope : after seg6 W (Proc.devRef .tc main_v69) = ropeOf (W (Proc.devRef .tc main_v1)) 128 2#32 slices_S16384x256_S16384x128_0_128 := by
  unfold seg6
  after_reads_simp
  <;> rfl

theorem seg6_cat : after seg6 W (Proc.devRef .tc main_v61) = catOf (W (Proc.devRef .tc main_v53)) (W (Proc.devRef .tc main_v59)) := by
  unfold seg6
  after_reads_simp
  <;> rfl

theorem seg6_keep0 : after seg6 W (Proc.devRef .tc main_v11) = W (Proc.devRef .tc main_v11) := by
  unfold seg6
  after_reads_simp
  <;> rfl

theorem seg6_keep1 : after seg6 W (Proc.devRef .tc main_v21) = W (Proc.devRef .tc main_v21) := by
  unfold seg6
  after_reads_simp
  <;> rfl

theorem seg6_keep2 : after seg6 W (Proc.devRef .tc main_v31) = W (Proc.devRef .tc main_v31) := by
  unfold seg6
  after_reads_simp
  <;> rfl

theorem seg6_keep3 : after seg6 W (Proc.devRef .tc main_v41) = W (Proc.devRef .tc main_v41) := by
  unfold seg6
  after_reads_simp
  <;> rfl

theorem seg6_keep4 : after seg6 W (Proc.devRef .tc main_v51) = W (Proc.devRef .tc main_v51) := by
  unfold seg6
  after_reads_simp
  <;> rfl

theorem seg7_arg2 : after seg7 W (Proc.devRef .tc main_arg2) = W (Proc.devRef .tc main_arg2) := by
  unfold seg7
  after_reads_simp
  <;> rfl

theorem seg7_arg3 : after seg7 W (Proc.devRef .tc main_arg3) = W (Proc.devRef .tc main_arg3) := by
  unfold seg7
  after_reads_simp
  <;> rfl

theorem seg7_arg4 : after seg7 W (Proc.devRef .tc main_arg4) = W (Proc.devRef .tc main_arg4) := by
  unfold seg7
  after_reads_simp
  <;> rfl

theorem seg7_q : after seg7 W (Proc.devRef .tc main_v0) = W (Proc.devRef .tc main_v0) := by
  unfold seg7
  after_reads_simp
  <;> rfl

theorem seg7_r : after seg7 W (Proc.devRef .tc main_v1) = W (Proc.devRef .tc main_v1) := by
  unfold seg7
  after_reads_simp
  <;> rfl

theorem seg7_lat : after seg7 W (Proc.devRef .tc main_v73) = latOf (W (Proc.devRef .tc main_v0)) 1792 slices_S16384x2048_S16384x256_0_1792 := by
  unfold seg7
  after_reads_simp
  <;> rfl

theorem seg7_rope : after seg7 W (Proc.devRef .tc main_v79) = ropeOf (W (Proc.devRef .tc main_v1)) 128 3#32 slices_S16384x256_S16384x128_0_128 := by
  unfold seg7
  after_reads_simp
  <;> rfl

theorem seg7_cat : after seg7 W (Proc.devRef .tc main_v71) = catOf (W (Proc.devRef .tc main_v63)) (W (Proc.devRef .tc main_v69)) := by
  unfold seg7
  after_reads_simp
  <;> rfl

theorem seg7_keep0 : after seg7 W (Proc.devRef .tc main_v11) = W (Proc.devRef .tc main_v11) := by
  unfold seg7
  after_reads_simp
  <;> rfl

theorem seg7_keep1 : after seg7 W (Proc.devRef .tc main_v21) = W (Proc.devRef .tc main_v21) := by
  unfold seg7
  after_reads_simp
  <;> rfl

theorem seg7_keep2 : after seg7 W (Proc.devRef .tc main_v31) = W (Proc.devRef .tc main_v31) := by
  unfold seg7
  after_reads_simp
  <;> rfl

theorem seg7_keep3 : after seg7 W (Proc.devRef .tc main_v41) = W (Proc.devRef .tc main_v41) := by
  unfold seg7
  after_reads_simp
  <;> rfl

theorem seg7_keep4 : after seg7 W (Proc.devRef .tc main_v51) = W (Proc.devRef .tc main_v51) := by
  unfold seg7
  after_reads_simp
  <;> rfl

theorem seg7_keep5 : after seg7 W (Proc.devRef .tc main_v61) = W (Proc.devRef .tc main_v61) := by
  unfold seg7
  after_reads_simp
  <;> rfl

end Cert.Proof

end
-- ==== Proof.HostLast.lean ====
/-
The last host operations before the region: they stack the heads' queries and make the keys' and
the value weights' arrays, here read from whatever the buffers held before.
-/
module

public import proofs.«01_k».proof.Proof.HostSeg

@[expose] public section

set_option maxRecDepth 16384

noncomputable section

namespace Cert.Proof

open Cert.KernelIdeal Cert.KernelIdeal.Gen Idealize.ShloMosaic Idealize.ShloMosaic.TcCoe Idealize.ShloMosaic.StableHlo

variable {F : FTy → Type} [FloatOps F]

/-- The keys: each position's latent, and its rotary key four times over. -/
def keysOf (a2 : Vec F S8x2048x256 .f32) (a3 : Vec F S8x2048x32 .f32) : Vec F S16384x384 .bf16 :=
  concatenate S16384x384 1
    [⟨S16384x256, truncf .bf16 (shapeCast S16384x256 a2 shapeCasts_S8x2048x256_S16384x256) bitsLt_bf16_f32⟩,
     ⟨S16384x128, truncf .bf16 (shapeCast S16384x128 (broadcastInDim S1x16384x4x32 ![0, 1, 2, 3] bcast_S1x16384x1x32_S1x16384x4x32_0_1_2_3
        (shapeCast S1x16384x1x32 (shapeCast S16384x32 a3
          shapeCasts_S8x2048x32_S16384x32) shapeCasts_S16384x32_S1x16384x1x32)) shapeCasts_S1x16384x4x32_S16384x128) bitsLt_bf16_f32⟩]
    concatenates_S16384x256_S16384x128_S16384x384_d1

/-- The value weights, each head's in its own columns. -/
def weightsOf (a4 : Vec F S8x256x64 .f32) : Vec F S8x256x512 .bf16 :=
  truncf .bf16 (wStep a4 7 7#32 448#32 slices_S8x256x64_S1x256x64_7_0_0
    (wStep a4 6 6#32 384#32 slices_S8x256x64_S1x256x64_6_0_0
    (wStep a4 5 5#32 320#32 slices_S8x256x64_S1x256x64_5_0_0
    (wStep a4 4 4#32 256#32 slices_S8x256x64_S1x256x64_4_0_0
    (wStep a4 3 3#32 192#32 slices_S8x256x64_S1x256x64_3_0_0
    (wStep a4 2 2#32 128#32 slices_S8x256x64_S1x256x64_2_0_0
    (wStep a4 1 1#32 64#32 slices_S8x256x64_S1x256x64_1_0_0
    (wStep a4 0 0#32 0#32 slices_S8x256x64_S1x256x64_0_0_0 wZero)))))))) bitsLt_bf16_f32

/-- The queries of eight heads stacked. -/
def queriesOf (q0 q1 q2 q3 q4 q5 q6 q7 : Vec F S16384x384 .bf16) : Vec F S8x16384x384 .bf16 :=
  concatenate S8x16384x384 0 [⟨S1x16384x384, qSlab q0⟩, ⟨S1x16384x384, qSlab q1⟩, ⟨S1x16384x384, qSlab q2⟩, ⟨S1x16384x384, qSlab q3⟩, ⟨S1x16384x384, qSlab q4⟩, ⟨S1x16384x384, qSlab q5⟩, ⟨S1x16384x384, qSlab q6⟩, ⟨S1x16384x384, qSlab q7⟩]
    concatenates_S1x16384x384_S1x16384x384_S1x16384x384_S1x16384x384_S1x16384x384_S1x16384x384_S1x16384x384_S1x16384x384_S8x16384x384_d0

variable (W : Valuation τ sig (Elt F))

theorem seg8_queries : after seg8 W (Proc.devRef .tc main_v90) = queriesOf (W (Proc.devRef .tc main_v11)) (W (Proc.devRef .tc main_v21)) (W (Proc.devRef .tc main_v31)) (W (Proc.devRef .tc main_v41)) (W (Proc.devRef .tc main_v51)) (W (Proc.devRef .tc main_v61)) (W (Proc.devRef .tc main_v71)) (catOf (W (Proc.devRef .tc main_v73)) (W (Proc.devRef .tc main_v79))) := by
  unfold seg8
  after_reads_simp
  <;> rfl

theorem seg8_keys : after seg8 W (Proc.devRef .tc main_v98) = keysOf (W (Proc.devRef .tc main_arg2)) (W (Proc.devRef .tc main_arg3)) := by
  unfold seg8
  after_reads_simp
  <;> rfl

theorem seg8_weights : after seg8 W (Proc.devRef .tc main_v148) = weightsOf (W (Proc.devRef .tc main_arg4)) := by
  unfold seg8
  after_reads_simp
  <;> rfl

end Cert.Proof

end
-- ==== Proof.HostRead.lean ====
/-
What the region's three input arrays hold when it is entered, as terms over the arguments.

The operations before the region are taken one stretch after another, and each buffer is carried
from the stretch that makes it to the one that reads it.
-/
module

public import proofs.«01_k».proof.Proof.HostLast

@[expose] public section

set_option maxRecDepth 16384

noncomputable section

namespace Cert.Proof

open Cert.KernelIdeal Cert.KernelIdeal.Gen Idealize.ShloMosaic Idealize.ShloMosaic.TcCoe Idealize.ShloMosaic.StableHlo

variable {F : FTy → Type} [FloatOps F]

theorem after_two_lists (l₁ l₂ : List (HloOp τ sig (Elt F))) (W : Valuation τ sig (Elt F)) :
    after (l₁ ++ l₂) W = after l₂ (after l₁ W) := by
  induction l₁ generalizing W with
  | nil => rfl
  | cons o l ih => exact ih _

variable (m : (ℓ : Loc nD τ sig) → Buf (Elt F) ℓ) (c : Dev nD)

/-- What the buffers hold after stretch 0. -/
def val0 : Valuation τ sig (Elt F) := after seg0 (fun b => m (c, b))

/-- What the buffers hold after stretch 1. -/
def val1 : Valuation τ sig (Elt F) := after seg1 (val0 m c)

/-- What the buffers hold after stretch 2. -/
def val2 : Valuation τ sig (Elt F) := after seg2 (val1 m c)

/-- What the buffers hold after stretch 3. -/
def val3 : Valuation τ sig (Elt F) := after seg3 (val2 m c)

/-- What the buffers hold after stretch 4. -/
def val4 : Valuation τ sig (Elt F) := after seg4 (val3 m c)

/-- What the buffers hold after stretch 5. -/
def val5 : Valuation τ sig (Elt F) := after seg5 (val4 m c)

/-- What the buffers hold after stretch 6. -/
def val6 : Valuation τ sig (Elt F) := after seg6 (val5 m c)

/-- What the buffers hold after stretch 7. -/
def val7 : Valuation τ sig (Elt F) := after seg7 (val6 m c)

theorem V_eq (b : Ref sig .tc) : V m c b = after seg8 (val7 m c) b := by
  unfold V val7 val6 val5 val4 val3 val2 val1 val0
  simp only [← after_two_lists]
  congr 1

theorem val0_arg2 : val0 m c (Proc.devRef .tc main_arg2) = (m ((c : Thread nD τ).loc main_arg2)) := (seg0_arg2 _).trans rfl
theorem val1_arg2 : val1 m c (Proc.devRef .tc main_arg2) = (m ((c : Thread nD τ).loc main_arg2)) := (seg1_arg2 _).trans (val0_arg2 m c)
theorem val2_arg2 : val2 m c (Proc.devRef .tc main_arg2) = (m ((c : Thread nD τ).loc main_arg2)) := (seg2_arg2 _).trans (val1_arg2 m c)
theorem val3_arg2 : val3 m c (Proc.devRef .tc main_arg2) = (m ((c : Thread nD τ).loc main_arg2)) := (seg3_arg2 _).trans (val2_arg2 m c)
theorem val4_arg2 : val4 m c (Proc.devRef .tc main_arg2) = (m ((c : Thread nD τ).loc main_arg2)) := (seg4_arg2 _).trans (val3_arg2 m c)
theorem val5_arg2 : val5 m c (Proc.devRef .tc main_arg2) = (m ((c : Thread nD τ).loc main_arg2)) := (seg5_arg2 _).trans (val4_arg2 m c)
theorem val6_arg2 : val6 m c (Proc.devRef .tc main_arg2) = (m ((c : Thread nD τ).loc main_arg2)) := (seg6_arg2 _).trans (val5_arg2 m c)
theorem val7_arg2 : val7 m c (Proc.devRef .tc main_arg2) = (m ((c : Thread nD τ).loc main_arg2)) := (seg7_arg2 _).trans (val6_arg2 m c)
theorem val0_arg3 : val0 m c (Proc.devRef .tc main_arg3) = (m ((c : Thread nD τ).loc main_arg3)) := (seg0_arg3 _).trans rfl
theorem val1_arg3 : val1 m c (Proc.devRef .tc main_arg3) = (m ((c : Thread nD τ).loc main_arg3)) := (seg1_arg3 _).trans (val0_arg3 m c)
theorem val2_arg3 : val2 m c (Proc.devRef .tc main_arg3) = (m ((c : Thread nD τ).loc main_arg3)) := (seg2_arg3 _).trans (val1_arg3 m c)
theorem val3_arg3 : val3 m c (Proc.devRef .tc main_arg3) = (m ((c : Thread nD τ).loc main_arg3)) := (seg3_arg3 _).trans (val2_arg3 m c)
theorem val4_arg3 : val4 m c (Proc.devRef .tc main_arg3) = (m ((c : Thread nD τ).loc main_arg3)) := (seg4_arg3 _).trans (val3_arg3 m c)
theorem val5_arg3 : val5 m c (Proc.devRef .tc main_arg3) = (m ((c : Thread nD τ).loc main_arg3)) := (seg5_arg3 _).trans (val4_arg3 m c)
theorem val6_arg3 : val6 m c (Proc.devRef .tc main_arg3) = (m ((c : Thread nD τ).loc main_arg3)) := (seg6_arg3 _).trans (val5_arg3 m c)
theorem val7_arg3 : val7 m c (Proc.devRef .tc main_arg3) = (m ((c : Thread nD τ).loc main_arg3)) := (seg7_arg3 _).trans (val6_arg3 m c)
theorem val0_arg4 : val0 m c (Proc.devRef .tc main_arg4) = (m ((c : Thread nD τ).loc main_arg4)) := (seg0_arg4 _).trans rfl
theorem val1_arg4 : val1 m c (Proc.devRef .tc main_arg4) = (m ((c : Thread nD τ).loc main_arg4)) := (seg1_arg4 _).trans (val0_arg4 m c)
theorem val2_arg4 : val2 m c (Proc.devRef .tc main_arg4) = (m ((c : Thread nD τ).loc main_arg4)) := (seg2_arg4 _).trans (val1_arg4 m c)
theorem val3_arg4 : val3 m c (Proc.devRef .tc main_arg4) = (m ((c : Thread nD τ).loc main_arg4)) := (seg3_arg4 _).trans (val2_arg4 m c)
theorem val4_arg4 : val4 m c (Proc.devRef .tc main_arg4) = (m ((c : Thread nD τ).loc main_arg4)) := (seg4_arg4 _).trans (val3_arg4 m c)
theorem val5_arg4 : val5 m c (Proc.devRef .tc main_arg4) = (m ((c : Thread nD τ).loc main_arg4)) := (seg5_arg4 _).trans (val4_arg4 m c)
theorem val6_arg4 : val6 m c (Proc.devRef .tc main_arg4) = (m ((c : Thread nD τ).loc main_arg4)) := (seg6_arg4 _).trans (val5_arg4 m c)
theorem val7_arg4 : val7 m c (Proc.devRef .tc main_arg4) = (m ((c : Thread nD τ).loc main_arg4)) := (seg7_arg4 _).trans (val6_arg4 m c)
theorem val0_q : val0 m c (Proc.devRef .tc main_v0) = (shapeCast S16384x2048 ((m ((c : Thread nD τ).loc main_arg0)) : Vec F S8x2048x8x256 .f32) shapeCasts_S8x2048x8x256_S16384x2048) := (seg0_q _).trans rfl
theorem val1_q : val1 m c (Proc.devRef .tc main_v0) = (shapeCast S16384x2048 ((m ((c : Thread nD τ).loc main_arg0)) : Vec F S8x2048x8x256 .f32) shapeCasts_S8x2048x8x256_S16384x2048) := (seg1_q _).trans (val0_q m c)
theorem val2_q : val2 m c (Proc.devRef .tc main_v0) = (shapeCast S16384x2048 ((m ((c : Thread nD τ).loc main_arg0)) : Vec F S8x2048x8x256 .f32) shapeCasts_S8x2048x8x256_S16384x2048) := (seg2_q _).trans (val1_q m c)
theorem val3_q : val3 m c (Proc.devRef .tc main_v0) = (shapeCast S16384x2048 ((m ((c : Thread nD τ).loc main_arg0)) : Vec F S8x2048x8x256 .f32) shapeCasts_S8x2048x8x256_S16384x2048) := (seg3_q _).trans (val2_q m c)
theorem val4_q : val4 m c (Proc.devRef .tc main_v0) = (shapeCast S16384x2048 ((m ((c : Thread nD τ).loc main_arg0)) : Vec F S8x2048x8x256 .f32) shapeCasts_S8x2048x8x256_S16384x2048) := (seg4_q _).trans (val3_q m c)
theorem val5_q : val5 m c (Proc.devRef .tc main_v0) = (shapeCast S16384x2048 ((m ((c : Thread nD τ).loc main_arg0)) : Vec F S8x2048x8x256 .f32) shapeCasts_S8x2048x8x256_S16384x2048) := (seg5_q _).trans (val4_q m c)
theorem val6_q : val6 m c (Proc.devRef .tc main_v0) = (shapeCast S16384x2048 ((m ((c : Thread nD τ).loc main_arg0)) : Vec F S8x2048x8x256 .f32) shapeCasts_S8x2048x8x256_S16384x2048) := (seg6_q _).trans (val5_q m c)
theorem val7_q : val7 m c (Proc.devRef .tc main_v0) = (shapeCast S16384x2048 ((m ((c : Thread nD τ).loc main_arg0)) : Vec F S8x2048x8x256 .f32) shapeCasts_S8x2048x8x256_S16384x2048) := (seg7_q _).trans (val6_q m c)
theorem val0_r : val0 m c (Proc.devRef .tc main_v1) = (shapeCast S16384x256 ((m ((c : Thread nD τ).loc main_arg1)) : Vec F S8x2048x8x32 .f32) shapeCasts_S8x2048x8x32_S16384x256) := (seg0_r _).trans rfl
theorem val1_r : val1 m c (Proc.devRef .tc main_v1) = (shapeCast S16384x256 ((m ((c : Thread nD τ).loc main_arg1)) : Vec F S8x2048x8x32 .f32) shapeCasts_S8x2048x8x32_S16384x256) := (seg1_r _).trans (val0_r m c)
theorem val2_r : val2 m c (Proc.devRef .tc main_v1) = (shapeCast S16384x256 ((m ((c : Thread nD τ).loc main_arg1)) : Vec F S8x2048x8x32 .f32) shapeCasts_S8x2048x8x32_S16384x256) := (seg2_r _).trans (val1_r m c)
theorem val3_r : val3 m c (Proc.devRef .tc main_v1) = (shapeCast S16384x256 ((m ((c : Thread nD τ).loc main_arg1)) : Vec F S8x2048x8x32 .f32) shapeCasts_S8x2048x8x32_S16384x256) := (seg3_r _).trans (val2_r m c)
theorem val4_r : val4 m c (Proc.devRef .tc main_v1) = (shapeCast S16384x256 ((m ((c : Thread nD τ).loc main_arg1)) : Vec F S8x2048x8x32 .f32) shapeCasts_S8x2048x8x32_S16384x256) := (seg4_r _).trans (val3_r m c)
theorem val5_r : val5 m c (Proc.devRef .tc main_v1) = (shapeCast S16384x256 ((m ((c : Thread nD τ).loc main_arg1)) : Vec F S8x2048x8x32 .f32) shapeCasts_S8x2048x8x32_S16384x256) := (seg5_r _).trans (val4_r m c)
theorem val6_r : val6 m c (Proc.devRef .tc main_v1) = (shapeCast S16384x256 ((m ((c : Thread nD τ).loc main_arg1)) : Vec F S8x2048x8x32 .f32) shapeCasts_S8x2048x8x32_S16384x256) := (seg6_r _).trans (val5_r m c)
theorem val7_r : val7 m c (Proc.devRef .tc main_v1) = (shapeCast S16384x256 ((m ((c : Thread nD τ).loc main_arg1)) : Vec F S8x2048x8x32 .f32) shapeCasts_S8x2048x8x32_S16384x256) := (seg7_r _).trans (val6_r m c)

theorem val0_lat : val0 m c (Proc.devRef .tc main_v3) = latOf (shapeCast S16384x2048 ((m ((c : Thread nD τ).loc main_arg0)) : Vec F S8x2048x8x256 .f32) shapeCasts_S8x2048x8x256_S16384x2048) 0 slices_S16384x2048_S16384x256_0_0 :=
  (seg0_lat _).trans rfl
theorem val0_rope : val0 m c (Proc.devRef .tc main_v9) = ropeOf (shapeCast S16384x256 ((m ((c : Thread nD τ).loc main_arg1)) : Vec F S8x2048x8x32 .f32) shapeCasts_S8x2048x8x32_S16384x256) 0 0#32 slices_S16384x256_S16384x128_0_0 :=
  (seg0_rope _).trans rfl
theorem val1_lat : val1 m c (Proc.devRef .tc main_v13) = latOf (shapeCast S16384x2048 ((m ((c : Thread nD τ).loc main_arg0)) : Vec F S8x2048x8x256 .f32) shapeCasts_S8x2048x8x256_S16384x2048) 256 slices_S16384x2048_S16384x256_0_256 :=
  (seg1_lat _).trans (by rw [val0_q])
theorem val1_rope : val1 m c (Proc.devRef .tc main_v19) = ropeOf (shapeCast S16384x256 ((m ((c : Thread nD τ).loc main_arg1)) : Vec F S8x2048x8x32 .f32) shapeCasts_S8x2048x8x32_S16384x256) 0 1#32 slices_S16384x256_S16384x128_0_0 :=
  (seg1_rope _).trans (by rw [val0_r])
theorem val2_lat : val2 m c (Proc.devRef .tc main_v23) = latOf (shapeCast S16384x2048 ((m ((c : Thread nD τ).loc main_arg0)) : Vec F S8x2048x8x256 .f32) shapeCasts_S8x2048x8x256_S16384x2048) 512 slices_S16384x2048_S16384x256_0_512 :=
  (seg2_lat _).trans (by rw [val1_q])
theorem val2_rope : val2 m c (Proc.devRef .tc main_v29) = ropeOf (shapeCast S16384x256 ((m ((c : Thread nD τ).loc main_arg1)) : Vec F S8x2048x8x32 .f32) shapeCasts_S8x2048x8x32_S16384x256) 0 2#32 slices_S16384x256_S16384x128_0_0 :=
  (seg2_rope _).trans (by rw [val1_r])
theorem val3_lat : val3 m c (Proc.devRef .tc main_v33) = latOf (shapeCast S16384x2048 ((m ((c : Thread nD τ).loc main_arg0)) : Vec F S8x2048x8x256 .f32) shapeCasts_S8x2048x8x256_S16384x2048) 768 slices_S16384x2048_S16384x256_0_768 :=
  (seg3_lat _).trans (by rw [val2_q])
theorem val3_rope : val3 m c (Proc.devRef .tc main_v39) = ropeOf (shapeCast S16384x256 ((m ((c : Thread nD τ).loc main_arg1)) : Vec F S8x2048x8x32 .f32) shapeCasts_S8x2048x8x32_S16384x256) 0 3#32 slices_S16384x256_S16384x128_0_0 :=
  (seg3_rope _).trans (by rw [val2_r])
theorem val4_lat : val4 m c (Proc.devRef .tc main_v43) = latOf (shapeCast S16384x2048 ((m ((c : Thread nD τ).loc main_arg0)) : Vec F S8x2048x8x256 .f32) shapeCasts_S8x2048x8x256_S16384x2048) 1024 slices_S16384x2048_S16384x256_0_1024 :=
  (seg4_lat _).trans (by rw [val3_q])
theorem val4_rope : val4 m c (Proc.devRef .tc main_v49) = ropeOf (shapeCast S16384x256 ((m ((c : Thread nD τ).loc main_arg1)) : Vec F S8x2048x8x32 .f32) shapeCasts_S8x2048x8x32_S16384x256) 128 0#32 slices_S16384x256_S16384x128_0_128 :=
  (seg4_rope _).trans (by rw [val3_r])
theorem val5_lat : val5 m c (Proc.devRef .tc main_v53) = latOf (shapeCast S16384x2048 ((m ((c : Thread nD τ).loc main_arg0)) : Vec F S8x2048x8x256 .f32) shapeCasts_S8x2048x8x256_S16384x2048) 1280 slices_S16384x2048_S16384x256_0_1280 :=
  (seg5_lat _).trans (by rw [val4_q])
theorem val5_rope : val5 m c (Proc.devRef .tc main_v59) = ropeOf (shapeCast S16384x256 ((m ((c : Thread nD τ).loc main_arg1)) : Vec F S8x2048x8x32 .f32) shapeCasts_S8x2048x8x32_S16384x256) 128 1#32 slices_S16384x256_S16384x128_0_128 :=
  (seg5_rope _).trans (by rw [val4_r])
theorem val6_lat : val6 m c (Proc.devRef .tc main_v63) = latOf (shapeCast S16384x2048 ((m ((c : Thread nD τ).loc main_arg0)) : Vec F S8x2048x8x256 .f32) shapeCasts_S8x2048x8x256_S16384x2048) 1536 slices_S16384x2048_S16384x256_0_1536 :=
  (seg6_lat _).trans (by rw [val5_q])
theorem val6_rope : val6 m c (Proc.devRef .tc main_v69) = ropeOf (shapeCast S16384x256 ((m ((c : Thread nD τ).loc main_arg1)) : Vec F S8x2048x8x32 .f32) shapeCasts_S8x2048x8x32_S16384x256) 128 2#32 slices_S16384x256_S16384x128_0_128 :=
  (seg6_rope _).trans (by rw [val5_r])
theorem val7_lat : val7 m c (Proc.devRef .tc main_v73) = latOf (shapeCast S16384x2048 ((m ((c : Thread nD τ).loc main_arg0)) : Vec F S8x2048x8x256 .f32) shapeCasts_S8x2048x8x256_S16384x2048) 1792 slices_S16384x2048_S16384x256_0_1792 :=
  (seg7_lat _).trans (by rw [val6_q])
theorem val7_rope : val7 m c (Proc.devRef .tc main_v79) = ropeOf (shapeCast S16384x256 ((m ((c : Thread nD τ).loc main_arg1)) : Vec F S8x2048x8x32 .f32) shapeCasts_S8x2048x8x32_S16384x256) 128 3#32 slices_S16384x256_S16384x128_0_128 :=
  (seg7_rope _).trans (by rw [val6_r])
theorem val1_head0 : val1 m c (Proc.devRef .tc main_v11) = qHead (m ((c : Thread nD τ).loc main_arg0)) (m ((c : Thread nD τ).loc main_arg1)) 0 0 0#32 slices_S16384x2048_S16384x256_0_0 slices_S16384x256_S16384x128_0_0 :=
  (seg1_cat _).trans (by rw [val0_lat, val0_rope]; rfl)
theorem val2_head0 : val2 m c (Proc.devRef .tc main_v11) = qHead (m ((c : Thread nD τ).loc main_arg0)) (m ((c : Thread nD τ).loc main_arg1)) 0 0 0#32 slices_S16384x2048_S16384x256_0_0 slices_S16384x256_S16384x128_0_0 :=
  (seg2_keep0 _).trans (val1_head0 m c)
theorem val3_head0 : val3 m c (Proc.devRef .tc main_v11) = qHead (m ((c : Thread nD τ).loc main_arg0)) (m ((c : Thread nD τ).loc main_arg1)) 0 0 0#32 slices_S16384x2048_S16384x256_0_0 slices_S16384x256_S16384x128_0_0 :=
  (seg3_keep0 _).trans (val2_head0 m c)
theorem val4_head0 : val4 m c (Proc.devRef .tc main_v11) = qHead (m ((c : Thread nD τ).loc main_arg0)) (m ((c : Thread nD τ).loc main_arg1)) 0 0 0#32 slices_S16384x2048_S16384x256_0_0 slices_S16384x256_S16384x128_0_0 :=
  (seg4_keep0 _).trans (val3_head0 m c)
theorem val5_head0 : val5 m c (Proc.devRef .tc main_v11) = qHead (m ((c : Thread nD τ).loc main_arg0)) (m ((c : Thread nD τ).loc main_arg1)) 0 0 0#32 slices_S16384x2048_S16384x256_0_0 slices_S16384x256_S16384x128_0_0 :=
  (seg5_keep0 _).trans (val4_head0 m c)
theorem val6_head0 : val6 m c (Proc.devRef .tc main_v11) = qHead (m ((c : Thread nD τ).loc main_arg0)) (m ((c : Thread nD τ).loc main_arg1)) 0 0 0#32 slices_S16384x2048_S16384x256_0_0 slices_S16384x256_S16384x128_0_0 :=
  (seg6_keep0 _).trans (val5_head0 m c)
theorem val7_head0 : val7 m c (Proc.devRef .tc main_v11) = qHead (m ((c : Thread nD τ).loc main_arg0)) (m ((c : Thread nD τ).loc main_arg1)) 0 0 0#32 slices_S16384x2048_S16384x256_0_0 slices_S16384x256_S16384x128_0_0 :=
  (seg7_keep0 _).trans (val6_head0 m c)
theorem val2_head1 : val2 m c (Proc.devRef .tc main_v21) = qHead (m ((c : Thread nD τ).loc main_arg0)) (m ((c : Thread nD τ).loc main_arg1)) 256 0 1#32 slices_S16384x2048_S16384x256_0_256 slices_S16384x256_S16384x128_0_0 :=
  (seg2_cat _).trans (by rw [val1_lat, val1_rope]; rfl)
theorem val3_head1 : val3 m c (Proc.devRef .tc main_v21) = qHead (m ((c : Thread nD τ).loc main_arg0)) (m ((c : Thread nD τ).loc main_arg1)) 256 0 1#32 slices_S16384x2048_S16384x256_0_256 slices_S16384x256_S16384x128_0_0 :=
  (seg3_keep1 _).trans (val2_head1 m c)
theorem val4_head1 : val4 m c (Proc.devRef .tc main_v21) = qHead (m ((c : Thread nD τ).loc main_arg0)) (m ((c : Thread nD τ).loc main_arg1)) 256 0 1#32 slices_S16384x2048_S16384x256_0_256 slices_S16384x256_S16384x128_0_0 :=
  (seg4_keep1 _).trans (val3_head1 m c)
theorem val5_head1 : val5 m c (Proc.devRef .tc main_v21) = qHead (m ((c : Thread nD τ).loc main_arg0)) (m ((c : Thread nD τ).loc main_arg1)) 256 0 1#32 slices_S16384x2048_S16384x256_0_256 slices_S16384x256_S16384x128_0_0 :=
  (seg5_keep1 _).trans (val4_head1 m c)
theorem val6_head1 : val6 m c (Proc.devRef .tc main_v21) = qHead (m ((c : Thread nD τ).loc main_arg0)) (m ((c : Thread nD τ).loc main_arg1)) 256 0 1#32 slices_S16384x2048_S16384x256_0_256 slices_S16384x256_S16384x128_0_0 :=
  (seg6_keep1 _).trans (val5_head1 m c)
theorem val7_head1 : val7 m c (Proc.devRef .tc main_v21) = qHead (m ((c : Thread nD τ).loc main_arg0)) (m ((c : Thread nD τ).loc main_arg1)) 256 0 1#32 slices_S16384x2048_S16384x256_0_256 slices_S16384x256_S16384x128_0_0 :=
  (seg7_keep1 _).trans (val6_head1 m c)
theorem val3_head2 : val3 m c (Proc.devRef .tc main_v31) = qHead (m ((c : Thread nD τ).loc main_arg0)) (m ((c : Thread nD τ).loc main_arg1)) 512 0 2#32 slices_S16384x2048_S16384x256_0_512 slices_S16384x256_S16384x128_0_0 :=
  (seg3_cat _).trans (by rw [val2_lat, val2_rope]; rfl)
theorem val4_head2 : val4 m c (Proc.devRef .tc main_v31) = qHead (m ((c : Thread nD τ).loc main_arg0)) (m ((c : Thread nD τ).loc main_arg1)) 512 0 2#32 slices_S16384x2048_S16384x256_0_512 slices_S16384x256_S16384x128_0_0 :=
  (seg4_keep2 _).trans (val3_head2 m c)
theorem val5_head2 : val5 m c (Proc.devRef .tc main_v31) = qHead (m ((c : Thread nD τ).loc main_arg0)) (m ((c : Thread nD τ).loc main_arg1)) 512 0 2#32 slices_S16384x2048_S16384x256_0_512 slices_S16384x256_S16384x128_0_0 :=
  (seg5_keep2 _).trans (val4_head2 m c)
theorem val6_head2 : val6 m c (Proc.devRef .tc main_v31) = qHead (m ((c : Thread nD τ).loc main_arg0)) (m ((c : Thread nD τ).loc main_arg1)) 512 0 2#32 slices_S16384x2048_S16384x256_0_512 slices_S16384x256_S16384x128_0_0 :=
  (seg6_keep2 _).trans (val5_head2 m c)
theorem val7_head2 : val7 m c (Proc.devRef .tc main_v31) = qHead (m ((c : Thread nD τ).loc main_arg0)) (m ((c : Thread nD τ).loc main_arg1)) 512 0 2#32 slices_S16384x2048_S16384x256_0_512 slices_S16384x256_S16384x128_0_0 :=
  (seg7_keep2 _).trans (val6_head2 m c)
theorem val4_head3 : val4 m c (Proc.devRef .tc main_v41) = qHead (m ((c : Thread nD τ).loc main_arg0)) (m ((c : Thread nD τ).loc main_arg1)) 768 0 3#32 slices_S16384x2048_S16384x256_0_768 slices_S16384x256_S16384x128_0_0 :=
  (seg4_cat _).trans (by rw [val3_lat, val3_rope]; rfl)
theorem val5_head3 : val5 m c (Proc.devRef .tc main_v41) = qHead (m ((c : Thread nD τ).loc main_arg0)) (m ((c : Thread nD τ).loc main_arg1)) 768 0 3#32 slices_S16384x2048_S16384x256_0_768 slices_S16384x256_S16384x128_0_0 :=
  (seg5_keep3 _).trans (val4_head3 m c)
theorem val6_head3 : val6 m c (Proc.devRef .tc main_v41) = qHead (m ((c : Thread nD τ).loc main_arg0)) (m ((c : Thread nD τ).loc main_arg1)) 768 0 3#32 slices_S16384x2048_S16384x256_0_768 slices_S16384x256_S16384x128_0_0 :=
  (seg6_keep3 _).trans (val5_head3 m c)
theorem val7_head3 : val7 m c (Proc.devRef .tc main_v41) = qHead (m ((c : Thread nD τ).loc main_arg0)) (m ((c : Thread nD τ).loc main_arg1)) 768 0 3#32 slices_S16384x2048_S16384x256_0_768 slices_S16384x256_S16384x128_0_0 :=
  (seg7_keep3 _).trans (val6_head3 m c)
theorem val5_head4 : val5 m c (Proc.devRef .tc main_v51) = qHead (m ((c : Thread nD τ).loc main_arg0)) (m ((c : Thread nD τ).loc main_arg1)) 1024 128 0#32 slices_S16384x2048_S16384x256_0_1024 slices_S16384x256_S16384x128_0_128 :=
  (seg5_cat _).trans (by rw [val4_lat, val4_rope]; rfl)
theorem val6_head4 : val6 m c (Proc.devRef .tc main_v51) = qHead (m ((c : Thread nD τ).loc main_arg0)) (m ((c : Thread nD τ).loc main_arg1)) 1024 128 0#32 slices_S16384x2048_S16384x256_0_1024 slices_S16384x256_S16384x128_0_128 :=
  (seg6_keep4 _).trans (val5_head4 m c)
theorem val7_head4 : val7 m c (Proc.devRef .tc main_v51) = qHead (m ((c : Thread nD τ).loc main_arg0)) (m ((c : Thread nD τ).loc main_arg1)) 1024 128 0#32 slices_S16384x2048_S16384x256_0_1024 slices_S16384x256_S16384x128_0_128 :=
  (seg7_keep4 _).trans (val6_head4 m c)
theorem val6_head5 : val6 m c (Proc.devRef .tc main_v61) = qHead (m ((c : Thread nD τ).loc main_arg0)) (m ((c : Thread nD τ).loc main_arg1)) 1280 128 1#32 slices_S16384x2048_S16384x256_0_1280 slices_S16384x256_S16384x128_0_128 :=
  (seg6_cat _).trans (by rw [val5_lat, val5_rope]; rfl)
theorem val7_head5 : val7 m c (Proc.devRef .tc main_v61) = qHead (m ((c : Thread nD τ).loc main_arg0)) (m ((c : Thread nD τ).loc main_arg1)) 1280 128 1#32 slices_S16384x2048_S16384x256_0_1280 slices_S16384x256_S16384x128_0_128 :=
  (seg7_keep5 _).trans (val6_head5 m c)
theorem val7_head6 : val7 m c (Proc.devRef .tc main_v71) = qHead (m ((c : Thread nD τ).loc main_arg0)) (m ((c : Thread nD τ).loc main_arg1)) 1536 128 2#32 slices_S16384x2048_S16384x256_0_1536 slices_S16384x256_S16384x128_0_128 :=
  (seg7_cat _).trans (by rw [val6_lat, val6_rope]; rfl)

theorem queries_read : V m c main_v90 = queriesOf
    (qHead (m ((c : Thread nD τ).loc main_arg0)) (m ((c : Thread nD τ).loc main_arg1)) 0 0 0#32 slices_S16384x2048_S16384x256_0_0 slices_S16384x256_S16384x128_0_0)
    (qHead (m ((c : Thread nD τ).loc main_arg0)) (m ((c : Thread nD τ).loc main_arg1)) 256 0 1#32 slices_S16384x2048_S16384x256_0_256 slices_S16384x256_S16384x128_0_0)
    (qHead (m ((c : Thread nD τ).loc main_arg0)) (m ((c : Thread nD τ).loc main_arg1)) 512 0 2#32 slices_S16384x2048_S16384x256_0_512 slices_S16384x256_S16384x128_0_0)
    (qHead (m ((c : Thread nD τ).loc main_arg0)) (m ((c : Thread nD τ).loc main_arg1)) 768 0 3#32 slices_S16384x2048_S16384x256_0_768 slices_S16384x256_S16384x128_0_0)
    (qHead (m ((c : Thread nD τ).loc main_arg0)) (m ((c : Thread nD τ).loc main_arg1)) 1024 128 0#32 slices_S16384x2048_S16384x256_0_1024 slices_S16384x256_S16384x128_0_128)
    (qHead (m ((c : Thread nD τ).loc main_arg0)) (m ((c : Thread nD τ).loc main_arg1)) 1280 128 1#32 slices_S16384x2048_S16384x256_0_1280 slices_S16384x256_S16384x128_0_128)
    (qHead (m ((c : Thread nD τ).loc main_arg0)) (m ((c : Thread nD τ).loc main_arg1)) 1536 128 2#32 slices_S16384x2048_S16384x256_0_1536 slices_S16384x256_S16384x128_0_128)
    (qHead (m ((c : Thread nD τ).loc main_arg0)) (m ((c : Thread nD τ).loc main_arg1)) 1792 128 3#32 slices_S16384x2048_S16384x256_0_1792 slices_S16384x256_S16384x128_0_128) := by
  rw [V_eq, seg8_queries, val7_lat, val7_rope, val7_head0, val7_head1, val7_head2, val7_head3, val7_head4, val7_head5, val7_head6]
  rfl

theorem keys_read : V m c main_v98 = keysOf (m ((c : Thread nD τ).loc main_arg2)) (m ((c : Thread nD τ).loc main_arg3)) := by
  rw [V_eq, seg8_keys, val7_arg2, val7_arg3]

theorem weights_read : V m c main_v148 = weightsOf (m ((c : Thread nD τ).loc main_arg4)) := by
  rw [V_eq, seg8_weights, val7_arg4]

end Cert.Proof

end
-- ==== Proof.HostValue.lean ====
/-
The region's input arrays entry by entry, over the extended reals.
-/
module

public import proofs.«01_k».proof.Proof.HostRead

@[expose] public section

set_option maxRecDepth 16384

noncomputable section

namespace Cert.Proof

open Cert.KernelIdeal Cert.KernelIdeal.Gen Idealize.ShloMosaic Idealize.ShloMosaic.TcCoe

theorem ofBits_zero : Ideal.ofBits .f32 0x00000000#32 = 0 := by
  rw [Ideal.ofBits_zero]

/-- Whether two small numbers, as words, are the same. -/
theorem eq_ofNat (a b : ℕ) (ha : a < 2 ^ 32) (hb : b < 2 ^ 32) :
    IntOp.cmpi .eq (BitVec.ofNat 32 a) (BitVec.ofNat 32 b) = if a = b then 1#1 else 0#1 := by
  have e : (BitVec.ofNat 32 a = BitVec.ofNat 32 b) ↔ a = b := by
    constructor
    · intro h
      have := congrArg BitVec.toNat h
      rw [BitVec.toNat_ofNat, BitVec.toNat_ofNat, Nat.mod_eq_of_lt ha, Nat.mod_eq_of_lt hb] at this
      exact this
    · rintro rfl; rfl
  by_cases h : a = b
  · subst h; simp [IntOp.cmpi]
  · rw [if_neg h]
    have hf : (BitVec.ofNat 32 a == BitVec.ofNat 32 b) = false := by rw [beq_eq_false_iff_ne]; exact fun q => h (e.1 q)
    simp [IntOp.cmpi, hf]

theorem laneGroup_apply (l : Fin 128) : laneGroup (ix2 (0 : Fin 1) l) = BitVec.ofNat 32 (l.val / 32) := by
  pointwise [laneGroup]
  revert l
  decide +kernel

theorem latOf_apply (a0 : Vec Ideal S8x2048x8x256 .f32) (h : Fin 8) (ho : S16384x2048.Slices ![0, 256 * h.val] S16384x256)
    (b : Fin 8) (t : Fin 2048) (d : Fin 256) :
    latOf (shapeCast S16384x2048 a0 shapeCasts_S8x2048x8x256_S16384x2048) (256 * h.val) ho
      (ix2 (⟨b.val * 2048 + t.val, by omega⟩ : Fin 16384) d) = a0 (ix4 b t h d) := by
  pointwise [latOf]

theorem ropeOf_apply (a1 : Vec Ideal S8x2048x8x32 .f32) (h : Fin 8) (p : ℕ) (hpe : p = 128 * (h.val / 4)) (hp : S16384x256.Slices ![0, p] S16384x128)
    (b : Fin 8) (t : Fin 2048) (l : Fin 128) :
    ropeOf (shapeCast S16384x256 a1 shapeCasts_S8x2048x8x32_S16384x256) p (BitVec.ofNat 32 (h.val % 4)) hp
      (ix2 (⟨b.val * 2048 + t.val, by omega⟩ : Fin 16384) l)
      = if l.val / 32 = h.val % 4 then a1 (ix4 b t h (⟨l.val % 32, by omega⟩ : Fin 32)) else 0 := by
  pointwise [ropeOf]
  rw [laneGroup_apply, eq_ofNat _ _ (by omega) (by omega)]
  by_cases hl : l.val / 32 = h.val % 4
  · rw [if_pos hl, if_pos hl]
    refine congrArg a1 ?_
    congr 1 <;> exact Fin.ext (by simp only []; omega)
  · rw [if_neg hl, if_neg hl]
    exact ofBits_zero

theorem keysOf_apply (a2 : Vec Ideal S8x2048x256 .f32) (a3 : Vec Ideal S8x2048x32 .f32) (b : Fin 8) (s : Fin 2048) (d : Fin 384) :
    keysOf a2 a3 (ix2 (⟨b.val * 2048 + s.val, by omega⟩ : Fin 16384) d)
      = if hd : d.val < 256 then a2 (ix3 b s (⟨d.val, hd⟩ : Fin 256)) else a3 (ix3 b s (⟨(d.val - 256) % 32, by omega⟩ : Fin 32)) := by
  pointwise [keysOf]

theorem catOf_apply (x : Vec Ideal S16384x256 .bf16) (y : Vec Ideal S16384x128 .f32) (r : Fin 16384) (d : Fin 384) :
    catOf x y (ix2 r d) = if hd : d.val < 256 then x (ix2 r (⟨d.val, hd⟩ : Fin 256)) else y (ix2 r (⟨d.val - 256, by omega⟩ : Fin 128)) := by
  pointwise [catOf]

theorem queriesOf_apply (q0 q1 q2 q3 q4 q5 q6 q7 : Vec Ideal S16384x384 .bf16) (h : Fin 8) (r : Fin 16384) (d : Fin 384) :
    queriesOf q0 q1 q2 q3 q4 q5 q6 q7 (ix3 h r d) = (![q0, q1, q2, q3, q4, q5, q6, q7] h) (ix2 r d) := by
  fin_cases h
  all_goals pointwise [queriesOf, qSlab]

/-- One head's queries, entry by entry: the latent query, then the head's 32 rotary queries in its group of lanes and zero in
    the others. -/
def qEntry (a0 : Vec Ideal S8x2048x8x256 .f32) (a1 : Vec Ideal S8x2048x8x32 .f32) (b : Fin 8) (t : Fin 2048) (h : Fin 8) (d : Fin 384) : EReal :=
  if hd : d.val < 256 then a0 (ix4 b t h (⟨d.val, hd⟩ : Fin 256))
  else if (d.val - 256) / 32 = h.val % 4 then a1 (ix4 b t h (⟨(d.val - 256) % 32, by omega⟩ : Fin 32)) else 0

theorem qHead_apply (a0 : Vec Ideal S8x2048x8x256 .f32) (a1 : Vec Ideal S8x2048x8x32 .f32) (h : Fin 8) (o p : ℕ) (g : BitVec 32)
    (hoe : o = 256 * h.val) (hpe : p = 128 * (h.val / 4)) (hge : g = BitVec.ofNat 32 (h.val % 4))
    (ho : S16384x2048.Slices ![0, o] S16384x256) (hp : S16384x256.Slices ![0, p] S16384x128)
    (b : Fin 8) (t : Fin 2048) (d : Fin 384) :
    qHead a0 a1 o p g ho hp (ix2 (⟨b.val * 2048 + t.val, by omega⟩ : Fin 16384) d) = qEntry a0 a1 b t h d := by
  subst hoe hge
  change catOf (latOf _ _ ho) (ropeOf _ _ _ hp) _ = _
  rw [catOf_apply, qEntry]
  by_cases hd : d.val < 256
  · rw [dif_pos hd, dif_pos hd]; exact latOf_apply a0 h ho b t ⟨d.val, hd⟩
  · rw [dif_neg hd, dif_neg hd]
    exact ropeOf_apply a1 h p hpe hp b t ⟨d.val - 256, by omega⟩

/-- The queries' array, entry by entry. -/
theorem queriesArray_apply (m : (ℓ : Loc nD τ sig) → Buf (Elt Ideal) ℓ) (c : Dev nD) (h b : Fin 8) (t : Fin 2048) (d : Fin 384) :
    (V m c main_v90 : Vec Ideal S8x16384x384 .bf16) (ix3 h (⟨b.val * 2048 + t.val, by omega⟩ : Fin 16384) d)
      = qEntry (m ((c : Thread nD τ).loc main_arg0)) (m ((c : Thread nD τ).loc main_arg1)) b t h d := by
  rw [queries_read, queriesOf_apply]
  fin_cases h
  · exact qHead_apply _ _ 0 _ _ _ rfl rfl rfl _ _ b t d
  · exact qHead_apply _ _ 1 _ _ _ rfl rfl rfl _ _ b t d
  · exact qHead_apply _ _ 2 _ _ _ rfl rfl rfl _ _ b t d
  · exact qHead_apply _ _ 3 _ _ _ rfl rfl rfl _ _ b t d
  · exact qHead_apply _ _ 4 _ _ _ rfl rfl rfl _ _ b t d
  · exact qHead_apply _ _ 5 _ _ _ rfl rfl rfl _ _ b t d
  · exact qHead_apply _ _ 6 _ _ _ rfl rfl rfl _ _ b t d
  · exact qHead_apply _ _ 7 _ _ _ rfl rfl rfl _ _ b t d

/-- The keys' array, entry by entry. -/
theorem keysArray_apply (m : (ℓ : Loc nD τ sig) → Buf (Elt Ideal) ℓ) (c : Dev nD) (b : Fin 8) (s : Fin 2048) (d : Fin 384) :
    (V m c main_v98 : Vec Ideal S16384x384 .bf16) (ix2 (⟨b.val * 2048 + s.val, by omega⟩ : Fin 16384) d)
      = if hd : d.val < 256 then (m ((c : Thread nD τ).loc main_arg2) : Vec Ideal S8x2048x256 .f32) (ix3 b s (⟨d.val, hd⟩ : Fin 256))
        else (m ((c : Thread nD τ).loc main_arg3) : Vec Ideal S8x2048x32 .f32) (ix3 b s (⟨(d.val - 256) % 32, by omega⟩ : Fin 32)) := by
  rw [keys_read, keysOf_apply]

end Cert.Proof

end
-- ==== Proof.HostWeights.lean ====
/-
The value weights' array entry by entry, over the extended reals: each head's weights stand in
its own 64 columns, and the rest is zero.
-/
module

public import proofs.«01_k».proof.Proof.HostValue
public import Idealize.ShloMosaic.Lib.Routing.OpsOne

@[expose] public section

set_option maxRecDepth 16384

noncomputable section

namespace Cert.Proof

open Cert.KernelIdeal Cert.KernelIdeal.Gen Idealize.ShloMosaic Idealize.ShloMosaic.TcCoe Idealize.ShloMosaic.Routing

/-- The dimension numbers of one head's write. -/
abbrev wDims : ScatterDims S8x256x512 S2 S256x64 := scatter_S8x256x512_S2_S256x64_01_0_02_0

variable (idx : IVec S2 32) (k : Fin 256) (j : Fin 64)

theorem wStart0 : wDims.start (ix2 k j) idx 0 = (idx (ix1 (0 : Fin 2))).toInt := by
  unfold ScatterDims.start
  rw [dif_pos (by decide)]
  congr 2
  funext b
  match b with
  | ⟨0, _⟩ => rfl

theorem wStart1 : wDims.start (ix2 k j) idx 1 = 0 := by
  unfold ScatterDims.start
  rw [dif_neg (by decide)]

theorem wStart2 : wDims.start (ix2 k j) idx 2 = (idx (ix1 (1 : Fin 2))).toInt := by
  unfold ScatterDims.start
  rw [dif_pos (by decide)]
  congr 2
  funext b
  match b with
  | ⟨0, _⟩ => rfl

theorem wWindow0 : wDims.window (ix2 k j) 0 = 0 := by
  unfold ScatterDims.window
  rw [dif_neg (by decide)]

theorem wWindow1 : wDims.window (ix2 k j) 1 = k.val := by
  unfold ScatterDims.window
  rw [dif_pos (by decide)]
  rfl

theorem wWindow2 : wDims.window (ix2 k j) 2 = j.val := by
  unfold ScatterDims.window
  rw [dif_pos (by decide)]
  rfl

/-- Update `(k, j)` lands at `(h', d, n)` exactly when `h'` is the first index word, `d` is `k`, and `n` is `j` columns past the second. -/
theorem wLands (A B : ℕ) (h0 : (idx (ix1 (0 : Fin 2))).toInt = (A : Int)) (h1 : (idx (ix1 (1 : Fin 2))).toInt = (B : Int))
    (h' : Fin 8) (d : Fin 256) (n : Fin 512) :
    wDims.resultIdx? (ix2 k j) idx = some (ix3 h' d n) ↔ A = h'.val ∧ k.val = d.val ∧ B + j.val = n.val := by
  rw [resultIdx?_eq_some]
  constructor
  · intro q
    have q0 := q 0
    have q1 := q 1
    have q2 := q 2
    rw [wStart0, wWindow0, h0] at q0
    rw [wStart1, wWindow1] at q1
    rw [wStart2, wWindow2, h1] at q2
    change (A : Int) + ((0 : ℕ) : Int) = ((h'.val : ℕ) : Int) at q0
    change (0 : Int) + ((k.val : ℕ) : Int) = ((d.val : ℕ) : Int) at q1
    change (B : Int) + ((j.val : ℕ) : Int) = ((n.val : ℕ) : Int) at q2
    omega
  · rintro ⟨q0, q1, q2⟩ a
    match a with
    | ⟨0, _⟩ =>
      show wDims.start (ix2 k j) idx 0 + ((wDims.window (ix2 k j) 0 : ℕ) : Int) = ((h'.val : ℕ) : Int)
      rw [wStart0, wWindow0, h0]; omega
    | ⟨1, _⟩ =>
      show wDims.start (ix2 k j) idx 1 + ((wDims.window (ix2 k j) 1 : ℕ) : Int) = ((d.val : ℕ) : Int)
      rw [wStart1, wWindow1]; omega
    | ⟨2, _⟩ =>
      show wDims.start (ix2 k j) idx 2 + ((wDims.window (ix2 k j) 2 : ℕ) : Int) = ((n.val : ℕ) : Int)
      rw [wStart2, wWindow2, h1]; omega

/-- One head's write, read at an entry. -/
theorem wStep_apply (w : Vec Ideal S8x256x64 .f32) (h : Fin 8) (hh : S8x256x64.Slices ![h.val, 0, 0] S1x256x64)
    (x : Vec Ideal S8x256x512 .f32) (h' : Fin 8) (d : Fin 256) (n : Fin 512) :
    wStep w h.val (BitVec.ofNat 32 h.val) (BitVec.ofNat 32 (64 * h.val)) hh x (ix3 h' d n)
      = if h' = h ∧ n.val / 64 = h.val then w (ix3 h d (⟨n.val % 64, by omega⟩ : Fin 64)) else x (ix3 h' d n) := by
  have i0 : ((startPair (BitVec.ofNat 32 h.val) (BitVec.ofNat 32 (64 * h.val))) (ix1 (0 : Fin 2))).toInt = ((h.val : ℕ) : Int) := by
    pointwise [startPair]
    rw [BitVec.toInt_eq_toNat_of_lt] <;> rw [BitVec.toNat_ofNat] <;> omega
  have i1 : ((startPair (BitVec.ofNat 32 h.val) (BitVec.ofNat 32 (64 * h.val))) (ix1 (1 : Fin 2))).toInt = ((64 * h.val : ℕ) : Int) := by
    pointwise [startPair]
    rw [BitVec.toInt_eq_toNat_of_lt] <;> rw [BitVec.toNat_ofNat] <;> omega
  have upd : ∀ (k : Fin 256) (j : Fin 64), shapeCast S256x64 (extractStridedSlice S1x256x64 ![h.val, 0, 0] w hh) shapeCasts_S1x256x64_S256x64 (ix2 k j)
      = w (ix3 h k j) := by
    intro k j
    pointwise []
  have eta : ∀ q : S256x64.Idx, ∃ (k : Fin 256) (j : Fin 64), q = ix2 k j := fun q => ⟨q 0, q 1, eq_ix2 q⟩
  unfold wStep
  by_cases c : h' = h ∧ n.val / 64 = h.val
  · rw [if_pos c]
    obtain ⟨rfl, c⟩ := c
    refine scatter_set_hit wDims x _ _ _ _ (fun q hq => ?_) (ix2 d (⟨n.val % 64, by omega⟩ : Fin 64)) ?_
    · obtain ⟨k, j, rfl⟩ := eta q
      have := (wLands _ _ _ _ _ i0 i1 h' d n).1 hq
      rw [upd]
      have e0 : k = d := Fin.ext this.2.1
      have e1 : j = (⟨n.val % 64, by omega⟩ : Fin 64) := Fin.ext (by have := this.2.2; simp only []; omega)
      rw [e0, e1]
    · refine (wLands _ _ _ _ _ i0 i1 h' d n).2 ⟨rfl, rfl, ?_⟩
      simp only []; omega
  · rw [if_neg c]
    refine scatter_set_miss wDims x _ _ _ fun q hq => c ?_
    obtain ⟨k, j, rfl⟩ := eta q
    have := (wLands _ _ _ _ _ i0 i1 h' d n).1 hq
    exact ⟨Fin.ext this.1.symm, by have := this.2.2; omega⟩

theorem wStep_at (w : Vec Ideal S8x256x64 .f32) (h : Fin 8) (e : ℕ) (a b : BitVec 32) (he : e = h.val) (ha : a = BitVec.ofNat 32 h.val)
    (hb : b = BitVec.ofNat 32 (64 * h.val)) (hh : S8x256x64.Slices ![e, 0, 0] S1x256x64)
    (x : Vec Ideal S8x256x512 .f32) (h' : Fin 8) (d : Fin 256) (n : Fin 512) :
    wStep w e a b hh x (ix3 h' d n)
      = if h' = h ∧ n.val / 64 = h.val then w (ix3 h d (⟨n.val % 64, by omega⟩ : Fin 64)) else x (ix3 h' d n) := by
  subst he ha hb
  exact wStep_apply w h hh x h' d n

/-- The value weights' array, entry by entry. -/
theorem weightsOf_apply (w : Vec Ideal S8x256x64 .f32) (h : Fin 8) (d : Fin 256) (n : Fin 512) :
    weightsOf w (ix3 h d n) = if n.val / 64 = h.val then w (ix3 h d (⟨n.val % 64, by omega⟩ : Fin 64)) else 0 := by
  have z : wZero (F := Ideal) (ix3 h d n) = 0 := by
    pointwise [wZero]
    try exact ofBits_zero
  pointwise [weightsOf]
  rw [wStep_at w 7 7 7#32 448#32 rfl rfl rfl, wStep_at w 6 6 6#32 384#32 rfl rfl rfl, wStep_at w 5 5 5#32 320#32 rfl rfl rfl, wStep_at w 4 4 4#32 256#32 rfl rfl rfl, wStep_at w 3 3 3#32 192#32 rfl rfl rfl, wStep_at w 2 2 2#32 128#32 rfl rfl rfl, wStep_at w 1 1 1#32 64#32 rfl rfl rfl, wStep_at w 0 0 0#32 0#32 rfl rfl rfl, z]
  by_cases c : n.val / 64 = h.val
  · rw [if_pos c]
    fin_cases h <;> simp_all
  · rw [if_neg c]
    have hn : ∀ g : Fin 8, ¬ (h = g ∧ n.val / 64 = g.val) := fun g ⟨e, q⟩ => c (by rw [e]; exact q)
    simp only [hn, if_false]

theorem weightsArray_apply (m : (ℓ : Loc nD τ sig) → Buf (Elt Ideal) ℓ) (c : Dev nD) (h : Fin 8) (d : Fin 256) (n : Fin 512) :
    (V m c main_v148 : Vec Ideal S8x256x512 .bf16) (ix3 h d n)
      = if n.val / 64 = h.val then (m ((c : Thread nD τ).loc main_arg4) : Vec Ideal S8x256x64 .f32) (ix3 h d (⟨n.val % 64, by omega⟩ : Fin 64)) else (0 : EReal) := by
  rw [weights_read, weightsOf_apply]

end Cert.Proof

end
-- ==== Proof.StepValue.lean ====
/-
One head of one chunk of keys over the extended reals, read at an index.

Each function of `Step` is read at a row and a column: the masked scores, the new shift, the
weights, the factor, the new sum, the new accumulator.
-/
module

public import proofs.«01_k».proof.Proof.Step
public import Idealize.ShloMosaic.Lib.Pointwise

@[expose] public section

set_option maxRecDepth 16384

noncomputable section

namespace Cert.Proof

open Cert.KernelIdeal Cert.KernelIdeal.Gen Idealize.ShloMosaic

/-- The pattern of minus infinity denotes `⊥`. -/
theorem ofBits_negInf : Ideal.ofBits .f32 0xFF800000#32 = ⊥ := by
  rfl

variable (s : FVec Ideal S1024x512 .f32) (mask : IVec S128x512 1) (h : Fin 8)

theorem headRow_lt (h : Fin 8) (r : Fin 128) : 128 * h.val + r.val < 1024 := by omega

/-- Row `r` of head `h` within the block. -/
abbrev hrow (h : Fin 8) (r : Fin 128) : Fin 1024 := ⟨128 * h.val + r.val, headRow_lt h r⟩

/-- The scaled scores of a chunk: sums of products over the 384 columns. -/
theorem logits_apply (q : FVec Ideal S1024x384 .bf16) (kk : Vec Ideal S512x384 .bf16) (r : Fin 1024) (c : Fin 512) :
    logits q kk (ix2 r c) = (∑ d : Fin 384, q (ix2 r d) * kk (ix2 c d)) * Ideal.ofBits .f32 0x3DD105EC#32 := by
  pointwise [logits, k0_pay3, k0_pay2]

/-- The weighted keys of a chunk: sums over the 512 keys, of the first 256 columns. -/
theorem pv_apply (P : FVec Ideal S1024x512 .bf16) (kk : Vec Ideal S512x384 .bf16) (r : Fin 1024) (d : Fin 256) :
    k0_pay73 (k0_pay2 kk) P (ix2 r d) = ∑ c : Fin 512, P (ix2 r c) * kk (ix2 c (⟨d.val, by omega⟩ : Fin 384)) := by
  pointwise [k0_pay73, k0_pay2]

theorem shB_apply (r : Fin 128) (c : Fin 512) :
    shB s mask h (ix2 r c) = if mask (ix2 r c) = 1#1 then s (ix2 (hrow h r) c) else ⊥ := by
  pointwise [shB, ofBits_negInf]
  rfl

theorem mN_apply (m : FVec Ideal S128x128 .f32) (r j : Fin 128) :
    mN s mask h m (ix2 r j) = max (m (ix2 r j)) (Finset.univ.fold max ⊥ fun c : Fin 512 => shB s mask h (ix2 r c)) := by
  pointwise [mN, ofBits_negInf]

theorem pN_apply (m : FVec Ideal S128x128 .f32) (r : Fin 128) (c : Fin 512) :
    pN s mask h m (ix2 r c) = Ideal.exp (shB s mask h (ix2 r c)
      - mN s mask h m (ix2 r (⟨c.val % 128, Nat.mod_lt _ (by decide)⟩ : Fin 128))) := by
  pointwise [pN]
  congr 2
  split_ifs <;> congr 3 <;> omega

theorem aN_apply (m : FVec Ideal S128x128 .f32) (r j : Fin 128) :
    aN s mask h m (ix2 r j) = Ideal.exp (m (ix2 r j) - mN s mask h m (ix2 r j)) := by
  pointwise [aN]

theorem lN_apply (m l : FVec Ideal S128x128 .f32) (r j : Fin 128) :
    lN s mask h m l (ix2 r j) = aN s mask h m (ix2 r j) * l (ix2 r j) + ∑ c : Fin 512, pN s mask h m (ix2 r c) := by
  pointwise [lN]

theorem accN_apply (pv : FVec Ideal S1024x256 .f32) (acc : FVec Ideal S128x256 .f32) (a : FVec Ideal S128x128 .f32)
    (r : Fin 128) (d : Fin 256) :
    accN pv h acc a (ix2 r d) = acc (ix2 r d) * a (ix2 r (⟨d.val % 128, Nat.mod_lt _ (by decide)⟩ : Fin 128))
      + pv (ix2 (hrow h r) d) := by
  pointwise [accN]
  congr 2
  split_ifs <;> congr 3 <;> omega

end Cert.Proof

end
-- ==== Proof.RowMath.lean ====
/-
The arithmetic of one row of an attention computed chunk by chunk.

A row has a score for every key: a real number, or `⊥` for a key the row may not see. The
weight of a key against a shift `μ` is `exp (score - μ)`, and zero for a key not seen. A
row's running sums are kept against a shift that changes from chunk to chunk; what they hold
is the weighted sum over the keys met so far, against the shift of the moment (`AccOk`). The
quotient of two such sums is the same for every shift, which is all the result needs: the
shift need not be known, only that it is a real number.
-/
module

public import Idealize.ShloMosaic.PureOps.Ideal

@[expose] public section

namespace Cert.Proof

open Idealize.ShloMosaic

/-- The weight of a key with score `x`, against the shift `μ`. -/
noncomputable def wt (x : EReal) (μ : ℝ) : ℝ := if x = ⊥ then 0 else Real.exp (x.toReal - μ)

@[simp] theorem wt_bot (μ : ℝ) : wt ⊥ μ = 0 := if_pos rfl

theorem wt_nonneg (x : EReal) (μ : ℝ) : 0 ≤ wt x μ := by
  unfold wt; split
  · exact le_rfl
  · exact (Real.exp_pos _).le

theorem wt_pos {x : EReal} (hx : x ≠ ⊥) (μ : ℝ) : 0 < wt x μ := by
  rw [wt, if_neg hx]; exact Real.exp_pos _

/-- The exponential of a shifted score is its weight. -/
theorem exp_sub_coe {x : EReal} (hx : x ≠ ⊤) (μ : ℝ) : Ideal.exp (x - (μ : EReal)) = (wt x μ : EReal) := by
  induction x with
  | bot => rw [wt_bot, EReal.bot_sub]; rfl
  | top => exact absurd rfl hx
  | coe r =>
    rw [wt, if_neg (EReal.coe_ne_bot r), EReal.toReal_coe, ← EReal.coe_sub]; rfl

/-- Changing the shift multiplies every weight by the same factor. -/
theorem wt_shift (x : EReal) (μ μ' : ℝ) : wt x μ * Real.exp (μ - μ') = wt x μ' := by
  unfold wt; split
  · exact zero_mul _
  · rw [← Real.exp_add]; congr 1; ring

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weighted sum of the values `V` over the first `k` keys, against `μ`. -/
noncomputable def part (X : ℕ → EReal) (V : ℕ → ℝ) (k : ℕ) (μ : ℝ) : ℝ :=
  ∑ c ∈ Finset.range k, wt (X c) μ * V c

theorem part_shift (X : ℕ → EReal) (V : ℕ → ℝ) (k : ℕ) (μ μ' : ℝ) :
    part X V k μ * Real.exp (μ - μ') = part X V k μ' := by
  unfold part
  rw [Finset.sum_mul]
  refine Finset.sum_congr rfl fun c _ => ?_
  rw [mul_right_comm, wt_shift]

/-- After `k` keys: the shift is not yet set and the sum is zero, or the shift is real and the sum is
    the weighted sum against it. -/
def AccOk (X : ℕ → EReal) (V : ℕ → ℝ) (k : ℕ) (M a : EReal) : Prop :=
  (k = 0 ∧ M = ⊥ ∧ a = 0) ∨ ∃ μ : ℝ, M = (μ : EReal) ∧ a = (part X V k μ : EReal)

/-- Before any key. -/
theorem accOk_zero (X : ℕ → EReal) (V : ℕ → ℝ) : AccOk X V 0 ⊥ 0 := .inl ⟨rfl, rfl, rfl⟩

/-- The largest of the old shift and a chunk's scores is a real number, if no score is `⊤` and either
    the old shift is real or the chunk has a real score. -/
theorem shift_real {ι : Type*} [Fintype ι] (M : EReal) (x : ι → EReal) (hM : M ≠ ⊤) (hx : ∀ c, x c ≠ ⊤)
    (h : M ≠ ⊥ ∨ ∃ c, x c ≠ ⊥) : ∃ μ : ℝ, max M (Finset.univ.fold max ⊥ x) = (μ : EReal) := by
  have hfold : Finset.univ.fold max ⊥ x = Finset.univ.sup x := rfl
  rw [hfold]
  have hne : max M (Finset.univ.sup x) ≠ ⊤ := by
    rcases max_choice M (Finset.univ.sup x) with e | e <;> rw [e]
    · exact hM
    · exact ((Finset.sup_lt_iff bot_lt_top).2 fun c _ => lt_top_iff_ne_top.2 (hx c)).ne
  have hnb : max M (Finset.univ.sup x) ≠ ⊥ := by
    intro e
    rw [max_eq_bot] at e
    rcases h with h | ⟨c, hc⟩
    · exact h e.1
    · exact hc (le_bot_iff.1 (e.2 ▸ Finset.le_sup (Finset.mem_univ c)))
  exact ⟨_, (EReal.coe_toReal hne hnb).symm⟩

/-- One chunk of `w` keys: the old sum, brought to the new shift, plus the chunk's weighted values. -/
theorem accOk_step (X : ℕ → EReal) (hX : ∀ c, X c ≠ ⊤) (V : ℕ → ℝ) (k w : ℕ) (M a : EReal) (μ' : ℝ)
    (h : AccOk X V k M a) :
    Ideal.exp (M - (μ' : EReal)) * a
      + ∑ c : Fin w, Ideal.exp (X (k + c) - (μ' : EReal)) * (V (k + c) : EReal) = (part X V (k + w) μ' : EReal) := by
  have hs : (∑ c : Fin w, Ideal.exp (X (k + c) - (μ' : EReal)) * (V (k + c) : EReal))
      = ((∑ c : Fin w, wt (X (k + c)) μ' * V (k + c) : ℝ) : EReal) := by
    rw [coe_sum]
    exact Finset.sum_congr rfl fun c _ => by rw [exp_sub_coe (hX _), EReal.coe_mul]
  have ho : Ideal.exp (M - (μ' : EReal)) * a = (part X V k μ' : EReal) := by
    rcases h with ⟨rfl, rfl, rfl⟩ | ⟨μ, rfl, rfl⟩
    · rw [mul_zero]; simp [part]
    · rw [exp_sub_coe (EReal.coe_ne_top μ), ← EReal.coe_mul]
      congr 1
      rw [wt, if_neg (EReal.coe_ne_bot μ), EReal.toReal_coe, mul_comm, part_shift]
  rw [hs, ho, ← EReal.coe_add]
  congr 1
  unfold part
  rw [Finset.sum_range_add, Finset.sum_range fun x => wt (X (k + x)) μ' * V (k + x)]

/-- Keys not seen add nothing. -/
theorem part_mono (X : ℕ → EReal) (V : ℕ → ℝ) (k K : ℕ) (hk : k ≤ K) (h : ∀ c, k ≤ c → c < K → X c = ⊥) (μ : ℝ) :
    part X V k μ = part X V K μ := by
  unfold part
  refine Finset.sum_subset (Finset.range_mono hk) fun c hc hc' => ?_
  rw [h c (by simpa using hc') (by simpa using hc), wt_bot, zero_mul]

/-- The quotient of the weighted sum of `V` by the sum of the weights, against one shift, is the
    sum of the normalised weights times `V`, against any other. -/
theorem quot_eq (X : ℕ → EReal) (hX : ∀ c, X c ≠ ⊤) (V : ℕ → ℝ) (K : ℕ) (hK : ∃ c < K, X c ≠ ⊥) (μ μ' : ℝ) :
    Ideal.div (part X V K μ : EReal) (part X (fun _ => 1) K μ : EReal)
      = ∑ c : Fin K, Ideal.div (Ideal.exp (X c - (μ' : EReal))) (∑ e : Fin K, Ideal.exp (X e - (μ' : EReal)))
          * (V c : EReal) := by
  have hpos : ∀ ν, 0 < part X (fun _ => 1) K ν := fun ν => by
    obtain ⟨c, hc, hx⟩ := hK
    refine Finset.sum_pos' (fun c _ => ?_) ⟨c, Finset.mem_range.2 hc, ?_⟩
    · rw [mul_one]; exact wt_nonneg _ _
    · rw [mul_one]; exact wt_pos hx _
  have hS : (∑ e : Fin K, Ideal.exp (X e - (μ' : EReal))) = (part X (fun _ => 1) K μ' : EReal) := by
    unfold part
    rw [Finset.sum_range, coe_sum]
    exact Finset.sum_congr rfl fun e _ => by rw [exp_sub_coe (hX _), mul_one]
  rw [hS, Ideal.div_coe (hpos μ).ne', ← EReal.coe_mul]
  have hr : ∀ c : Fin K, Ideal.div (Ideal.exp (X c - (μ' : EReal))) (part X (fun _ => 1) K μ' : EReal) * (V c : EReal)
      = ((wt (X c) μ' * (1 / part X (fun _ => 1) K μ') * V c : ℝ) : EReal) := fun c => by
    rw [Ideal.div_coe (hpos μ').ne', exp_sub_coe (hX _), ← EReal.coe_mul, ← EReal.coe_mul]
  rw [Finset.sum_congr rfl fun c _ => hr c, ← coe_sum]
  congr 1
  have e1 : (∑ c : Fin K, wt (X c) μ' * (1 / part X (fun _ => 1) K μ') * V c)
      = part X V K μ' * (1 / part X (fun _ => 1) K μ') := by
    unfold part
    rw [Finset.sum_range (fun c => wt (X c) μ' * V c), Finset.sum_mul]
    exact Finset.sum_congr rfl fun c _ => mul_right_comm _ _ _
  rw [e1, ← part_shift X V K μ μ', ← part_shift X (fun _ => 1) K μ μ']
  have := (hpos μ).ne'
  have := (Real.exp_pos (μ - μ')).ne'
  field_simp

end Cert.Proof
-- ==== Proof.RowValue.lean ====
/-
What the running maxima, sums and accumulators of one row hold after some chunks of keys.

The row's shift is the same in every lane; the sum in every lane is the sum of the weights of
the keys met so far, and the accumulator of a column is the weighted sum of that column of
the keys, against that shift.
-/
module

public import proofs.«01_k».proof.Proof.StepValue
public import proofs.«01_k».proof.Proof.Trip
public import proofs.«01_k».proof.Proof.RowMath

@[expose] public section

set_option maxRecDepth 16384

noncomputable section

namespace Cert.Proof

open Cert.KernelIdeal Cert.KernelIdeal.Gen Idealize.ShloMosaic

/-- Key number `c`, brought into range. -/
abbrev key (c : ℕ) : Fin 2048 := ⟨c % 2048, Nat.mod_lt _ (by decide)⟩

/-- The scores of a row that sees the keys up to `T`. -/
def seen (sc : Fin 2048 → EReal) (T : ℕ) (c : ℕ) : EReal := if c % 2048 ≤ T then sc (key c) else ⊥

theorem seen_ne_top {sc : Fin 2048 → EReal} (h : ∀ c, sc c ≠ ⊤) (T c : ℕ) : seen sc T c ≠ ⊤ := by
  unfold seen; split
  · exact h _
  · exact bot_ne_top

section Index

variable {N : ℕ} {α : Type}

theorem headRows_apply (h : Fin 8) (X : (⟨2, ![1024, N]⟩ : Shape).Idx → α) (r : Fin 128) (j : Fin N) :
    headRows h X (ix2 r j) = X (ix2 (hrow h r) j) := by
  refine congrArg X (funext fun a => Fin.ext ?_)
  match a with
  | ⟨0, _⟩ => show 128 * h.val + 1 * r.val = 128 * h.val + r.val; omega
  | ⟨1, _⟩ => show 0 + 1 * j.val = j.val; omega

theorem glue_apply (B : Fin 8 → (⟨2, ![128, N]⟩ : Shape).Idx → α) (h : Fin 8) (r : Fin 128) (j : Fin N) :
    glue B (ix2 (hrow h r) j) = B h (ix2 r j) := by
  rw [← headRows_apply h (glue B), headRows_glue]

end Index

variable (q : FVec Ideal S1024x384 .bf16) (t : IVec S128x1 32) (col : IVec S1x512 32) (K : FVec Ideal S2048x384 .bf16)

/-- The masked scores of a chunk of keys. -/
theorem chunk_scores (h : Fin 8) (r : Fin 128) (T : ℕ) (sc : Fin 2048 → EReal)
    (hsc : ∀ c, (∑ d : Fin 384, q (ix2 (hrow h r) d) * K (ix2 c d)) * Ideal.ofBits .f32 0x3DD105EC#32 = sc c)
    (k : ℕ) (hk : k < 4) (hm : ∀ c : Fin 512, maskAt t col k (ix2 r c) = if 512 * k + c.val ≤ T then 1#1 else 0#1)
    (c : Fin 512) :
    shB (logits q (chunk K k)) (maskAt t col k) h (ix2 r c) = seen sc T (512 * k + c.val) := by
  have hc : (512 * k + c.val) % 2048 = 512 * k + c.val := Nat.mod_eq_of_lt (by omega)
  rw [shB_apply, hm c, logits_apply, seen, hc]
  by_cases hT : 512 * k + c.val ≤ T
  · rw [if_pos hT, if_pos rfl, if_pos hT, ← hsc]; rfl
  · rw [if_neg hT, if_neg hT, if_neg (by decide)]

/-- The row after `n` chunks. -/
theorem state_row (h : Fin 8) (r : Fin 128) (T : ℕ) (sc : Fin 2048 → EReal)
    (hsc : ∀ c, (∑ d : Fin 384, q (ix2 (hrow h r) d) * K (ix2 c d)) * Ideal.ofBits .f32 0x3DD105EC#32 = sc c)
    (htop : ∀ c, sc c ≠ ⊤) (hbot : ∀ c, sc c ≠ ⊥)
    (hm : ∀ k < 4, ∀ c : Fin 512, maskAt t col k (ix2 r c) = if 512 * k + c.val ≤ T then 1#1 else 0#1)
    (V : Fin 256 → Fin 2048 → ℝ) (hV : ∀ d c, K (ix2 c (⟨d.val, by omega⟩ : Fin 384)) = (V d c : EReal)) (n : ℕ) (hn : n ≤ 4) :
    ∃ M0 : EReal, (∀ j : Fin 128, (state q t col K n).1 (ix2 (hrow h r) j) = M0)
      ∧ (∀ j : Fin 128, AccOk (seen sc T) (fun _ => 1) (512 * n) M0 ((state q t col K n).2.1 (ix2 (hrow h r) j)))
      ∧ ∀ d : Fin 256, AccOk (seen sc T) (fun c => V d (key c)) (512 * n) M0 ((state q t col K n).2.2 (ix2 (hrow h r) d)) := by
  induction n with
  | zero =>
    refine ⟨⊥, fun j => ?_, fun j => .inl ⟨rfl, rfl, ?_⟩, fun d => .inl ⟨rfl, rfl, ?_⟩⟩
    · show k0_pay163 (F := Ideal) (ix2 (hrow h r) j) = _
      pointwise [k0_pay163, ofBits_negInf]
    · show k0_pay164 (F := Ideal) (ix2 (hrow h r) j) = _
      pointwise [k0_pay164]
    · show k0_pay165 (F := Ideal) (ix2 (hrow h r) d) = _
      pointwise [k0_pay165]
  | succ k ih =>
    have hk : k < 4 := hn
    obtain ⟨M0, hM, hL, hA⟩ := ih (by omega)
    have hX := seen_ne_top htop T
    have hS := chunk_scores q t col K h r T sc hsc k hk (hm k hk)
    generalize hst : state q t col K k = st at hM hL hA
    have hstep : state q t col K (k + 1) = (stepM (logits q (chunk K k)) (maskAt t col k) st.1,
        stepL (logits q (chunk K k)) (maskAt t col k) st.1 st.2.1,
        stepA (chunk K k) (logits q (chunk K k)) (maskAt t col k) st.1 st.2.2) := by
      rw [← hst]; rfl
    rw [hstep]
    have hMt : M0 ≠ ⊤ := by
      rcases hL 0 with ⟨-, e, -⟩ | ⟨μ, e, -⟩ <;> rw [e]
      · exact bot_ne_top
      · exact EReal.coe_ne_top μ
    obtain ⟨μ, hμ⟩ := shift_real M0 (fun c : Fin 512 => seen sc T (512 * k + c.val)) hMt (fun c => hX _) (by
      rcases hL 0 with ⟨e, -, -⟩ | ⟨μ, e, -⟩
      · right
        refine ⟨0, ?_⟩
        have : k = 0 := by omega
        subst this
        show seen sc T 0 ≠ ⊥
        rw [seen, if_pos (by omega)]
        exact hbot _
      · left; rw [e]; exact EReal.coe_ne_bot μ)
    have hmN : ∀ j, mN (logits q (chunk K k)) (maskAt t col k) h (headRows h st.1) (ix2 r j) = (μ : EReal) := fun j => by
      rw [mN_apply, headRows_apply, hM, ← hμ]
      congr 2
      exact funext hS
    have hp : ∀ c, pN (logits q (chunk K k)) (maskAt t col k) h (headRows h st.1) (ix2 r c)
        = Ideal.exp (seen sc T (512 * k + c.val) - (μ : EReal)) := fun c => by
      rw [pN_apply, hmN, hS]
    have ha : ∀ j, aN (logits q (chunk K k)) (maskAt t col k) h (headRows h st.1) (ix2 r j)
        = Ideal.exp (M0 - (μ : EReal)) := fun j => by
      rw [aN_apply, hmN, headRows_apply, hM]
    refine ⟨μ, fun j => ?_, fun j => .inr ⟨μ, rfl, ?_⟩, fun d => .inr ⟨μ, rfl, ?_⟩⟩
    · show stepM _ _ _ _ = _
      rw [stepM, glue_apply, hmN]
    · show stepL _ _ _ _ _ = _
      rw [stepL, glue_apply, lN_apply, ha, headRows_apply, Finset.sum_congr rfl fun c _ => hp c]
      have := accOk_step (seen sc T) hX (fun _ => 1) (512 * k) 512 M0 _ μ (hL j)
      simp only [EReal.coe_one, mul_one] at this
      exact this
    · show stepA _ _ _ _ _ _ = _
      rw [stepA, glue_apply, accN_apply, ha, headRows_apply, pv_apply, mul_comm]
      refine Eq.trans ?_ (accOk_step (seen sc T) hX (fun c => V d (key c)) (512 * k) 512 M0 _ μ (hA d))
      congr 1
      refine Finset.sum_congr rfl fun c _ => ?_
      rw [stepP, glue_apply, ← hp c, ← hV]
      rfl

end Cert.Proof

end
-- ==== Proof.Causal.lean ====
/-
Which keys a row may see, as comparisons of small integers.

The kernel and the reference both compare 32-bit positions as signed integers. All positions
are far below the sign bit, so the comparison is that of the natural numbers.
-/
module

public import proofs.«01_k».proof.Proof.Body
public import Idealize.ShloMosaic.Lib.Pointwise

@[expose] public section

set_option maxRecDepth 16384

noncomputable section

namespace Cert.Proof

open Cert.KernelIdeal Cert.KernelIdeal.Gen Idealize.ShloMosaic

/-- Small naturals compare as signed 32-bit integers the way they compare as naturals. -/
theorem sle_ofNat (a b : ℕ) (ha : a < 2 ^ 31) (hb : b < 2 ^ 31) :
    IntOp.cmpi CmpIPredicate.sle (BitVec.ofNat 32 a) (BitVec.ofNat 32 b) = if a ≤ b then 1#1 else 0#1 := by
  have e : ∀ n : ℕ, n < 2 ^ 31 → (BitVec.ofNat 32 n).toInt = n := fun n hn => by
    rw [BitVec.toInt_eq_toNat_of_lt] <;> rw [BitVec.toNat_ofNat, Nat.mod_eq_of_lt (by omega)]
    omega
  show BitVec.ofBool ((BitVec.ofNat 32 a).sle (BitVec.ofNat 32 b)) = _
  rw [BitVec.sle_eq_decide, e a ha, e b hb]
  by_cases h : a ≤ b
  · simp [h]
  · simp [h]

/-- Key `512 k + c` is seen by the row of position `128 b + r` when it is not later. -/
theorem mask_apply (i : grid0.Coords) (k : ℕ) (hk : k < 4) (r : Fin 128) (c : Fin 512) :
    maskAt (k0_pay166 i) cols k (ix2 r c) = if 512 * k + c.val ≤ 128 * (i 1).val + r.val then 1#1 else 0#1 := by
  have hi : (i 1).val < 16 := (i 1).isLt
  have e1 : (IntOp.addi (Scalar.muli (Scf.iv (0#32) (1#32) k) 512#32) (cols (ix2 0 c))) = BitVec.ofNat 32 (512 * k + c.val) := by
    have : cols (ix2 0 c) = BitVec.ofNat 32 c.val := by
      pointwise [cols]
    rw [this]
    show (0#32 + BitVec.ofNat 32 k * 1#32) * 512#32 + BitVec.ofNat 32 c.val = _
    rw [BitVec.zero_add, BitVec.mul_one, BitVec.ofNat_add, BitVec.ofNat_mul, BitVec.mul_comm]
  have e2 : (k0_pay166 i) (ix2 r 0) = BitVec.ofNat 32 (128 * (i 1).val + r.val) := by
    have : (k0_pay166 i) (ix2 r 0) = BitVec.ofNat 32 (i 1).val * 128#32 + BitVec.ofNat 32 r.val := by
      pointwise [k0_pay166]
      rfl
    rw [this, BitVec.ofNat_add, BitVec.ofNat_mul, BitVec.mul_comm]
  have e3 : maskAt (k0_pay166 i) cols k (ix2 r c) = IntOp.cmpi CmpIPredicate.sle
      (IntOp.addi (Scalar.muli (Scf.iv (0#32) (1#32) k) 512#32) (cols (ix2 0 c))) ((k0_pay166 i) (ix2 r 0)) := by
    pointwise [maskAt]
  rw [e3, e1, e2, sle_ofNat _ _ (by omega) (by omega)]

end Cert.Proof

end
-- ==== Proof.BlockValue.lean ====
/-
The output block of a grid point, element by element.

A row's output is, summed over the heads and the latent columns, the attention of that head's
row times the head's value weights.
-/
module

public import proofs.«01_k».proof.Proof.RowValue
public import proofs.«01_k».proof.Proof.Causal

@[expose] public section

set_option maxRecDepth 16384

noncomputable section

namespace Cert.Proof

open Cert.KernelIdeal Cert.KernelIdeal.Gen Idealize.ShloMosaic

/-- Attention of one row: scores `x`, any shift `μ`, values `v`. -/
def attn (x : Fin 2048 → EReal) (μ : ℝ) (v : Fin 2048 → EReal) : EReal :=
  ∑ c : Fin 2048, Ideal.div (Ideal.exp (x c - (μ : EReal))) (∑ e : Fin 2048, Ideal.exp (x e - (μ : EReal))) * v c

/-- The scores of the row of position `T`: those of later keys are `⊥`. -/
def causal (sc : Fin 2048 → EReal) (T : ℕ) (c : Fin 2048) : EReal := if c.val ≤ T then sc c else ⊥

theorem seen_fin (sc : Fin 2048 → EReal) (T : ℕ) (c : Fin 2048) : seen sc T c.val = causal sc T c := by
  have h : c.val % 2048 = c.val := Nat.mod_eq_of_lt c.isLt
  have hk : key c.val = c := Fin.ext h
  rw [seen, causal, h, hk]

theorem outHead_apply (A : FVec Ideal S128x256 .f32) (l : FVec Ideal S128x128 .f32) (w : Vec Ideal S1x256x512 .bf16)
    (r : Fin 128) (n : Fin 512) :
    outHead A l w (ix2 r n) = ∑ d : Fin 256,
      Ideal.div (A (ix2 r d)) (l (ix2 r (⟨d.val % 128, Nat.mod_lt _ (by decide)⟩ : Fin 128))) * w (ix3 0 d n) := by
  have e : ∀ d : Fin 256, concatenate S128x256 1 [⟨S128x128, l⟩, ⟨S128x128, l⟩] concatenates_S128x128_S128x128_S128x256_d1 (ix2 r d)
      = l (ix2 r (⟨d.val % 128, Nat.mod_lt _ (by decide)⟩ : Fin 128)) := fun d => by
    pointwise
    split_ifs <;> congr 2 <;> exact Fin.ext (by simp only []; omega)
  unfold outHead
  generalize concatenate S128x256 1 [⟨S128x128, l⟩, ⟨S128x128, l⟩] concatenates_S128x128_S128x128_S128x256_d1 = L at e
  pointwise
  exact Finset.sum_congr rfl fun d _ => by rw [e]

theorem outOf_apply (A : Fin 8 → FVec Ideal S128x256 .f32) (l : Fin 8 → FVec Ideal S128x128 .f32)
    (w : Fin 8 → Vec Ideal S1x256x512 .bf16) (r : Fin 128) (n : Fin 512) :
    outOf A l w (ix2 r n) = ∑ h : Fin 8, outHead (A h) (l h) (w h) (ix2 r n) := by
  rw [Fin.sum_univ_eight]
  rfl

theorem wHead_apply (X4 : Vec Ideal S8x256x512 .bf16) (h : Fin 8) (d : Fin 256) (n : Fin 512) :
    wHead X4 h (ix3 0 d n) = X4 (ix3 h d n) := by
  refine congrArg X4 (funext fun a => Fin.ext ?_)
  match a with
  | ⟨0, _⟩ => show h.val + 1 * 0 = h.val; omega
  | ⟨1, _⟩ => show 0 + 1 * d.val = d.val; omega
  | ⟨2, _⟩ => show 0 + 1 * n.val = n.val; omega

/-- The block's queries, its heads laid one under another. -/
theorem queries_apply (X2 : Vec Ideal S8x128x384 .bf16) (h : Fin 8) (r : Fin 128) (d : Fin 384) :
    k0_pay162 X2 (ix2 (hrow h r) d) = X2 (ix3 h r d) := by
  pointwise [k0_pay162]
  congr 2 <;> exact Fin.ext (by simp only []; omega)

/-- The output block at a row and a column. -/
theorem outVal_apply (i : grid0.Coords) (X2 : Vec Ideal S8x128x384 .bf16) (X3 : Vec Ideal S2048x384 .bf16)
    (X4 : Vec Ideal S8x256x512 .bf16) (r : Fin 128) (sc : Fin 8 → Fin 2048 → EReal)
    (hsc : ∀ h c, (∑ d : Fin 384, X2 (ix3 h r d) * X3 (ix2 c d)) * Ideal.ofBits .f32 0x3DD105EC#32 = sc h c)
    (htop : ∀ h c, sc h c ≠ ⊤) (hbot : ∀ h c, sc h c ≠ ⊥)
    (V : Fin 256 → Fin 2048 → ℝ) (hV : ∀ d c, X3 (ix2 c (⟨d.val, by omega⟩ : Fin 384)) = (V d c : EReal))
    (μ : Fin 8 → ℝ) (n : Fin 512) :
    outVal i X2 X3 X4 (ix2 r n) = ∑ h : Fin 8, ∑ d : Fin 256,
      attn (causal (sc h) (128 * (i 1).val + r.val)) (μ h) (fun c => (V d c : EReal)) * X4 (ix3 h d n) := by
  have hi : (i 1).val < 16 := (i 1).isLt
  unfold outVal lastState
  rw [outOf_apply]
  refine Finset.sum_congr rfl fun h _ => ?_
  rw [outHead_apply]
  refine Finset.sum_congr rfl fun d _ => ?_
  rw [wHead_apply, headRows_apply, headRows_apply]
  congr 1
  set T := 128 * (i 1).val + r.val with hT
  obtain ⟨M0, -, hL, hA⟩ := state_row (k0_pay162 X2) (k0_pay166 i) cols X3 h r T (sc h)
    (fun c => by rw [← hsc]; congr 1; exact Finset.sum_congr rfl fun d _ => by rw [queries_apply])
    (htop h) (hbot h) (fun k hk c => mask_apply i k hk r c) V hV ((i 1).val / 4 + 1) (by omega)
  have hX := seen_ne_top (htop h) T
  have hend : ∀ c, 512 * ((i 1).val / 4 + 1) ≤ c → c < 2048 → seen (sc h) T c = ⊥ := fun c h1 h2 => by
    rw [seen, if_neg]
    rw [Nat.mod_eq_of_lt h2]; omega
  have hK : 512 * ((i 1).val / 4 + 1) ≤ 2048 := by omega
  rcases hA d with ⟨e, -, -⟩ | ⟨ν, eM, eA⟩
  · omega
  rcases hL (⟨d.val % 128, Nat.mod_lt _ (by decide)⟩ : Fin 128) with ⟨e, -, -⟩ | ⟨ν', eM', eL⟩
  · omega
  have : ν = ν' := EReal.coe_injective (eM.symm.trans eM')
  subst this
  rw [eA, eL, part_mono _ _ _ 2048 hK hend, part_mono _ _ _ 2048 hK hend,
    quot_eq _ hX _ 2048 ⟨0, by decide, by rw [seen, if_pos (by omega)]; exact hbot h _⟩ ν (μ h)]
  unfold attn
  simp only [seen_fin]
  refine Finset.sum_congr rfl fun c _ => ?_
  have hk : key c.val = c := Fin.ext (Nat.mod_eq_of_lt c.isLt)
  rw [hk]

end Cert.Proof

end
-- ==== Proof.Target.lean ====
/-
The attention as one function of the five arguments, over the extended reals, and the two sums
by which the kernel's layout of queries, keys and weights comes down to it: the lanes of a query
that belong to other heads are zero, and so are the columns of the weights.
-/
module

public import proofs.«01_k».proof.Proof.HostWeights
public import proofs.«01_k».proof.Proof.BlockValue

@[expose] public section

set_option maxRecDepth 16384

noncomputable section

namespace Cert.Proof

open Cert.KernelIdeal Cert.KernelIdeal.Gen Idealize.ShloMosaic Idealize.ShloMosaic.TcCoe

/-- The score of query `t` of head `h` against key `s`: the latent product and the rotary product, scaled. -/
def score (a0 : Vec Ideal S8x2048x8x256 .f32) (a1 : Vec Ideal S8x2048x8x32 .f32) (a2 : Vec Ideal S8x2048x256 .f32)
    (a3 : Vec Ideal S8x2048x32 .f32) (b : Fin 8) (t : Fin 2048) (h : Fin 8) (s : Fin 2048) : EReal :=
  ((∑ d : Fin 256, a0 (ix4 b t h d) * a2 (ix3 b s d)) + ∑ r : Fin 32, a1 (ix4 b t h r) * a3 (ix3 b s r)) * Ideal.ofBits .f32 0x3DD105EC#32

/-- A key, entry by entry: its latent, then its rotary key four times over. -/
def kEntry (a2 : Vec Ideal S8x2048x256 .f32) (a3 : Vec Ideal S8x2048x32 .f32) (b : Fin 8) (s : Fin 2048) (d : Fin 384) : EReal :=
  if hd : d.val < 256 then a2 (ix3 b s (⟨d.val, hd⟩ : Fin 256)) else a3 (ix3 b s (⟨(d.val - 256) % 32, by omega⟩ : Fin 32))

/-- The attention's result at batch `b`, query `t`, head `h` and value column `e`, the exponentials shifted by `μ`. -/
def target (a0 : Vec Ideal S8x2048x8x256 .f32) (a1 : Vec Ideal S8x2048x8x32 .f32) (a2 : Vec Ideal S8x2048x256 .f32)
    (a3 : Vec Ideal S8x2048x32 .f32) (a4 : Vec Ideal S8x256x64 .f32) (μ : Fin 8 → Fin 2048 → Fin 8 → ℝ)
    (b : Fin 8) (t : Fin 2048) (h : Fin 8) (e : Fin 64) : EReal :=
  ∑ d : Fin 256, attn (causal (score a0 a1 a2 a3 b t h) t.val) (μ b t h) (fun s => a2 (ix3 b s d)) * a4 (ix3 h d e)

variable (a0 : Vec Ideal S8x2048x8x256 .f32) (a1 : Vec Ideal S8x2048x8x32 .f32) (a2 : Vec Ideal S8x2048x256 .f32)
  (a3 : Vec Ideal S8x2048x32 .f32) (a4 : Vec Ideal S8x256x64 .f32)

/-- Of 128 lanes in four groups of 32, the sum over one group. -/
theorem sum_group (g : ℕ) (hg : g < 4) (f : Fin 32 → EReal) :
    (∑ l : Fin 128, if l.val / 32 = g then f ⟨l.val % 32, by omega⟩ else 0) = ∑ r : Fin 32, f r := by
  rw [← Finset.sum_filter]
  refine Finset.sum_bij' (fun l _ => (⟨l.val % 32, by omega⟩ : Fin 32)) (fun r _ => (⟨32 * g + r.val, by omega⟩ : Fin 128)) ?_ ?_ ?_ ?_ ?_
  · intro l _; exact Finset.mem_univ _
  · intro r _
    refine Finset.mem_filter.2 ⟨Finset.mem_univ _, ?_⟩
    simp only []; omega
  · intro l hl
    have := (Finset.mem_filter.1 hl).2
    exact Fin.ext (by simp only []; omega)
  · intro r _
    exact Fin.ext (by simp only []; omega)
  · intro l _; rfl

/-- The product of a query's 384 entries with a key's is the latent product and the rotary product. -/
theorem sum_entries (b : Fin 8) (t : Fin 2048) (h : Fin 8) (s : Fin 2048) :
    (∑ d : Fin 384, qEntry a0 a1 b t h d * kEntry a2 a3 b s d)
      = (∑ d : Fin 256, a0 (ix4 b t h d) * a2 (ix3 b s d)) + ∑ r : Fin 32, a1 (ix4 b t h r) * a3 (ix3 b s r) := by
  refine (Fin.sum_univ_add (a := 256) (b := 128) fun d : Fin (256 + 128) => (qEntry a0 a1 b t h d * kEntry a2 a3 b s d : EReal)).trans ?_
  refine congrArg₂ (fun x y : EReal => x + y) ?_ ?_
  · refine Finset.sum_congr rfl fun d _ => ?_
    have hd : (Fin.castAdd 128 d).val < 256 := d.isLt
    rw [qEntry, kEntry, dif_pos hd, dif_pos hd]
    try rfl
  · rw [← sum_group (h.val % 4) (by omega) fun r => a1 (ix4 b t h r) * a3 (ix3 b s r)]
    refine Finset.sum_congr rfl fun l _ => ?_
    have hl : (Fin.natAdd 256 l).val = 256 + l.val := rfl
    have hd : ¬ (Fin.natAdd 256 l).val < 256 := by omega
    have e : (⟨((Fin.natAdd 256 l).val - 256) % 32, by omega⟩ : Fin 32) = ⟨l.val % 32, by omega⟩ := Fin.ext (by simp only []; omega)
    rw [qEntry, kEntry, dif_neg hd, dif_neg hd, e]
    have hc : ((Fin.natAdd 256 l).val - 256) / 32 = l.val / 32 := by omega
    rw [hc]
    split_ifs
    · rfl
    · rw [zero_mul]

/-- Of the eight heads' parts of column `n`, only that of the head to which the column belongs is not zero. -/
theorem sum_heads (x : Fin 8 → Fin 256 → EReal) (n : Fin 512) :
    (∑ h : Fin 8, ∑ d : Fin 256, x h d * (if n.val / 64 = h.val then a4 (ix3 h d (⟨n.val % 64, by omega⟩ : Fin 64)) else 0))
      = ∑ d : Fin 256, x ⟨n.val / 64, by omega⟩ d * a4 (ix3 (⟨n.val / 64, by omega⟩ : Fin 8) d (⟨n.val % 64, by omega⟩ : Fin 64)) := by
  rw [Finset.sum_eq_single (⟨n.val / 64, by omega⟩ : Fin 8)]
  · refine Finset.sum_congr rfl fun d _ => ?_
    rw [if_pos rfl]
  · intro h _ hne
    refine Finset.sum_eq_zero fun d _ => ?_
    rw [if_neg fun q => hne (Fin.ext q.symm), mul_zero]
  · intro q; exact absurd (Finset.mem_univ _) q

/-- Every entry is a real number. -/
def AllReal {s : Shape} (x : Vec Ideal s .f32) : Prop := ∀ i, ∃ r : ℝ, x i = (r : EReal)

theorem real_sum {n : ℕ} (x y : Fin n → EReal) (hx : ∀ i, ∃ r : ℝ, x i = r) (hy : ∀ i, ∃ r : ℝ, y i = r) :
    ∃ r : ℝ, ∑ i, x i * y i = (r : EReal) := by
  choose u hu using hx
  choose v hv using hy
  refine ⟨∑ i, u i * v i, ?_⟩
  rw [coe_sum]
  exact Finset.sum_congr rfl fun i _ => by rw [hu, hv, EReal.coe_mul]

/-- The scores of real queries against real keys are real. -/
theorem score_real (h0 : AllReal a0) (h1 : AllReal a1) (h2 : AllReal a2) (h3 : AllReal a3) (b : Fin 8) (t : Fin 2048) (h : Fin 8) (s : Fin 2048) :
    ∃ r : ℝ, score a0 a1 a2 a3 b t h s = (r : EReal) := by
  obtain ⟨u, hu⟩ := real_sum (fun d : Fin 256 => a0 (ix4 b t h d)) (fun d => a2 (ix3 b s d)) (fun _ => h0 _) (fun _ => h2 _)
  obtain ⟨v, hv⟩ := real_sum (fun d : Fin 32 => a1 (ix4 b t h d)) (fun d => a3 (ix3 b s d)) (fun _ => h1 _) (fun _ => h3 _)
  obtain ⟨w, hw⟩ : ∃ w : ℝ, Ideal.ofBits .f32 0x3DD105EC#32 = (w : EReal) := ⟨_, by simp [Ideal.ofBits, Ideal.ieee]; rfl⟩
  exact ⟨(u + v) * w, by rw [score, hu, hv, hw, EReal.coe_mul, EReal.coe_add]⟩

end Cert.Proof

end
-- ==== Proof.Pre.lean ====
/-
The precondition read at an entry: the queries, the latents and the rotary keys are real numbers.
-/
module

public import proofs.«01_k».proof.Defs
public import proofs.«01_k».proof.Proof.Frames
public import proofs.«01_k».proof.Proof.Target
public import Idealize.ShloMosaic.Lib.ReduceAll

@[expose] public section

set_option maxRecDepth 16384

noncomputable section

namespace Cert.Proof

open Idealize.ShloMosaic Idealize.ShloMosaic.TcCoe

theorem ofBits_posInf : Ideal.ofBits .f32 0x7F800000#32 = ⊤ := by
  rfl

/-- A number whose absolute value is below infinity is real. -/
theorem real_of_abs_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_posInf] at h
  have h' : BitVec.ofBool (decide (max x (-x) < (⊤ : EReal))) = 1#1 := h
  have lt : max x (-x) < (⊤ : EReal) := by
    by_contra c
    rw [decide_eq_false c] at h'
    exact absurd h' (by decide)
  clear h h'
  induction x with
  | bot => simp at lt
  | coe r => exact ⟨r, rfl⟩
  | top => simp at lt

theorem andi_one (a b : BitVec 1) : IntOp.andi a b = 1#1 → a = 1#1 ∧ b = 1#1 := by
  revert a b; decide

instance : Subsingleton Cert.Pre_finite_inputs.S_.Idx := ⟨fun a b => funext fun x => x.elim0⟩

open Cert.Pre_finite_inputs Cert.Pre_finite_inputs.Facts in
theorem real_inputs [Cert.Pre_finite_inputs.Facts] (a0 : FVec Ideal S8x2048x8x256 .f32) (a1 : FVec Ideal S8x2048x8x32 .f32) (a2 : FVec Ideal S8x2048x256 .f32)
    (a3 : FVec Ideal S8x2048x32 .f32) (a4 : FVec Ideal S8x256x64 .f32) (h : ∀ i, Cert.Pre_finite_inputs.fn a0 a1 a2 a3 a4 i = 1#1) :
    AllReal a0 ∧ AllReal a1 ∧ AllReal a2 ∧ AllReal a3 := by
  have e := h ix0
  dsimp only [fn, fn_part1] at e
  obtain ⟨e, e3⟩ := andi_one _ _ e
  obtain ⟨e, e2⟩ := andi_one _ _ e
  obtain ⟨e0, e1⟩ := andi_one _ _ e
  exact ⟨fun i => real_of_abs_lt (a0 i) (Host.reduce_andi_all _ _ _ _ _ e0 i), fun i => real_of_abs_lt (a1 i) (Host.reduce_andi_all _ _ _ _ _ e1 i),
    fun i => real_of_abs_lt (a2 i) (Host.reduce_andi_all _ _ _ _ _ e2 i), fun i => real_of_abs_lt (a3 i) (Host.reduce_andi_all _ _ _ _ _ e3 i)⟩

end Cert.Proof

end
-- ==== Proof.Array.lean ====
/-
What the output array holds after all blocks, over the extended reals: at row `2048 b + t` and
column `n`, the attention of batch `b`, query `t` and head `n / 64` at value column `n mod 64`.
-/
module

public import proofs.«01_k».proof.Proof.Target
public import Idealize.ShloMosaic.Lib.Pipeline.ValueKit
public import Idealize.ShloMosaic.Lib.Claim

@[expose] public section

set_option maxRecDepth 16384

noncomputable section

namespace Cert.Proof

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- The batch and the block of queries of a point. -/
abbrev batch (t : Fin cfg0.N) : Fin 8 := grid0.coords t 0
abbrev qblock (t : Fin cfg0.N) : Fin 16 := grid0.coords t 1

theorem idx0 (t : Fin cfg0.N) : (cfg0.win 0).index t 0 = 0 ∧ (cfg0.win 0).index t 1 = (batch t).val * 16 + (qblock t).val ∧ (cfg0.win 0).index t 2 = 0 := by
  revert t; decide +kernel

theorem idx1 (t : Fin cfg0.N) : (cfg0.win 1).index t 0 = (batch t).val ∧ (cfg0.win 1).index t 1 = 0 := by
  revert t; decide +kernel

theorem idx2 (t : Fin cfg0.N) : (cfg0.win 2).index t 0 = 0 ∧ (cfg0.win 2).index t 1 = 0 ∧ (cfg0.win 2).index t 2 = 0 := by
  revert t; decide +kernel

theorem idx3 (t : Fin cfg0.N) : (cfg0.win 3).index t 0 = (batch t).val * 16 + (qblock t).val ∧ (cfg0.win 3).index t 1 = 0 := by
  revert t; decide +kernel

theorem block0 (t : Fin cfg0.N) (h : Fin 8) (r : Fin 128) (d : Fin 384) :
    (iblk m c 0 t : Vec Ideal S8x128x384 .bf16) (ix3 h r d)
      = (V m c main_v90 : Vec Ideal S8x16384x384 .bf16)
        (ix3 h (⟨(batch t).val * 2048 + ((qblock t).val * 128 + r.val), by have := (batch t).isLt; have := (qblock t).isLt; omega⟩ : Fin 16384) d) := by
  obtain ⟨e0, e1, e2⟩ := idx0 t
  blk_ext [iblk, e0, e1, e2]

theorem block1 (t : Fin cfg0.N) (s : Fin 2048) (d : Fin 384) :
    (iblk m c 1 t : Vec Ideal S2048x384 .bf16) (ix2 s d)
      = (V m c main_v98 : Vec Ideal S16384x384 .bf16)
        (ix2 (⟨(batch t).val * 2048 + s.val, by have := (batch t).isLt; omega⟩ : Fin 16384) d) := by
  obtain ⟨e0, e1⟩ := idx1 t
  blk_ext [iblk, e0, e1]

theorem read2 (X : Vec Ideal S8x256x512 .bf16) (t : Fin cfg0.N) (h : Fin 8) (d : Fin 256) (n : Fin 512) :
    (((cfg0.win 2).blk t).view.read (Elt Ideal) X : Vec Ideal S8x256x512 .bf16) (ix3 h d n) = X (ix3 h d n) := by
  obtain ⟨e0, e1, e2⟩ := idx2 t
  blk_ext [e0, e1, e2]

theorem block2 (t : Fin cfg0.N) (h : Fin 8) (d : Fin 256) (n : Fin 512) :
    (iblk m c 2 t : Vec Ideal S8x256x512 .bf16) (ix3 h d n) = (V m c main_v148 : Vec Ideal S8x256x512 .bf16) (ix3 h d n) := by
  exact read2 _ t h d n

/-- The batch, the query, the head and the value column of an entry of the output. -/
abbrev rowBatch (i : S16384x512.Idx) : Fin 8 := ⟨(i 0).val / 2048, by have : (i 0).val < 16384 := (i 0).isLt; omega⟩
abbrev rowQuery (i : S16384x512.Idx) : Fin 2048 := ⟨(i 0).val % 2048, by omega⟩
abbrev colHead (i : S16384x512.Idx) : Fin 8 := ⟨(i 1).val / 64, by have : (i 1).val < 512 := (i 1).isLt; omega⟩
abbrev colValue (i : S16384x512.Idx) : Fin 64 := ⟨(i 1).val % 64, by omega⟩

/-- The attention's result as an array of the five arguments. -/
def targetArray (a0 : Vec Ideal S8x2048x8x256 .f32) (a1 : Vec Ideal S8x2048x8x32 .f32) (a2 : Vec Ideal S8x2048x256 .f32)
    (a3 : Vec Ideal S8x2048x32 .f32) (a4 : Vec Ideal S8x256x64 .f32) (μ : Fin 8 → Fin 2048 → Fin 8 → ℝ) : Vec Ideal S16384x512 .bf16 :=
  fun i => target a0 a1 a2 a3 a4 μ (rowBatch i) (rowQuery i) (colHead i) (colValue i)

abbrev A0 : Vec Ideal S8x2048x8x256 .f32 := m ((c : Thread nD τ).loc main_arg0)
abbrev A1 : Vec Ideal S8x2048x8x32 .f32 := m ((c : Thread nD τ).loc main_arg1)
abbrev A2 : Vec Ideal S8x2048x256 .f32 := m ((c : Thread nD τ).loc main_arg2)
abbrev A3 : Vec Ideal S8x2048x32 .f32 := m ((c : Thread nD τ).loc main_arg3)
abbrev A4 : Vec Ideal S8x256x64 .f32 := m ((c : Thread nD τ).loc main_arg4)

variable (h0 : AllReal (A0 m c)) (h1 : AllReal (A1 m c)) (h2 : AllReal (A2 m c)) (h3 : AllReal (A3 m c)) (μ : Fin 8 → Fin 2048 → Fin 8 → ℝ)

include h0 h1 h2 h3 in
/-- What the body leaves in its output buffer at a point. -/
theorem block3 (t : Fin cfg0.N) (r : Fin 128) (n : Fin 512) :
    outVal (grid0.coords t) (iblk m c 0 t) (iblk m c 1 t) (iblk m c 2 t) (ix2 r n)
      = targetArray (A0 m c) (A1 m c) (A2 m c) (A3 m c) (A4 m c) μ
        (ix2 (⟨((batch t).val * 16 + (qblock t).val) * 128 + r.val, by have := (batch t).isLt; have := (qblock t).isLt; omega⟩ : Fin 16384) n) := by
  have hb := (batch t).isLt
  have hq := (qblock t).isLt
  set T : Fin 2048 := ⟨(qblock t).val * 128 + r.val, by omega⟩ with hT
  have hr : ∀ h s, ∃ x : ℝ, score (A0 m c) (A1 m c) (A2 m c) (A3 m c) (batch t) T h s = (x : EReal) :=
    fun h s => score_real _ _ _ _ h0 h1 h2 h3 (batch t) T h s
  choose v hv using h2
  refine (outVal_apply (grid0.coords t) (iblk m c 0 t) (iblk m c 1 t) (iblk m c 2 t) r
    (fun h s => score (A0 m c) (A1 m c) (A2 m c) (A3 m c) (batch t) T h s) (fun h s => ?_)
    (fun h s => ?_) (fun h s => ?_) (fun d s => v (ix3 (batch t) s d)) (fun d s => ?_) (fun h => μ (batch t) T h) n).trans ?_
  · rw [score, ← sum_entries]
    refine congrArg (fun x : EReal => x * _) (Finset.sum_congr rfl fun d _ => ?_)
    exact congrArg₂ (fun x y : EReal => x * y) ((block0 m c t h r d).trans (queriesArray_apply m c h (batch t) T d))
      ((block1 m c t s d).trans (keysArray_apply m c (batch t) s d))
  · obtain ⟨x, hx⟩ := hr h s; rw [hx]; exact EReal.coe_ne_top x
  · obtain ⟨x, hx⟩ := hr h s; rw [hx]; exact EReal.coe_ne_bot x
  · exact (block1 m c t s _).trans ((keysArray_apply m c (batch t) s _).trans ((dif_pos d.isLt).trans (hv _)))
  · have hs : ∀ d : Fin 256, (fun s => ((v (ix3 (batch t) s d) : ℝ) : EReal)) = fun s => A2 m c (ix3 (batch t) s d) :=
      fun d => funext fun s => (hv _).symm
    refine Eq.trans (Finset.sum_congr rfl fun h _ => Finset.sum_congr rfl fun d _ => congrArg₂ (fun x y : EReal => x * y)
      (congrArg (attn (causal (score (A0 m c) (A1 m c) (A2 m c) (A3 m c) (batch t) T h) (128 * (qblock t).val + r.val)) (μ (batch t) T h)) (hs d))
      ((block2 m c t h d n).trans (weightsArray_apply m c h d n))) ?_
    refine (sum_heads (A4 m c) (fun h d => attn (causal (score (A0 m c) (A1 m c) (A2 m c) (A3 m c) (batch t) T h) (128 * (qblock t).val + r.val))
      (μ (batch t) T h) fun s => A2 m c (ix3 (batch t) s d)) n).trans ?_
    unfold targetArray target
    have eb : rowBatch (ix2 (⟨((batch t).val * 16 + (qblock t).val) * 128 + r.val, by omega⟩ : Fin 16384) n) = batch t :=
      Fin.ext (by show (((batch t).val * 16 + (qblock t).val) * 128 + r.val) / 2048 = _; omega)
    have et : rowQuery (ix2 (⟨((batch t).val * 16 + (qblock t).val) * 128 + r.val, by omega⟩ : Fin 16384) n) = T :=
      Fin.ext (by show (((batch t).val * 16 + (qblock t).val) * 128 + r.val) % 2048 = (qblock t).val * 128 + r.val; omega)
    have eT : T.val = 128 * (qblock t).val + r.val := by rw [hT]; show (qblock t).val * 128 + r.val = _; omega
    rw [eb, et, eT]
    rfl

include h0 h1 h2 h3 in
/-- The output array after all blocks. -/
theorem array3 : (dats m 0 c).arrAt 3 cfg0.N = targetArray (A0 m c) (A1 m c) (A2 m c) (A3 m c) (A4 m c) μ := by
  refine (dats m 0 c).arrAt_eq_of_covers 3 _ (by decide +kernel) fun t hf y => ?_
  obtain ⟨e0, e1⟩ := idx3 t
  blk_simp
  rw [after0_3]
  obtain ⟨r, n, rfl⟩ : ∃ (r : Fin 128) (n : Fin 512), y = ix2 r n := ⟨y 0, y 1, eq_ix2 y⟩
  refine (block3 m c h0 h1 h2 h3 μ t r n).trans (congrArg _ ?_)
  funext a
  match a with
  | ⟨0, _⟩ => exact Fin.ext (by blk_simp [e0])
  | ⟨1, _⟩ => exact Fin.ext (by blk_simp [e1])

end Cert.Proof

end
-- ==== Proof.RefValue.lean ====
/-
The reference entry by entry, over the extended reals.
-/
module

public import proofs.«01_k».proof.Proof.Gen.ReferenceIdeal.Run
public import proofs.«01_k».proof.Proof.Target
public import proofs.«01_k».proof.Proof.Causal
public import proofs.«01_k».proof.Proof.StepValue

@[expose] public section

set_option maxRecDepth 16384

noncomputable section

namespace Cert.Proof.Ref

open Cert.ReferenceIdeal Cert.ReferenceIdeal.Gen Idealize.ShloMosaic Idealize.ShloMosaic.TcCoe

variable (a0 : FVec Ideal S8x2048x8x256 .f32) (a1 : FVec Ideal S8x2048x8x32 .f32) (a2 : FVec Ideal S8x2048x256 .f32)
  (a3 : FVec Ideal S8x2048x32 .f32) (a4 : FVec Ideal S8x256x64 .f32)

/-- The scores, a later key's at `⊥`. -/
def masked : FVec Ideal S8x8x2048x2048 .f32 :=
  select (broadcastInDim S8x8x2048x2048 ![0, 1, 2, 3] bcast_S1x1x2048x2048_S8x8x2048x2048_0_1_2_3 (broadcastInDim S1x1x2048x2048 ![2, 3] bcast_S2048x2048_S1x1x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0))))))
    (mulf (addf (transpose S8x8x2048x2048 [0, 3, 2, 1] (Host.dotGeneral dot_S8x2048x256_S8x2048x8x256_S8x2048x2048x8_2_3_1_12_0_0 none a2 a0) transposes_S8x2048x2048x8_S8x8x2048x2048_0_3_2_1)
        (transpose S8x8x2048x2048 [0, 3, 2, 1] (Host.dotGeneral dot_S8x2048x32_S8x2048x8x32_S8x2048x2048x8_2_3_1_12_0_0 none a3 a1) transposes_S8x2048x2048x8_S8x8x2048x2048_0_3_2_1))
      (broadcastInDim S8x8x2048x2048 ![] bcast_S_S8x8x2048x2048 (constant S_ .f32 0x3DD105EC#32)))
    (broadcastInDim S8x8x2048x2048 ![] bcast_S_S8x8x2048x2048 (id (constant S_ .f32 0xFF800000#32)))

/-- Each row's greatest score. -/
def rowMax (x : FVec Ideal S8x8x2048x2048 .f32) : FVec Ideal S8x8x2048 .f32 :=
  maximumf (broadcastInDim S8x8x2048 ![] bcast_S_S8x8x2048 (constant S_ .f32 0xFF800000#32))
    (Host.reduce FloatOps.maximumf x (constant S_ .f32 0xFF800000#32) reducesTo_S8x8x2048x2048_S8x8x2048_d3 h_S_)

/-- A row's number at each of its entries. -/
def spread (y : FVec Ideal S8x8x2048 .f32) : FVec Ideal S8x8x2048x2048 .f32 :=
  broadcastInDim S8x8x2048x2048 ![0, 1, 2, 3] bcast_S8x8x2048x1_S8x8x2048x2048_0_1_2_3 (broadcastInDim S8x8x2048x1 ![0, 1, 2] bcast_S8x8x2048_S8x8x2048x1_0_1_2 y)

/-- The exponentials of the scores less their row's greatest. -/
def exps (x : FVec Ideal S8x8x2048x2048 .f32) : FVec Ideal S8x8x2048x2048 .f32 := Host.exp (subf x (spread (rowMax x)))

/-- The weights of the keys. -/
def probs (p : FVec Ideal S8x8x2048x2048 .f32) : FVec Ideal S8x8x2048x2048 .f32 :=
  Host.divf p (spread (Host.reduceAdd p (constant S_ .f32 0x00000000#32) reducesTo_S8x8x2048x2048_S8x8x2048_d3 h_S_))

/-- The latent outputs, each key's latent by its weight. -/
def latents (p : FVec Ideal S8x8x2048x2048 .f32) : FVec Ideal S8x2048x8x256 .f32 :=
  transpose S8x2048x8x256 [0, 3, 2, 1] (Host.dotGeneral dot_S8x2048x256_S8x8x2048x2048_S8x256x8x2048_1_3_2_12_0_0 none a2 p) transposes_S8x256x8x2048_S8x2048x8x256_0_3_2_1

/-- The output by the value weights. -/
def output (o : FVec Ideal S8x2048x8x256 .f32) : FVec Ideal S16384x512 .bf16 :=
  truncf .bf16 (shapeCast S16384x512 (transpose S8x2048x8x64 [2, 3, 0, 1] (Host.dotGeneral dot_S8x256x64_S8x2048x8x256_S8x64x8x2048_1_3_2_01_0_2 none a4 o) transposes_S8x64x8x2048_S8x2048x8x64_2_3_0_1) shapeCasts_S8x2048x8x64_S16384x512) bitsLt_bf16_f32

theorem res_eq (m : (ℓ : Loc nD τ sig) → Buf (Elt Ideal) ℓ) (c : Dev nD) :
    Value.res_main_v31 m c = output (m ((c.tc : Thread nD τ).loc main_arg4)) (latents (m ((c.tc : Thread nD τ).loc main_arg2)) (probs (exps
      (masked (m ((c.tc : Thread nD τ).loc main_arg0)) (m ((c.tc : Thread nD τ).loc main_arg1)) (m ((c.tc : Thread nD τ).loc main_arg2)) (m ((c.tc : Thread nD τ).loc main_arg3)))))) := by
  unfold Value.res_main_v31
  rfl

theorem masked_apply (b h : Fin 8) (t s : Fin 2048) :
    masked a0 a1 a2 a3 (ix4 b h t s) = causal (score a0 a1 a2 a3 b t h) t.val s := by
  pointwise [masked]
  rw [sle_ofNat _ _ (by omega) (by omega), causal, score]
  by_cases c : s.val ≤ t.val
  · rw [if_pos c, if_pos c]
    simp only [mul_comm (a2 _), mul_comm (a3 _)]
    rfl
  · rw [if_neg c, if_neg c]
    exact ofBits_negInf

theorem spread_apply (y : FVec Ideal S8x8x2048 .f32) (b h : Fin 8) (t s : Fin 2048) : spread y (ix4 b h t s) = y (ix3 b h t) := by
  pointwise [spread]

/-- The entry that the reduction along the last of four axes reads. -/
theorem lift_last {A B C D : ℕ} (h : Shape.Reduces ⟨4, ![A, B, C, D]⟩ [3] ⟨3, ![A, B, C]⟩) (a : Fin A) (b : Fin B) (c : Fin C) (k : Fin D) :
    h.lift (ix3 a b c) k = ix4 a b c k := by
  funext x
  match x with
  | ⟨0, _⟩ => rfl
  | ⟨1, _⟩ => rfl
  | ⟨2, _⟩ => rfl
  | ⟨3, _⟩ => rfl

/-- A maximum along the last of four axes. -/
theorem reduceMax_last {A B C D : ℕ} (x : FVec Ideal ⟨4, ![A, B, C, D]⟩ .f32) (init : FVec Ideal S_ .f32)
    (h' : Shape.ReducesTo ⟨4, ![A, B, C, D]⟩ [3] ⟨3, ![A, B, C]⟩) (h : Shape.Reduces ⟨4, ![A, B, C, D]⟩ [3] ⟨3, ![A, B, C]⟩) (hu : 0 < S_.numel)
    (a : Fin A) (b : Fin B) (c : Fin C) :
    Host.reduce FloatOps.maximumf x init h' hu (ix3 a b c)
      = (Finset.univ : Finset (Fin D)).fold (max : EReal → EReal → EReal) (init (Shape.Idx.first hu)) fun k => x (ix4 a b c k) := by
  rw [Host.reduce_eq_fold_single FloatOps.maximumf x init h' h hu]
  have hf : x ∘ h.lift (ix3 a b c) = fun k : Fin D => x (ix4 a b c k) := funext fun k => congrArg x (lift_last h a b c k)
  exact congrArg (fun f => Finset.fold (max : EReal → EReal → EReal) (init (Shape.Idx.first hu)) f (Finset.univ : Finset (Fin D))) hf

/-- A maximum along the last of four axes, and with the least value, at an entry. -/
theorem max_last {A B C D : ℕ} (x : FVec Ideal ⟨4, ![A, B, C, D]⟩ .f32)
    (h' : Shape.ReducesTo ⟨4, ![A, B, C, D]⟩ [3] ⟨3, ![A, B, C]⟩) (h : Shape.Reduces ⟨4, ![A, B, C, D]⟩ [3] ⟨3, ![A, B, C]⟩) (hu : 0 < S_.numel)
    (hb : S_.BroadcastsInDim ⟨3, ![A, B, C]⟩ ![]) (a : Fin A) (b : Fin B) (c : Fin C) :
    maximumf (broadcastInDim ⟨3, ![A, B, C]⟩ ![] hb (constant S_ .f32 0xFF800000#32 : FVec Ideal S_ .f32))
        (Host.reduce FloatOps.maximumf x (constant S_ .f32 0xFF800000#32) h' hu) (ix3 a b c)
      = max ⊥ ((Finset.univ : Finset (Fin D)).fold (max : EReal → EReal → EReal) ⊥ fun k => x (ix4 a b c k)) := by
  have e := reduceMax_last x (constant S_ .f32 0xFF800000#32) h' h hu a b c
  refine (congrArg (fun y : EReal => max (Ideal.ofBits .f32 0xFF800000#32) y) e).trans ?_
  exact congrArg₂ (fun y z : EReal => max y (Finset.univ.fold max z fun s : Fin D => x (ix4 a b c s))) ofBits_negInf ofBits_negInf

theorem rowMax_apply (x : FVec Ideal S8x8x2048x2048 .f32) (b h : Fin 8) (t : Fin 2048) :
    rowMax x (ix3 b h t) = max ⊥ (Finset.univ.fold max ⊥ fun s : Fin 2048 => x (ix4 b h t s)) :=
  max_last (A := 8) (B := 8) (C := 2048) (D := 2048) x reducesTo_S8x8x2048x2048_S8x8x2048_d3 (by decide) h_S_ bcast_S_S8x8x2048 b h t

theorem exps_apply (x : FVec Ideal S8x8x2048x2048 .f32) (b h : Fin 8) (t s : Fin 2048) :
    exps x (ix4 b h t s) = Ideal.exp (x (ix4 b h t s) - rowMax x (ix3 b h t)) := by
  rw [← spread_apply (rowMax x) b h t s]
  pointwise [exps]

theorem probs_apply (p : FVec Ideal S8x8x2048x2048 .f32) (b h : Fin 8) (t s : Fin 2048) :
    probs p (ix4 b h t s) = Ideal.div (p (ix4 b h t s)) (∑ e : Fin 2048, p (ix4 b h t e)) := by
  pointwise [probs, spread]

theorem latents_apply (p : FVec Ideal S8x8x2048x2048 .f32) (b h : Fin 8) (t : Fin 2048) (d : Fin 256) :
    latents a2 p (ix4 b t h d) = ∑ s : Fin 2048, p (ix4 b h t s) * a2 (ix3 b s d) := by
  pointwise [latents]
  exact Finset.sum_congr rfl fun _ _ => mul_comm _ _

theorem output_apply (o : FVec Ideal S8x2048x8x256 .f32) (r : Fin 16384) (n : Fin 512) :
    output a4 o (ix2 r n) = ∑ d : Fin 256, o (ix4 (⟨r.val / 2048, by omega⟩ : Fin 8) (⟨r.val % 2048, by omega⟩ : Fin 2048) (⟨n.val / 64, by omega⟩ : Fin 8) d)
      * a4 (ix3 (⟨n.val / 64, by omega⟩ : Fin 8) d (⟨n.val % 64, by omega⟩ : Fin 64)) := by
  pointwise [output]
  exact Finset.sum_congr rfl fun _ _ => mul_comm _ _

end Cert.Proof.Ref

end
-- ==== Proof.Equation.lean ====
/-
The reference's result is the attention that the kernel's output array holds, and the claim that
the two programs end with equal results.
-/
module

public import proofs.«01_k».proof.Proof.Pre
public import proofs.«01_k».proof.Proof.Array
public import proofs.«01_k».proof.Proof.RefValue

@[expose] public section

set_option maxRecDepth 16384

noncomputable section

namespace Cert.Proof

open Idealize.ShloMosaic Idealize.ShloMosaic.TcCoe Idealize.SL.Sem

section
open Cert.KernelIdeal

variable (a0 : FVec Ideal S8x2048x8x256 .f32) (a1 : FVec Ideal S8x2048x8x32 .f32) (a2 : FVec Ideal S8x2048x256 .f32)
  (a3 : FVec Ideal S8x2048x32 .f32) (a4 : FVec Ideal S8x256x64 .f32)

/-- Each row's greatest score is a real number: the row's own key is always seen. -/
theorem rowMax_real (h0 : AllReal a0) (h1 : AllReal a1) (h2 : AllReal a2) (h3 : AllReal a3) (b : Fin 8) (t : Fin 2048) (h : Fin 8) :
    ∃ μ : ℝ, Ref.rowMax (Ref.masked a0 a1 a2 a3) (ix3 b h t) = (μ : EReal) := by
  rw [Ref.rowMax_apply]
  refine shift_real ⊥ (fun s => Ref.masked a0 a1 a2 a3 (ix4 b h t s)) bot_ne_top (fun s => ?_) (Or.inr ⟨t, ?_⟩)
  · rw [Ref.masked_apply, causal]
    split_ifs
    · obtain ⟨x, hx⟩ := score_real a0 a1 a2 a3 h0 h1 h2 h3 b t h s
      rw [hx]; exact EReal.coe_ne_top x
    · exact bot_ne_top
  · rw [Ref.masked_apply, causal, if_pos le_rfl]
    obtain ⟨x, hx⟩ := score_real a0 a1 a2 a3 h0 h1 h2 h3 b t h t
    rw [hx]; exact EReal.coe_ne_bot x

theorem ref_target (μ : Fin 8 → Fin 2048 → Fin 8 → ℝ)
    (hμ : ∀ b t h, Ref.rowMax (Ref.masked a0 a1 a2 a3) (ix3 b h t) = (μ b t h : EReal)) :
    Ref.output a4 (Ref.latents a2 (Ref.probs (Ref.exps (Ref.masked a0 a1 a2 a3)))) = targetArray a0 a1 a2 a3 a4 μ := by
  funext i
  obtain ⟨r, n, rfl⟩ : ∃ (r : Fin 16384) (n : Fin 512), i = ix2 r n := ⟨i 0, i 1, eq_ix2 i⟩
  rw [Ref.output_apply]
  unfold targetArray target
  refine Finset.sum_congr rfl fun d _ => congrArg (fun x : EReal => x * _) ?_
  rw [Ref.latents_apply, attn]
  refine Finset.sum_congr rfl fun s _ => congrArg (fun x : EReal => x * _) ?_
  rw [Ref.probs_apply]
  simp only [Ref.exps_apply, hμ, Ref.masked_apply]
  rfl

end

theorem algebraic [Cert.KernelIdeal.Facts] [Cert.ReferenceIdeal.Facts] [Cert.Pre_finite_inputs.Facts] :
    Cert.algebraic_KernelIdeal_ReferenceIdeal_pre_finite_inputs := by
  intro m g m' g' hpre hagree
  have hr := fun c => real_inputs _ _ _ _ _ fun i => congrFun (hpre c) i
  have hμ : ∀ c : Dev Cert.KernelIdeal.nD, ∃ μ : Fin 8 → Fin 2048 → Fin 8 → ℝ, ∀ b t h,
      Ref.rowMax (Ref.masked (A0 m c) (A1 m c) (A2 m c) (A3 m c)) (ix3 b h t) = (μ b t h : EReal) := fun c => by
    choose μ h using fun b t h => rowMax_real (A0 m c) (A1 m c) (A2 m c) (A3 m c) (hr c).1 (hr c).2.1 (hr c).2.2.1 (hr c).2.2.2 b t h
    exact ⟨μ, h⟩
  choose μ hμ using hμ
  refine ⟨fun c => targetArray (A0 m c) (A1 m c) (A2 m c) (A3 m c) (A4 m c) (μ c), ?_, ?_⟩
  · exact (θ_run _ _ _).mono (fun r h c => ⟨((h.1 c).1 3).trans (array3 m c (hr c).1 (hr c).2.1 (hr c).2.2.1 (hr c).2.2.2 (μ c)), h.2 c⟩)
      (θ_run_and (run_main (F := Ideal) m g) (unchanged (F := Ideal) m g))
  · refine (θ_run _ _ _).mono (fun r h c => ⟨(h c).1.trans ?_, (h c).2⟩) (Cert.ReferenceIdeal.Value.run (F := Ideal) m' g')
    obtain ⟨e0, e1, e2, e3, e4⟩ := hagree c
    rw [Ref.res_eq, e0, e1, e2, e3, e4]
    exact ref_target (A0 m c) (A1 m c) (A2 m c) (A3 m c) (A4 m c) (μ c) (hμ c)

end Cert.Proof

end
-- ==== Proof.FinishRow.lean ====
/-
The end of the layer on one row over the extended reals: the gated merge of the two attention
outputs, the residual stream after the output projection, its normalisation, and the queries of
the experts.

The block that the kernel computes at a grid point is these functions of the block's rows.
-/
module

public import proofs.«01_k».proof.Proof.Gen.Kernel3Ideal.Value
public import Idealize.ShloMosaic.Lib.Pointwise

@[expose] public section

set_option maxRecDepth 16384

noncomputable section

namespace Cert.Proof.Finish

open Cert.Kernel3Ideal Cert.Kernel3Ideal.Gen Idealize.ShloMosaic

/-- The number 1024 and the small constant of the normalisation, as the programs hold them. -/
abbrev width : EReal := Ideal.ofBits .f32 0x44800000#32
abbrev eps : EReal := Ideal.ofBits .f32 0x358637BD#32

/-- The two projected attention outputs, each by its gate. -/
def merged (ga gb : Fin 1024 → EReal) (oa ob : Fin 512 → EReal) (wa wb : Fin 512 → Fin 1024 → EReal) (n : Fin 1024) : EReal :=
  ga n * (∑ k, oa k * wa k n) + gb n * (∑ k, ob k * wb k n)

/-- The row plus the projection of its merged outputs. -/
def resid (x : Fin 1024 → EReal) (y : Fin 1024 → EReal) (wo : Fin 1024 → Fin 1024 → EReal) (n : Fin 1024) : EReal :=
  x n + ∑ k, y k * wo k n

/-- A row over the root of its mean square, by the gains. -/
def normed (y g : Fin 1024 → EReal) (n : Fin 1024) : EReal :=
  y n * Ideal.rsqrt (Ideal.div (∑ k, y k * y k) width + eps) * g n

/-- A row through a matrix. -/
def through (y : Fin 1024 → EReal) (w : Fin 1024 → Fin 1024 → EReal) (n : Fin 1024) : EReal := ∑ k, y k * w k n

variable (x : FVec Ideal S256x1024 .f32) (oa ob : FVec Ideal S256x512 .bf16) (ga gb : FVec Ideal S256x1024 .f32)
  (wa wb : FVec Ideal S512x1024 .bf16) (wo : FVec Ideal S1024x1024 .bf16) (g : FVec Ideal S1x1024 .f32) (wq : FVec Ideal S1024x1024 .bf16)

/-- Row `r` of the residual stream that the block computes. -/
def rowOut (r : Fin 256) : Fin 1024 → EReal :=
  resid (fun n => x (ix2 r n)) (merged (fun n => ga (ix2 r n)) (fun n => gb (ix2 r n)) (fun k => oa (ix2 r k)) (fun k => ob (ix2 r k))
    (fun k n => wa (ix2 k n)) (fun k n => wb (ix2 k n))) (fun k n => wo (ix2 k n))

theorem pay3_apply (r : Fin 256) (n : Fin 1024) :
    k0_pay3 (F := Ideal) ga oa wa gb ob wb x wo (ix2 r n) = rowOut x oa ob ga gb wa wb wo r n := by
  unfold rowOut resid merged
  pointwise [k0_pay3]

theorem pay1_apply (y z : FVec Ideal S256x1024 .f32) (r : Fin 256) (n : Fin 1024) :
    k0_pay1 y z g (ix2 r n) = y (ix2 r n) * z (ix2 r n) * g (ix2 0 n) := by
  pointwise [k0_pay1]

theorem pay4_apply (r : Fin 256) (n : Fin 1024) :
    k0_pay4 (F := Ideal) ga oa wa gb ob wb x wo (ix2 r n)
      = Ideal.rsqrt (Ideal.div (∑ k, rowOut x oa ob ga gb wa wb wo r k * rowOut x oa ob ga gb wa wb wo r k) width + eps) := by
  simp only [← pay3_apply]
  pointwise [k0_pay4]

theorem pay2_apply (y z : FVec Ideal S256x1024 .f32) (r : Fin 256) (n : Fin 1024) :
    k0_pay2 y z g wq (ix2 r n) = ∑ k : Fin 1024, k0_pay1 y z g (ix2 r k) * wq (ix2 k n) := by
  pointwise [k0_pay2]

end Cert.Proof.Finish

end
-- ==== Proof.FinishArray.lean ====
/-
What the three output arrays hold after all blocks, over the extended reals: the residual stream,
its normalisation and the experts' queries, row by row, as functions of the ten arguments.
-/
module

public import proofs.«01_k».proof.Proof.FinishRow
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.Finish

open Cert.Kernel3Ideal Cert.Kernel3Ideal.Gen Idealize.ShloMosaic Idealize.ShloMosaic.TcCoe Idealize.ShloMosaic.StableHlo
open Idealize.ShloMosaic.Pipeline (Dat)

/-- The batch and the position of a row. -/
abbrev bat (r : Fin 16384) : Fin 8 := ⟨r.val / 2048, by omega⟩
abbrev pos (r : Fin 16384) : Fin 2048 := ⟨r.val % 2048, by omega⟩

section
variable (a0 : FVec Ideal S8x2048x1024 .f32) (a1 a2 : FVec Ideal S8x2048x8x64 .f32) (a3 a4 : FVec Ideal S8x2048x1024 .f32)
  (a5 a6 : FVec Ideal S512x1024 .f32) (a7 : FVec Ideal S1024x1024 .f32) (a8 : FVec Ideal S1024 .f32) (a9 : FVec Ideal S1024x1024 .f32)

/-- An attention output of a row, its heads one after another. -/
def headRow (o : FVec Ideal S8x2048x8x64 .f32) (r : Fin 16384) (k : Fin 512) : EReal :=
  o (ix4 (bat r) (pos r) (⟨k.val / 64, by omega⟩ : Fin 8) (⟨k.val % 64, by omega⟩ : Fin 64))

/-- A row of the residual stream after the mixers. -/
def streamRow (r : Fin 16384) : Fin 1024 → EReal :=
  resid (fun n => a0 (ix3 (bat r) (pos r) n)) (merged (fun n => a3 (ix3 (bat r) (pos r) n)) (fun n => a4 (ix3 (bat r) (pos r) n))
    (headRow a1 r) (headRow a2 r) (fun k n => a5 (ix2 k n)) (fun k n => a6 (ix2 k n))) (fun k n => a7 (ix2 k n))

/-- The three results. -/
def streamArray : FVec Ideal S16384x1024 .f32 := fun i => streamRow a0 a1 a2 a3 a4 a5 a6 a7 (i 0) (i 1)
def normArray : FVec Ideal S16384x1024 .bf16 := fun i => normed (streamRow a0 a1 a2 a3 a4 a5 a6 a7 (i 0)) (fun n => a8 (ix1 n)) (i 1)
def queryArray : FVec Ideal S16384x1024 .bf16 := fun i =>
  through (normed (streamRow a0 a1 a2 a3 a4 a5 a6 a7 (i 0)) (fun n => a8 (ix1 n))) (fun k n => a9 (ix2 k n)) (i 1)
end

variable (m : (ℓ : Loc nD τ sig) → Buf (Elt Ideal) ℓ) (c : Dev nD)

abbrev A0 : FVec Ideal S8x2048x1024 .f32 := m ((c : Thread nD τ).loc main_arg0)
abbrev A1 : FVec Ideal S8x2048x8x64 .f32 := m ((c : Thread nD τ).loc main_arg1)
abbrev A2 : FVec Ideal S8x2048x8x64 .f32 := m ((c : Thread nD τ).loc main_arg2)
abbrev A3 : FVec Ideal S8x2048x1024 .f32 := m ((c : Thread nD τ).loc main_arg3)
abbrev A4 : FVec Ideal S8x2048x1024 .f32 := m ((c : Thread nD τ).loc main_arg4)
abbrev A5 : FVec Ideal S512x1024 .f32 := m ((c : Thread nD τ).loc main_arg5)
abbrev A6 : FVec Ideal S512x1024 .f32 := m ((c : Thread nD τ).loc main_arg6)
abbrev A7 : FVec Ideal S1024x1024 .f32 := m ((c : Thread nD τ).loc main_arg7)
abbrev A8 : FVec Ideal S1024 .f32 := m ((c : Thread nD τ).loc main_arg8)
abbrev A9 : FVec Ideal S1024x1024 .f32 := m ((c : Thread nD τ).loc main_arg9)

/-! The region's input arrays, as terms of the arguments. -/

theorem V5 : V m c main_v5 = shapeCast S16384x1024 (A0 m c) shapeCasts_S8x2048x1024_S16384x1024 := by
  unfold V hostOps0
  after_reads_simp
  <;> rfl
theorem V7 : V m c main_v7 = truncf .bf16 (shapeCast S16384x512 (A1 m c) shapeCasts_S8x2048x8x64_S16384x512) bitsLt_bf16_f32 := by
  unfold V hostOps0
  after_reads_simp
  <;> rfl
theorem V9 : V m c main_v9 = truncf .bf16 (shapeCast S16384x512 (A2 m c) shapeCasts_S8x2048x8x64_S16384x512) bitsLt_bf16_f32 := by
  unfold V hostOps0
  after_reads_simp
  <;> rfl
theorem V10 : V m c main_v10 = shapeCast S16384x1024 (A3 m c) shapeCasts_S8x2048x1024_S16384x1024 := by
  unfold V hostOps0
  after_reads_simp
  <;> rfl
theorem V11 : V m c main_v11 = shapeCast S16384x1024 (A4 m c) shapeCasts_S8x2048x1024_S16384x1024 := by
  unfold V hostOps0
  after_reads_simp
  <;> rfl
theorem V0 : V m c main_v0 = truncf .bf16 (A5 m c) bitsLt_bf16_f32 := by
  unfold V hostOps0
  after_reads_simp
  <;> rfl
theorem V1 : V m c main_v1 = truncf .bf16 (A6 m c) bitsLt_bf16_f32 := by
  unfold V hostOps0
  after_reads_simp
  <;> rfl
theorem V2 : V m c main_v2 = truncf .bf16 (A7 m c) bitsLt_bf16_f32 := by
  unfold V hostOps0
  after_reads_simp
  <;> rfl
theorem V3 : V m c main_v3 = shapeCast S1x1024 (A8 m c) shapeCasts_S1024_S1x1024 := by
  unfold V hostOps0
  after_reads_simp
  <;> rfl
theorem V4 : V m c main_v4 = truncf .bf16 (A9 m c) bitsLt_bf16_f32 := by
  unfold V hostOps0
  after_reads_simp
  <;> rfl

/-! The blocks of a point: rows `256 t` to `256 t + 255` of the row arrays, and the weights whole. -/

abbrev row (t : Fin cfg0.N) (r : Fin 256) : Fin 16384 := ⟨t.val * 256 + r.val, by have : t.val < 64 := t.isLt; omega⟩

theorem idx (t : Fin cfg0.N) :
    ((cfg0.win 0).index t 0 = t.val ∧ (cfg0.win 0).index t 1 = 0) ∧ ((cfg0.win 1).index t 0 = t.val ∧ (cfg0.win 1).index t 1 = 0)
    ∧ ((cfg0.win 2).index t 0 = t.val ∧ (cfg0.win 2).index t 1 = 0) ∧ ((cfg0.win 3).index t 0 = t.val ∧ (cfg0.win 3).index t 1 = 0)
    ∧ ((cfg0.win 4).index t 0 = t.val ∧ (cfg0.win 4).index t 1 = 0) ∧ ((cfg0.win 5).index t 0 = 0 ∧ (cfg0.win 5).index t 1 = 0)
    ∧ ((cfg0.win 6).index t 0 = 0 ∧ (cfg0.win 6).index t 1 = 0) ∧ ((cfg0.win 7).index t 0 = 0 ∧ (cfg0.win 7).index t 1 = 0)
    ∧ ((cfg0.win 8).index t 0 = 0 ∧ (cfg0.win 8).index t 1 = 0) ∧ ((cfg0.win 9).index t 0 = 0 ∧ (cfg0.win 9).index t 1 = 0)
    ∧ ((cfg0.win 10).index t 0 = t.val ∧ (cfg0.win 10).index t 1 = 0) ∧ ((cfg0.win 11).index t 0 = t.val ∧ (cfg0.win 11).index t 1 = 0)
    ∧ ((cfg0.win 12).index t 0 = t.val ∧ (cfg0.win 12).index t 1 = 0) := by
  revert t; decide +kernel

theorem read0 (X : Vec Ideal S16384x1024 .f32) (t : Fin cfg0.N) (r : Fin 256) (n : Fin 1024) :
    (((cfg0.win 0).blk t).view.read (Elt Ideal) X : Vec Ideal S256x1024 .f32) (ix2 r n) = X (ix2 (row t r) n) := by
  obtain ⟨e0, e1⟩ := (idx t).1
  blk_ext [e0, e1]
theorem read1 (X : Vec Ideal S16384x512 .bf16) (t : Fin cfg0.N) (r : Fin 256) (n : Fin 512) :
    (((cfg0.win 1).blk t).view.read (Elt Ideal) X : Vec Ideal S256x512 .bf16) (ix2 r n) = X (ix2 (row t r) n) := by
  obtain ⟨e0, e1⟩ := (idx t).2.1
  blk_ext [e0, e1]
theorem read2 (X : Vec Ideal S16384x512 .bf16) (t : Fin cfg0.N) (r : Fin 256) (n : Fin 512) :
    (((cfg0.win 2).blk t).view.read (Elt Ideal) X : Vec Ideal S256x512 .bf16) (ix2 r n) = X (ix2 (row t r) n) := by
  obtain ⟨e0, e1⟩ := (idx t).2.2.1
  blk_ext [e0, e1]
theorem read3 (X : Vec Ideal S16384x1024 .f32) (t : Fin cfg0.N) (r : Fin 256) (n : Fin 1024) :
    (((cfg0.win 3).blk t).view.read (Elt Ideal) X : Vec Ideal S256x1024 .f32) (ix2 r n) = X (ix2 (row t r) n) := by
  obtain ⟨e0, e1⟩ := (idx t).2.2.2.1
  blk_ext [e0, e1]
theorem read4 (X : Vec Ideal S16384x1024 .f32) (t : Fin cfg0.N) (r : Fin 256) (n : Fin 1024) :
    (((cfg0.win 4).blk t).view.read (Elt Ideal) X : Vec Ideal S256x1024 .f32) (ix2 r n) = X (ix2 (row t r) n) := by
  obtain ⟨e0, e1⟩ := (idx t).2.2.2.2.1
  blk_ext [e0, e1]
theorem read5 (X : Vec Ideal S512x1024 .bf16) (t : Fin cfg0.N) (k : Fin 512) (n : Fin 1024) :
    (((cfg0.win 5).blk t).view.read (Elt Ideal) X : Vec Ideal S512x1024 .bf16) (ix2 k n) = X (ix2 k n) := by
  obtain ⟨e0, e1⟩ := (idx t).2.2.2.2.2.1
  blk_ext [e0, e1]
theorem read6 (X : Vec Ideal S512x1024 .bf16) (t : Fin cfg0.N) (k : Fin 512) (n : Fin 1024) :
    (((cfg0.win 6).blk t).view.read (Elt Ideal) X : Vec Ideal S512x1024 .bf16) (ix2 k n) = X (ix2 k n) := by
  obtain ⟨e0, e1⟩ := (idx t).2.2.2.2.2.2.1
  blk_ext [e0, e1]
theorem read7 (X : Vec Ideal S1024x1024 .bf16) (t : Fin cfg0.N) (k n : Fin 1024) :
    (((cfg0.win 7).blk t).view.read (Elt Ideal) X : Vec Ideal S1024x1024 .bf16) (ix2 k n) = X (ix2 k n) := by
  obtain ⟨e0, e1⟩ := (idx t).2.2.2.2.2.2.2.1
  blk_ext [e0, e1]
theorem read8 (X : Vec Ideal S1x1024 .f32) (t : Fin cfg0.N) (k : Fin 1) (n : Fin 1024) :
    (((cfg0.win 8).blk t).view.read (Elt Ideal) X : Vec Ideal S1x1024 .f32) (ix2 k n) = X (ix2 k n) := by
  obtain ⟨e0, e1⟩ := (idx t).2.2.2.2.2.2.2.2.1
  blk_ext [e0, e1]
theorem read9 (X : Vec Ideal S1024x1024 .bf16) (t : Fin cfg0.N) (k n : Fin 1024) :
    (((cfg0.win 9).blk t).view.read (Elt Ideal) X : Vec Ideal S1024x1024 .bf16) (ix2 k n) = X (ix2 k n) := by
  obtain ⟨e0, e1⟩ := (idx t).2.2.2.2.2.2.2.2.2.1
  blk_ext [e0, e1]

/-! Layout: a row of a three-axis array as a matrix row, heads side by side. -/

theorem cast3 (X : FVec Ideal S8x2048x1024 .f32) (r : Fin 16384) (n : Fin 1024) :
    shapeCast S16384x1024 X shapeCasts_S8x2048x1024_S16384x1024 (ix2 r n) = X (ix3 (bat r) (pos r) n) := by
  pointwise []
theorem cast4 (X : FVec Ideal S8x2048x8x64 .f32) (r : Fin 16384) (k : Fin 512) :
    shapeCast S16384x512 X shapeCasts_S8x2048x8x64_S16384x512 (ix2 r k) = headRow X r k := by
  unfold headRow
  pointwise []
theorem cast1 (X : FVec Ideal S1024 .f32) (n : Fin 1024) :
    shapeCast S1x1024 X shapeCasts_S1024_S1x1024 (ix2 0 n) = X (ix1 n) := by
  pointwise []

/-! The rows of the blocks, as rows of the arguments. -/

abbrev B0 (t : Fin cfg0.N) : FVec Ideal S256x1024 .f32 := iblk m c 0 t
abbrev B1 (t : Fin cfg0.N) : FVec Ideal S256x512 .bf16 := iblk m c 1 t
abbrev B2 (t : Fin cfg0.N) : FVec Ideal S256x512 .bf16 := iblk m c 2 t
abbrev B3 (t : Fin cfg0.N) : FVec Ideal S256x1024 .f32 := iblk m c 3 t
abbrev B4 (t : Fin cfg0.N) : FVec Ideal S256x1024 .f32 := iblk m c 4 t
abbrev B5 (t : Fin cfg0.N) : FVec Ideal S512x1024 .bf16 := iblk m c 5 t
abbrev B6 (t : Fin cfg0.N) : FVec Ideal S512x1024 .bf16 := iblk m c 6 t
abbrev B7 (t : Fin cfg0.N) : FVec Ideal S1024x1024 .bf16 := iblk m c 7 t
abbrev B8 (t : Fin cfg0.N) : FVec Ideal S1x1024 .f32 := iblk m c 8 t
abbrev B9 (t : Fin cfg0.N) : FVec Ideal S1024x1024 .bf16 := iblk m c 9 t

theorem b0 (t : Fin cfg0.N) (r : Fin 256) (n : Fin 1024) : B0 m c t (ix2 r n) = A0 m c (ix3 (bat (row t r)) (pos (row t r)) n) :=
  (read0 _ t r n).trans ((congrFun (V5 m c) _).trans (cast3 _ _ _))
theorem b1 (t : Fin cfg0.N) (r : Fin 256) (k : Fin 512) : B1 m c t (ix2 r k) = headRow (A1 m c) (row t r) k :=
  (read1 _ t r k).trans ((congrFun (V7 m c) _).trans (cast4 _ _ _))
theorem b2 (t : Fin cfg0.N) (r : Fin 256) (k : Fin 512) : B2 m c t (ix2 r k) = headRow (A2 m c) (row t r) k :=
  (read2 _ t r k).trans ((congrFun (V9 m c) _).trans (cast4 _ _ _))
theorem b3 (t : Fin cfg0.N) (r : Fin 256) (n : Fin 1024) : B3 m c t (ix2 r n) = A3 m c (ix3 (bat (row t r)) (pos (row t r)) n) :=
  (read3 _ t r n).trans ((congrFun (V10 m c) _).trans (cast3 _ _ _))
theorem b4 (t : Fin cfg0.N) (r : Fin 256) (n : Fin 1024) : B4 m c t (ix2 r n) = A4 m c (ix3 (bat (row t r)) (pos (row t r)) n) :=
  (read4 _ t r n).trans ((congrFun (V11 m c) _).trans (cast3 _ _ _))
theorem b5 (t : Fin cfg0.N) (k : Fin 512) (n : Fin 1024) : B5 m c t (ix2 k n) = A5 m c (ix2 k n) :=
  (read5 _ t k n).trans (congrFun (V0 m c) _)
theorem b6 (t : Fin cfg0.N) (k : Fin 512) (n : Fin 1024) : B6 m c t (ix2 k n) = A6 m c (ix2 k n) :=
  (read6 _ t k n).trans (congrFun (V1 m c) _)
theorem b7 (t : Fin cfg0.N) (k n : Fin 1024) : B7 m c t (ix2 k n) = A7 m c (ix2 k n) :=
  (read7 _ t k n).trans (congrFun (V2 m c) _)
theorem b8 (t : Fin cfg0.N) (n : Fin 1024) : B8 m c t (ix2 0 n) = A8 m c (ix1 n) :=
  (read8 _ t 0 n).trans ((congrFun (V3 m c) _).trans (cast1 _ _))
theorem b9 (t : Fin cfg0.N) (k n : Fin 1024) : B9 m c t (ix2 k n) = A9 m c (ix2 k n) :=
  (read9 _ t k n).trans (congrFun (V4 m c) _)

/-- The residual stream that a point computes. -/
theorem rowOut_eq (t : Fin cfg0.N) (r : Fin 256) :
    rowOut (B0 m c t) (B1 m c t) (B2 m c t) (B3 m c t) (B4 m c t) (B5 m c t) (B6 m c t) (B7 m c t) r
      = streamRow (A0 m c) (A1 m c) (A2 m c) (A3 m c) (A4 m c) (A5 m c) (A6 m c) (A7 m c) (row t r) := by
  unfold rowOut streamRow
  have e0 := funext (b0 m c t r)
  have e1 := funext (b1 m c t r)
  have e2 := funext (b2 m c t r)
  have e3 := funext (b3 m c t r)
  have e4 := funext (b4 m c t r)
  have e5 := funext fun k => funext (b5 m c t k)
  have e6 := funext fun k => funext (b6 m c t k)
  have e7 := funext fun k => funext (b7 m c t k)
  rw [e0, e1, e2, e3, e4, e5, e6, e7]

abbrev xRow (r : Fin 16384) : Fin 1024 → EReal := streamRow (A0 m c) (A1 m c) (A2 m c) (A3 m c) (A4 m c) (A5 m c) (A6 m c) (A7 m c) r

theorem blockStream (t : Fin cfg0.N) (r : Fin 256) (n : Fin 1024) :
    k0_pay3 (F := Ideal) (B3 m c t) (B1 m c t) (B5 m c t) (B4 m c t) (B2 m c t) (B6 m c t) (B0 m c t) (B7 m c t) (ix2 r n) = xRow m c (row t r) n :=
  (pay3_apply _ _ _ _ _ _ _ _ r n).trans (congrFun (rowOut_eq m c t r) n)

theorem blockNorm (t : Fin cfg0.N) (r : Fin 256) (n : Fin 1024) :
    k0_pay1 (k0_pay3 (F := Ideal) (B3 m c t) (B1 m c t) (B5 m c t) (B4 m c t) (B2 m c t) (B6 m c t) (B0 m c t) (B7 m c t))
      (k0_pay4 (F := Ideal) (B3 m c t) (B1 m c t) (B5 m c t) (B4 m c t) (B2 m c t) (B6 m c t) (B0 m c t) (B7 m c t)) (B8 m c t) (ix2 r n)
      = normed (xRow m c (row t r)) (fun n => A8 m c (ix1 n)) n := by
  refine (pay1_apply _ _ _ r n).trans ?_
  have e := pay4_apply (B0 m c t) (B1 m c t) (B2 m c t) (B3 m c t) (B4 m c t) (B5 m c t) (B6 m c t) (B7 m c t) r n
  rw [rowOut_eq] at e
  exact congrArg₂ (fun x y : EReal => x * y) (congrArg₂ (fun x y : EReal => x * y) (blockStream m c t r n) e) (b8 m c t n)

theorem blockQuery (t : Fin cfg0.N) (r : Fin 256) (n : Fin 1024) :
    k0_pay2 (k0_pay3 (F := Ideal) (B3 m c t) (B1 m c t) (B5 m c t) (B4 m c t) (B2 m c t) (B6 m c t) (B0 m c t) (B7 m c t))
      (k0_pay4 (F := Ideal) (B3 m c t) (B1 m c t) (B5 m c t) (B4 m c t) (B2 m c t) (B6 m c t) (B0 m c t) (B7 m c t)) (B8 m c t) (B9 m c t) (ix2 r n)
      = through (normed (xRow m c (row t r)) (fun n => A8 m c (ix1 n))) (fun k n => A9 m c (ix2 k n)) n :=
  (pay2_apply _ _ _ _ r n).trans (Finset.sum_congr rfl fun k _ => congrArg₂ (fun x y : EReal => x * y) (blockNorm m c t r k) (b9 m c t k n))

/-! What a point leaves in the output blocks: whole blocks are loaded and whole blocks are stored. -/

theorem loadWide (X : Vec Ideal S256x1024 .f32) : View.ld X r0_0 = X := View.ld_unit_lit _ X (by decide)
theorem loadHead (X : Vec Ideal S256x512 .bf16) : View.ld X r0_1 = X := View.ld_unit_lit _ X (by decide)
theorem loadPart (X : Vec Ideal S512x1024 .bf16) : View.ld X r0_2 = X := View.ld_unit_lit _ X (by decide)
theorem loadSquare (X : Vec Ideal S1024x1024 .bf16) : View.ld X r0_3 = X := View.ld_unit_lit _ X (by decide)
theorem loadGain (X : Vec Ideal S1x1024 .f32) : View.ld X r0_4 = X := View.ld_unit_lit _ X (by decide)

section
variable (x0 : Vec Ideal S256x1024 .f32) (x1 : Vec Ideal S256x512 .bf16) (x2 : Vec Ideal S256x512 .bf16) (x3 : Vec Ideal S256x1024 .f32) (x4 : Vec Ideal S256x1024 .f32)
    (x5 : Vec Ideal S512x1024 .bf16) (x6 : Vec Ideal S512x1024 .bf16) (x7 : Vec Ideal S1024x1024 .bf16) (x8 : Vec Ideal S1x1024 .f32) (x9 : Vec Ideal S1024x1024 .bf16)

theorem left10 : out0_10 (F := Ideal) x0 x1 x2 x3 x4 x5 x6 x7 x8 x9 = k0_pay3 (F := Ideal) x3 x1 x5 x4 x2 x6 x0 x7 := by
  unfold out0_10
  refine (View.canon_cons_unit_lit _ _ _ (by decide)).trans ?_
  simp only [loadWide, loadHead, loadPart, loadSquare]

theorem left11 : out0_11 (F := Ideal) x0 x1 x2 x3 x4 x5 x6 x7 x8 x9
    = k0_pay1 (k0_pay3 (F := Ideal) x3 x1 x5 x4 x2 x6 x0 x7) (k0_pay4 (F := Ideal) x3 x1 x5 x4 x2 x6 x0 x7) x8 := by
  unfold out0_11 k0_pay5 k0_pay6
  refine (View.canon_cons_unit_lit _ _ _ (by decide)).trans ?_
  simp only [loadWide, loadHead, loadPart, loadSquare, loadGain]

theorem left12 : out0_12 (F := Ideal) x0 x1 x2 x3 x4 x5 x6 x7 x8 x9
    = k0_pay2 (k0_pay3 (F := Ideal) x3 x1 x5 x4 x2 x6 x0 x7) (k0_pay4 (F := Ideal) x3 x1 x5 x4 x2 x6 x0 x7) x8 x9 := by
  unfold out0_12 k0_pay5 k0_pay6
  refine (View.canon_cons_unit_lit _ _ _ (by decide)).trans ?_
  simp only [loadWide, loadHead, loadPart, loadSquare, loadGain]

end

/-! The output arrays after all blocks. -/

theorem array10 : (dats m 0 c).arrAt 10 cfg0.N = streamArray (A0 m c) (A1 m c) (A2 m c) (A3 m c) (A4 m c) (A5 m c) (A6 m c) (A7 m c) := by
  refine (dats m 0 c).arrAt_eq_of_covers 10 _ (by decide +kernel) fun t hf y => ?_
  obtain ⟨e0, e1⟩ := (idx t).2.2.2.2.2.2.2.2.2.2.1
  blk_simp
  rw [after0_10]
  obtain ⟨r, n, rfl⟩ : ∃ (r : Fin 256) (n : Fin 1024), y = ix2 r n := ⟨y 0, y 1, eq_ix2 y⟩
  refine (congrFun (left10 _ _ _ _ _ _ _ _ _ _) _).trans ((blockStream m c t r n).trans (congrArg (streamArray (A0 m c) (A1 m c) (A2 m c) (A3 m c) (A4 m c) (A5 m c) (A6 m c) (A7 m c)) (?_ : ix2 (row t r) n = _)))
  funext a
  match a with
  | ⟨0, _⟩ => exact Fin.ext (by blk_simp [e0])
  | ⟨1, _⟩ => exact Fin.ext (by blk_simp [e1])

theorem array11 : (dats m 0 c).arrAt 11 cfg0.N = normArray (A0 m c) (A1 m c) (A2 m c) (A3 m c) (A4 m c) (A5 m c) (A6 m c) (A7 m c) (A8 m c) := by
  refine (dats m 0 c).arrAt_eq_of_covers 11 _ (by decide +kernel) fun t hf y => ?_
  obtain ⟨e0, e1⟩ := (idx t).2.2.2.2.2.2.2.2.2.2.2.1
  blk_simp
  rw [after0_11]
  obtain ⟨r, n, rfl⟩ : ∃ (r : Fin 256) (n : Fin 1024), y = ix2 r n := ⟨y 0, y 1, eq_ix2 y⟩
  refine (congrFun (left11 _ _ _ _ _ _ _ _ _ _) _).trans ((blockNorm m c t r n).trans (congrArg (normArray (A0 m c) (A1 m c) (A2 m c) (A3 m c) (A4 m c) (A5 m c) (A6 m c) (A7 m c) (A8 m c)) (?_ : ix2 (row t r) n = _)))
  funext a
  match a with
  | ⟨0, _⟩ => exact Fin.ext (by blk_simp [e0])
  | ⟨1, _⟩ => exact Fin.ext (by blk_simp [e1])

theorem query_row (t : Fin cfg0.N) (r : Fin 256) (n : Fin 1024) :
    through (normed (xRow m c (row t r)) (fun n => A8 m c (ix1 n))) (fun k n => A9 m c (ix2 k n)) n = queryArray (A0 m c) (A1 m c) (A2 m c) (A3 m c) (A4 m c) (A5 m c) (A6 m c) (A7 m c) (A8 m c) (A9 m c) (ix2 (row t r) n) := rfl

theorem array12 : (dats m 0 c).arrAt 12 cfg0.N = queryArray (A0 m c) (A1 m c) (A2 m c) (A3 m c) (A4 m c) (A5 m c) (A6 m c) (A7 m c) (A8 m c) (A9 m c) := by
  refine (dats m 0 c).arrAt_eq_of_covers 12 _ (by decide +kernel) fun t hf y => ?_
  obtain ⟨e0, e1⟩ := (idx t).2.2.2.2.2.2.2.2.2.2.2.2
  blk_simp
  rw [after0_12]
  obtain ⟨r, n, rfl⟩ : ∃ (r : Fin 256) (n : Fin 1024), y = ix2 r n := ⟨y 0, y 1, eq_ix2 y⟩
  refine (congrFun (left12 _ _ _ _ _ _ _ _ _ _) _).trans ((blockQuery m c t r n).trans ((query_row m c t r n).trans (congrArg (queryArray (A0 m c) (A1 m c) (A2 m c) (A3 m c) (A4 m c) (A5 m c) (A6 m c) (A7 m c) (A8 m c) (A9 m c)) (?_ : ix2 (row t r) n = _))))
  funext a
  match a with
  | ⟨0, _⟩ => exact Fin.ext (by blk_simp [e0])
  | ⟨1, _⟩ => exact Fin.ext (by blk_simp [e1])

end Cert.Proof.Finish

end
-- ==== Proof.FinishRef.lean ====
/-
The reference of the last projections entry by entry, over the extended reals.
-/
module

public import proofs.«01_k».proof.Proof.Gen.Reference3Ideal.Run
public import proofs.«01_k».proof.Proof.Gen.Kernel3Ideal.Value
public import proofs.«01_k».proof.Proof.FinishArray

@[expose] public section

set_option maxRecDepth 16384

noncomputable section

namespace Cert.Proof.Finish.Ref

open Cert.Reference3Ideal Cert.Reference3Ideal.Gen Idealize.ShloMosaic Idealize.ShloMosaic.TcCoe

variable (a0 : FVec Ideal S8x2048x1024 .f32) (a1 a2 : FVec Ideal S8x2048x8x64 .f32) (a3 a4 : FVec Ideal S8x2048x1024 .f32)
  (a5 a6 : FVec Ideal S512x1024 .f32) (a7 : FVec Ideal S1024x1024 .f32) (a8 : FVec Ideal S1024 .f32) (a9 : FVec Ideal S1024x1024 .f32)

/-- An attention output, its heads one after another. -/
def heads (o : FVec Ideal S8x2048x8x64 .f32) : FVec Ideal S8x2048x512 .f32 := shapeCast _ o shapeCasts_S8x2048x8x64_S8x2048x512

/-- A gate by an attention output's projection. -/
def gated (g : FVec Ideal S8x2048x1024 .f32) (o : FVec Ideal S8x2048x512 .f32) (w : FVec Ideal S512x1024 .f32) : FVec Ideal S8x2048x1024 .f32 :=
  mulf g (Host.dotGeneral dot_S8x2048x512_S512x1024_S8x2048x1024_2_0_01_1_n_n none o w)

/-- The residual stream after the mixers. -/
def stream : FVec Ideal S8x2048x1024 .f32 :=
  addf a0 (Host.dotGeneral dot_S8x2048x1024_S1024x1024_S8x2048x1024_2_0_01_1_n_n none (addf (gated a3 (heads a1) a5) (gated a4 (heads a2) a6)) a7)

/-- One over the root of each row's mean square. -/
def invRoot (y : FVec Ideal S8x2048x1024 .f32) : FVec Ideal S8x2048x1 .f32 :=
  Host.rsqrt (addf (Host.divf (broadcastInDim S8x2048x1 ![0, 1] bcast_S8x2048_S8x2048x1_0_1
      (Host.reduceAdd (mulf y y) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_ .f32 0x358637BD#32)))

/-- The normalised rows, by the gains. -/
def norm (y : FVec Ideal S8x2048x1024 .f32) : FVec Ideal S8x2048x1024 .f32 :=
  mulf (mulf y (broadcastInDim S8x2048x1024 ![0, 1, 2] bcast_S8x2048x1_S8x2048x1024_0_1_2 (invRoot y)))
    (broadcastInDim S8x2048x1024 ![0, 1, 2] bcast_S1x1x1024_S8x2048x1024_0_1_2 (broadcastInDim S1x1x1024 ![2] bcast_S1024_S1x1x1024_2 a8))

/-- The rows of a batched array, one after another. -/
def flat (y : FVec Ideal S8x2048x1024 .f32) : FVec Ideal S16384x1024 .f32 := shapeCast _ y shapeCasts_S8x2048x1024_S16384x1024

/-- Rows through a matrix. -/
def query (y : FVec Ideal S16384x1024 .f32) : FVec Ideal S16384x1024 .f32 := Host.dotGeneral dot_S16384x1024_S1024x1024_S16384x1024_1_0_0_1_n_n none y a9

theorem heads_apply (o : FVec Ideal S8x2048x8x64 .f32) (b : Fin 8) (t : Fin 2048) (k : Fin 512) :
    heads o (ix3 b t k) = o (ix4 b t (⟨k.val / 64, by omega⟩ : Fin 8) (⟨k.val % 64, by omega⟩ : Fin 64)) := by
  pointwise [heads]

theorem gated_apply (g : FVec Ideal S8x2048x1024 .f32) (o : FVec Ideal S8x2048x512 .f32) (w : FVec Ideal S512x1024 .f32) (b : Fin 8) (t : Fin 2048) (n : Fin 1024) :
    gated g o w (ix3 b t n) = g (ix3 b t n) * ∑ k : Fin 512, o (ix3 b t k) * w (ix2 k n) := by
  pointwise [gated]

theorem stream_apply (b : Fin 8) (t : Fin 2048) (n : Fin 1024) :
    stream a0 a1 a2 a3 a4 a5 a6 a7 (ix3 b t n)
      = a0 (ix3 b t n) + ∑ k : Fin 1024, (gated a3 (heads a1) a5 (ix3 b t k) + gated a4 (heads a2) a6 (ix3 b t k)) * a7 (ix2 k n) := by
  pointwise [stream]

theorem invRoot_apply (y : FVec Ideal S8x2048x1024 .f32) (b : Fin 8) (t : Fin 2048) :
    invRoot y (ix3 b t 0) = Ideal.rsqrt (Ideal.div (∑ k : Fin 1024, y (ix3 b t k) * y (ix3 b t k)) width + eps) := by
  pointwise [invRoot]

theorem norm_apply (y : FVec Ideal S8x2048x1024 .f32) (b : Fin 8) (t : Fin 2048) (n : Fin 1024) :
    norm a8 y (ix3 b t n) = y (ix3 b t n) * invRoot y (ix3 b t 0) * a8 (ix1 n) := by
  pointwise [norm]

theorem flat_apply (y : FVec Ideal S8x2048x1024 .f32) (r : Fin 16384) (n : Fin 1024) :
    flat y (ix2 r n) = y (ix3 (bat r) (pos r) n) := by
  pointwise [flat]

theorem query_apply (y : FVec Ideal S16384x1024 .f32) (r : Fin 16384) (n : Fin 1024) :
    query a9 y (ix2 r n) = ∑ k : Fin 1024, y (ix2 r k) * a9 (ix2 k n) := by
  pointwise [query]

end Cert.Proof.Finish.Ref

end
-- ==== Proof.FinishEquation.lean ====
/-
The results of the last projections and of their reference are equal.
-/
module

public import proofs.«01_k».proof.Proof.Gen.Reference3Ideal.Run
public import proofs.«01_k».proof.Proof.Gen.Kernel3Ideal.Value
public import proofs.«01_k».proof.Defs
public import proofs.«01_k».proof.Proof.FinishRef

@[expose] public section

set_option maxRecDepth 16384

noncomputable section

namespace Cert.Proof.Finish

open Idealize.ShloMosaic Idealize.ShloMosaic.TcCoe Idealize.SL.Sem

section
open Cert.Kernel3Ideal

variable (a0 : FVec Ideal S8x2048x1024 .f32) (a1 a2 : FVec Ideal S8x2048x8x64 .f32) (a3 a4 : FVec Ideal S8x2048x1024 .f32)
  (a5 a6 : FVec Ideal S512x1024 .f32) (a7 : FVec Ideal S1024x1024 .f32) (a8 : FVec Ideal S1024 .f32) (a9 : FVec Ideal S1024x1024 .f32)

theorem ref_row (r : Fin 16384) (n : Fin 1024) :
    Ref.stream a0 a1 a2 a3 a4 a5 a6 a7 (ix3 (bat r) (pos r) n) = streamRow a0 a1 a2 a3 a4 a5 a6 a7 r n := by
  rw [Ref.stream_apply]
  simp only [Ref.gated_apply, Ref.heads_apply]
  rfl

theorem ref_stream : Ref.flat (Ref.stream a0 a1 a2 a3 a4 a5 a6 a7) = streamArray a0 a1 a2 a3 a4 a5 a6 a7 := by
  funext i
  obtain ⟨r, n, rfl⟩ : ∃ (r : Fin 16384) (n : Fin 1024), i = ix2 r n := ⟨i 0, i 1, eq_ix2 i⟩
  exact (Ref.flat_apply _ r n).trans (ref_row a0 a1 a2 a3 a4 a5 a6 a7 r n)

theorem ref_normRow (r : Fin 16384) (n : Fin 1024) :
    Ref.flat (Ref.norm a8 (Ref.stream a0 a1 a2 a3 a4 a5 a6 a7)) (ix2 r n)
      = normed (streamRow a0 a1 a2 a3 a4 a5 a6 a7 r) (fun n => a8 (ix1 n)) n := by
  refine (Ref.flat_apply _ r n).trans ?_
  rw [Ref.norm_apply, Ref.invRoot_apply]
  simp only [ref_row]
  rfl

theorem ref_norm : Ref.flat (Ref.norm a8 (Ref.stream a0 a1 a2 a3 a4 a5 a6 a7)) = normArray a0 a1 a2 a3 a4 a5 a6 a7 a8 := by
  funext i
  obtain ⟨r, n, rfl⟩ : ∃ (r : Fin 16384) (n : Fin 1024), i = ix2 r n := ⟨i 0, i 1, eq_ix2 i⟩
  exact ref_normRow a0 a1 a2 a3 a4 a5 a6 a7 a8 r n

theorem ref_query : Ref.query a9 (Ref.flat (Ref.norm a8 (Ref.stream a0 a1 a2 a3 a4 a5 a6 a7))) = queryArray a0 a1 a2 a3 a4 a5 a6 a7 a8 a9 := by
  funext i
  obtain ⟨r, n, rfl⟩ : ∃ (r : Fin 16384) (n : Fin 1024), i = ix2 r n := ⟨i 0, i 1, eq_ix2 i⟩
  exact (Ref.query_apply a9 _ r n).trans (Finset.sum_congr rfl fun k _ => congrArg (fun x : EReal => x * _) (ref_normRow a0 a1 a2 a3 a4 a5 a6 a7 a8 r k))

end

theorem algebraic [Cert.Kernel3Ideal.Facts] [Cert.Reference3Ideal.Facts] : Cert.algebraic_Kernel3Ideal_Reference3Ideal := by
  intro m g m' g' _ hagree
  refine ⟨fun c => streamArray (A0 m c) (A1 m c) (A2 m c) (A3 m c) (A4 m c) (A5 m c) (A6 m c) (A7 m c),
    fun c => normArray (A0 m c) (A1 m c) (A2 m c) (A3 m c) (A4 m c) (A5 m c) (A6 m c) (A7 m c) (A8 m c),
    fun c => queryArray (A0 m c) (A1 m c) (A2 m c) (A3 m c) (A4 m c) (A5 m c) (A6 m c) (A7 m c) (A8 m c) (A9 m c), ?_, ?_⟩
  · exact (θ_run _ _ _).mono (fun r h c => ⟨(h c).1.trans (array10 m c), (h c).2.1.trans (array11 m c), (h c).2.2.1.trans (array12 m c), (h c).2.2.2⟩)
      (Cert.Kernel3Ideal.Value.run_blocks m g)
  · refine (θ_run _ _ _).mono (fun r h c => ⟨(h c).1.trans ?_, (h c).2.1.trans ?_, (h c).2.2.1.trans ?_, (h c).2.2.2⟩) (Cert.Reference3Ideal.Value.run (F := Ideal) m' g')
    · obtain ⟨e0, e1, e2, e3, e4, e5, e6, e7, e8, e9⟩ := hagree c
      rw [e0, e1, e2, e3, e4, e5, e6, e7]
      exact ref_stream (A0 m c) (A1 m c) (A2 m c) (A3 m c) (A4 m c) (A5 m c) (A6 m c) (A7 m c)
    · obtain ⟨e0, e1, e2, e3, e4, e5, e6, e7, e8, e9⟩ := hagree c
      rw [e0, e1, e2, e3, e4, e5, e6, e7, e8]
      exact ref_norm (A0 m c) (A1 m c) (A2 m c) (A3 m c) (A4 m c) (A5 m c) (A6 m c) (A7 m c) (A8 m c)
    · obtain ⟨e0, e1, e2, e3, e4, e5, e6, e7, e8, e9⟩ := hagree c
      rw [e0, e1, e2, e3, e4, e5, e6, e7, e8, e9]
      exact ref_query (A0 m c) (A1 m c) (A2 m c) (A3 m c) (A4 m c) (A5 m c) (A6 m c) (A7 m c) (A8 m c) (A9 m c)

end Cert.Proof.Finish

end
-- ==== Proof.ProjText.lean ====
/-
The projection call and its ideal form are one program: their texts agree, over bit patterns.
-/
module

public import proofs.«01_k».proof.Defs
public import proofs.«01_k».proof.Proof.Gen.Kernel2
public import proofs.«01_k».proof.Proof.Gen.Kernel2Ideal
public import Idealize.ShloMosaic.Lib.Tactic

@[expose] public section

noncomputable section

namespace Cert.Proof.Proj

open Idealize.ShloMosaic Idealize.ShloMosaic.Tactic

set_option maxHeartbeats 0 in
/-- The two body tables are one table, -/
theorem table_eq : Cert.Kernel2.defs₀ (F := Bits) = Cert.Kernel2Ideal.defs₀ (F := Bits) := by sl_kernel_rfl

set_option maxHeartbeats 0 in
/-- the two call handlers one handler, -/
theorem defs_eq : Cert.Kernel2.defs (F := Bits) = Cert.Kernel2Ideal.defs (F := Bits) :=
  congrArg (Pipeline.defs (Cert.Kernel2.pcfgs (F := Bits))) table_eq

set_option maxHeartbeats 0 in
/-- and so are the two programs. -/
theorem main_eq : Cert.Kernel2.main (F := Bits) = Cert.Kernel2Ideal.main (F := Bits) := by sl_kernel_rfl

end Cert.Proof.Proj

end
-- ==== Proof.ProjRun.lean ====
/-
The projection body run: what each output block holds at its end, as stored pieces.
-/
module

public import proofs.«01_k».proof.Proof.Gen.Kernel2Ideal.Frame.Runs

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S1024x4736 .bf16) (harg3 : arg3.IsWhole)
  (arg4 : Memref sig .tc .vmem S8x1024 .bf16) (harg4 : arg4.IsWhole) (arg5 : Memref sig .tc .vmem S256x512 .f32) (harg5 : arg5.IsWhole)
  (arg6 : Memref sig .tc .vmem S256x512 .f32) (harg6 : arg6.IsWhole) (arg7 : Memref sig .tc .vmem S256x256 .f32) (harg7 : arg7.IsWhole)
  (arg8 : Memref sig .tc .vmem S256x256 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x384 .f32) (harg11 : arg11.IsWhole)
  (arg12 : Memref sig .tc .vmem S1x512 .f32) (harg12 : arg12.IsWhole) (arg13 : Memref sig .tc .vmem S1x256 .f32) (harg13 : arg13.IsWhole)
  (arg14 : Memref sig .tc .vmem S1x256 .f32) (harg14 : arg14.IsWhole) (arg15 : Memref sig .tc .vmem S1x128 .f32) (harg15 : arg15.IsWhole)
  (arg16 : Memref sig .tc .vmem S512x512 .bf16) (harg16 : arg16.IsWhole) (arg17 : Memref sig .tc .vmem S512x256 .bf16)
  (harg17 : arg17.IsWhole) (arg18 : Memref sig .tc .vmem S256x512 .bf16) (harg18 : arg18.IsWhole)
  (arg19 : Memref sig .tc .vmem S256x256 .bf16) (harg19 : arg19.IsWhole) (arg20 : Memref sig .tc .vmem S384x768 .bf16)
  (harg20 : arg20.IsWhole) (arg21 : Memref sig .tc .vmem S512x2048 .bf16) (harg21 : arg21.IsWhole)
  (arg22 : Memref sig .tc .vmem S256x512 .f32) (harg22 : arg22.IsWhole) (arg23 : Memref sig .tc .vmem S256x512 .f32) (harg23 : arg23.IsWhole)
  (arg24 : Memref sig .tc .vmem S256x128 .f32) (harg24 : arg24.IsWhole) (arg25 : Memref sig .tc .vmem S256x256 .f32) (harg25 : arg25.IsWhole)
  (arg26 : Memref sig .tc .vmem S256x128 .f32) (harg26 : arg26.IsWhole) (arg27 : Memref sig .tc .vmem S256x1024 .f32) (harg27 : arg27.IsWhole)
  (arg28 : Memref sig .tc .vmem S256x1024 .f32) (harg28 : arg28.IsWhole) (arg29 : Memref sig .tc .vmem S256x512 .bf16)
  (harg29 : arg29.IsWhole) (arg30 : Memref sig .tc .vmem S256x512 .bf16) (harg30 : arg30.IsWhole)
  (arg31 : Memref sig .tc .vmem S256x128 .bf16) (harg31 : arg31.IsWhole) (arg32 : Memref sig .tc .vmem S256x384 .bf16)
  (harg32 : arg32.IsWhole) (arg33 : Memref sig .tc .vmem S8x256x128 .bf16) (harg33 : arg33.IsWhole)
  (arg34 : Memref sig .tc .vmem S8x256x128 .bf16) (harg34 : arg34.IsWhole) (arg35 : Memref sig .tc .vmem S8x256 .f32) (harg35 : arg35.IsWhole)
  (arg36 : Memref sig .tc .vmem S8x256x384 .bf16) (harg36 : arg36.IsWhole) (x0 : Vec F S256x1024 .f32) (x1 : Vec F S1x1024 .f32)
  (x2 : Vec F S1024x4736 .bf16) (x3 : Vec F S8x1024 .bf16) (x4 : Vec F S256x512 .f32) (x5 : Vec F S256x512 .f32) (x6 : Vec F S256x256 .f32)
  (x7 : Vec F S256x256 .f32) (x8 : Vec F S1x512 .f32) (x9 : Vec F S1x512 .f32) (x10 : Vec F S1x384 .f32) (x11 : Vec F S1x512 .f32)
  (x12 : Vec F S1x256 .f32) (x13 : Vec F S1x256 .f32) (x14 : Vec F S1x128 .f32) (x15 : Vec F S512x512 .bf16) (x16 : Vec F S512x256 .bf16)
  (x17 : Vec F S256x512 .bf16) (x18 : Vec F S256x256 .bf16) (x19 : Vec F S384x768 .bf16) (x20 : Vec F S512x2048 .bf16)

set_option maxHeartbeats 0 in
/-- The pieces that the body stores in each output block, with the proof that it runs to its end and leaves its inputs. -/
def kernelRun0_A :
    Σ' (L21 : List (View.Piece (Elt F) S256x512 .f32)), Σ' (L22 : List (View.Piece (Elt F) S256x512 .f32)), Σ' (L23 : List (View.Piece (Elt F) S256x128 .f32)), Σ' (L24 : List (View.Piece (Elt F) S256x256 .f32)), Σ' (L25 : List (View.Piece (Elt F) S256x128 .f32)), Σ' (L26 : List (View.Piece (Elt F) S256x1024 .f32)), Σ' (L27 : List (View.Piece (Elt F) S256x1024 .f32)), Σ' (L28 : List (View.Piece (Elt F) S256x512 .bf16)), Σ' (L29 : List (View.Piece (Elt F) S256x512 .bf16)), Σ' (L30 : List (View.Piece (Elt F) S256x128 .bf16)), Σ' (L31 : List (View.Piece (Elt F) S256x384 .bf16)), Σ' (L32 : List (View.Piece (Elt F) S8x256x128 .bf16)), Σ' (L33 : List (View.Piece (Elt F) S8x256x128 .bf16)), Σ' (L34 : List (View.Piece (Elt F) S8x256 .f32)), { L35 : List (View.Piece (Elt F) S8x256x384 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f L35)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, ?_, ?_, ?_, ?_, ?_, ?_, ?_, ?_, ?_, ?_, ?_, ?_, fun E K => ?run⟩
  case run =>
    simp only [cc0_proj_eq_skeleton]; unfold cc0_proj_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    iexists _; iexact H35

end Cert.Kernel2Ideal.Gen

end
-- ==== Proof.ProjCover.lean ====
/-
The stored pieces of each output block of the projections fill it.
-/
module

public import proofs.«01_k».proof.Proof.ProjRun

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S1024x4736 .bf16) (harg3 : arg3.IsWhole)
  (arg4 : Memref sig .tc .vmem S8x1024 .bf16) (harg4 : arg4.IsWhole) (arg5 : Memref sig .tc .vmem S256x512 .f32) (harg5 : arg5.IsWhole)
  (arg6 : Memref sig .tc .vmem S256x512 .f32) (harg6 : arg6.IsWhole) (arg7 : Memref sig .tc .vmem S256x256 .f32) (harg7 : arg7.IsWhole)
  (arg8 : Memref sig .tc .vmem S256x256 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x384 .f32) (harg11 : arg11.IsWhole)
  (arg12 : Memref sig .tc .vmem S1x512 .f32) (harg12 : arg12.IsWhole) (arg13 : Memref sig .tc .vmem S1x256 .f32) (harg13 : arg13.IsWhole)
  (arg14 : Memref sig .tc .vmem S1x256 .f32) (harg14 : arg14.IsWhole) (arg15 : Memref sig .tc .vmem S1x128 .f32) (harg15 : arg15.IsWhole)
  (arg16 : Memref sig .tc .vmem S512x512 .bf16) (harg16 : arg16.IsWhole) (arg17 : Memref sig .tc .vmem S512x256 .bf16)
  (harg17 : arg17.IsWhole) (arg18 : Memref sig .tc .vmem S256x512 .bf16) (harg18 : arg18.IsWhole)
  (arg19 : Memref sig .tc .vmem S256x256 .bf16) (harg19 : arg19.IsWhole) (arg20 : Memref sig .tc .vmem S384x768 .bf16)
  (harg20 : arg20.IsWhole) (arg21 : Memref sig .tc .vmem S512x2048 .bf16) (harg21 : arg21.IsWhole)
  (arg22 : Memref sig .tc .vmem S256x512 .f32) (harg22 : arg22.IsWhole) (arg23 : Memref sig .tc .vmem S256x512 .f32) (harg23 : arg23.IsWhole)
  (arg24 : Memref sig .tc .vmem S256x128 .f32) (harg24 : arg24.IsWhole) (arg25 : Memref sig .tc .vmem S256x256 .f32) (harg25 : arg25.IsWhole)
  (arg26 : Memref sig .tc .vmem S256x128 .f32) (harg26 : arg26.IsWhole) (arg27 : Memref sig .tc .vmem S256x1024 .f32) (harg27 : arg27.IsWhole)
  (arg28 : Memref sig .tc .vmem S256x1024 .f32) (harg28 : arg28.IsWhole) (arg29 : Memref sig .tc .vmem S256x512 .bf16)
  (harg29 : arg29.IsWhole) (arg30 : Memref sig .tc .vmem S256x512 .bf16) (harg30 : arg30.IsWhole)
  (arg31 : Memref sig .tc .vmem S256x128 .bf16) (harg31 : arg31.IsWhole) (arg32 : Memref sig .tc .vmem S256x384 .bf16)
  (harg32 : arg32.IsWhole) (arg33 : Memref sig .tc .vmem S8x256x128 .bf16) (harg33 : arg33.IsWhole)
  (arg34 : Memref sig .tc .vmem S8x256x128 .bf16) (harg34 : arg34.IsWhole) (arg35 : Memref sig .tc .vmem S8x256 .f32) (harg35 : arg35.IsWhole)
  (arg36 : Memref sig .tc .vmem S8x256x384 .bf16) (harg36 : arg36.IsWhole) (x0 : Vec F S256x1024 .f32) (x1 : Vec F S1x1024 .f32)
  (x2 : Vec F S1024x4736 .bf16) (x3 : Vec F S8x1024 .bf16) (x4 : Vec F S256x512 .f32) (x5 : Vec F S256x512 .f32) (x6 : Vec F S256x256 .f32)
  (x7 : Vec F S256x256 .f32) (x8 : Vec F S1x512 .f32) (x9 : Vec F S1x512 .f32) (x10 : Vec F S1x384 .f32) (x11 : Vec F S1x512 .f32)
  (x12 : Vec F S1x256 .f32) (x13 : Vec F S1x256 .f32) (x14 : Vec F S1x128 .f32) (x15 : Vec F S512x512 .bf16) (x16 : Vec F S512x256 .bf16)
  (x17 : Vec F S256x512 .bf16) (x18 : Vec F S256x256 .bf16) (x19 : Vec F S384x768 .bf16) (x20 : Vec F S512x2048 .bf16)

theorem cover0_A_21 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).1, y ∈ pc.1.set :=
  View.cover_of_tiledL _ S256x512.size (by sl_kernel_rfl) y

/-- Output 21's block after the body. -/
def out0_A_21 : Vec F S256x512 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).1)

theorem cover0_A_22 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.1, y ∈ pc.1.set :=
  View.cover_of_tiledL _ S256x512.size (by sl_kernel_rfl) y

/-- Output 22's block after the body. -/
def out0_A_22 : Vec F S256x512 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.1)

theorem cover0_A_23 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.1, y ∈ pc.1.set :=
  View.cover_of_tiledL _ S256x128.size (by sl_kernel_rfl) y

/-- Output 23's block after the body. -/
def out0_A_23 : Vec F S256x128 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.1)

theorem cover0_A_24 (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.1, y ∈ pc.1.set :=
  View.cover_of_tiledL _ S256x256.size (by sl_kernel_rfl) y

/-- Output 24's block after the body. -/
def out0_A_24 : Vec F S256x256 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.1)

theorem cover0_A_25 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.1, y ∈ pc.1.set :=
  View.cover_of_tiledL _ S256x128.size (by sl_kernel_rfl) y

/-- Output 25's block after the body. -/
def out0_A_25 : Vec F S256x128 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.1)

theorem cover0_A_26 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.1, y ∈ pc.1.set :=
  View.cover_of_tiledL _ S256x1024.size (by sl_kernel_rfl) y

/-- Output 26's block after the body. -/
def out0_A_26 : Vec F S256x1024 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.1)

theorem cover0_A_27 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.1, y ∈ pc.1.set :=
  View.cover_of_tiledL _ S256x1024.size (by sl_kernel_rfl) y

/-- Output 27's block after the body. -/
def out0_A_27 : Vec F S256x1024 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.1)

theorem cover0_A_28 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.1, y ∈ pc.1.set :=
  View.cover_of_tiledL _ S256x512.size (by sl_kernel_rfl) y

/-- Output 28's block after the body. -/
def out0_A_28 : Vec F S256x512 .bf16 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.1)

theorem cover0_A_29 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.1, y ∈ pc.1.set :=
  View.cover_of_tiledL _ S256x512.size (by sl_kernel_rfl) y

/-- Output 29's block after the body. -/
def out0_A_29 : Vec F S256x512 .bf16 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.1)

theorem cover0_A_30 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.1, y ∈ pc.1.set :=
  View.cover_of_tiledL _ S256x128.size (by sl_kernel_rfl) y

/-- Output 30's block after the body. -/
def out0_A_30 : Vec F S256x128 .bf16 :=
  VO0_30.read (Elt F) (VO0_30.writes (Elt F) VO0_30.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.1)

theorem cover0_A_31 (y : S256x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.1, y ∈ pc.1.set :=
  View.cover_of_tiledBy _ ![256, 128] (by sl_kernel_rfl) y

/-- Output 31's block after the body. -/
def out0_A_31 : Vec F S256x384 .bf16 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.1)

theorem cover0_A_32 (y : S8x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.2.1, y ∈ pc.1.set :=
  View.cover_of_tiledBy _ ![1, 256, 128] (by sl_kernel_rfl) y

/-- Output 32's block after the body. -/
def out0_A_32 : Vec F S8x256x128 .bf16 :=
  VO0_32.read (Elt F) (VO0_32.writes (Elt F) VO0_32.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.2.1)

theorem cover0_A_33 (y : S8x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.2.2.1, y ∈ pc.1.set :=
  View.cover_of_tiledBy _ ![1, 256, 128] (by sl_kernel_rfl) y

/-- Output 33's block after the body. -/
def out0_A_33 : Vec F S8x256x128 .bf16 :=
  VO0_33.read (Elt F) (VO0_33.writes (Elt F) VO0_33.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.2.2.1)

theorem cover0_A_34 (y : S8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.2.2.2.1, y ∈ pc.1.set :=
  View.cover_of_tiledL _ S8x256.size (by sl_kernel_rfl) y

/-- Output 34's block after the body. -/
def out0_A_34 : Vec F S8x256 .f32 :=
  VO0_34.read (Elt F) (VO0_34.writes (Elt F) VO0_34.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.2.2.2.1)

theorem cover0_A_35 (y : S8x256x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.2.2.2.2.1, y ∈ pc.1.set :=
  View.cover_of_tiledBy _ ![1, 256, 128] (by sl_kernel_rfl) y

/-- Output 35's block after the body. -/
def out0_A_35 : Vec F S8x256x384 .bf16 :=
  VO0_35.read (Elt F) (VO0_35.writes (Elt F) VO0_35.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20).2.2.2.2.2.2.2.2.2.2.2.2.2.2.1)

end Cert.Kernel2Ideal.Gen

end
-- ==== Proof.ProjFrame.lean ====
/-
The frame of the projection call: the body at every grid point, and the run of the whole program.
-/
module

public import proofs.«01_k».proof.Proof.ProjCover
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the outputs' staging buffers hold after the body at point `t` (as a tuple, in window order): the run's contents at
    the point's memrefs and input blocks. -/
def outsAt0 (c : Dev nD) (t : Fin cfg0.N) : Vec F S256x512 .f32 × Vec F S256x512 .f32 × Vec F S256x128 .f32 × Vec F S256x256 .f32 × Vec F S256x128 .f32 × Vec F S256x1024 .f32 × Vec F S256x1024 .f32 × Vec F S256x512 .bf16 × Vec F S256x512 .bf16 × Vec F S256x128 .bf16 × Vec F S256x384 .bf16 × Vec F S8x256x128 .bf16 × Vec F S8x256x128 .bf16 × Vec F S8x256 .f32 × Vec F S8x256x384 .bf16 :=
  (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_33 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))

/-! ## The pipeline's proof data -/

/-- The proof data of the one pipeline on core `c`: the arrays as the region finds them (`V`); after the body at
    point `t` each input's buffer at its block and the outputs' at `outsAt0`; the invariant `ΦA`,
    which is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t).1
    | ⟨22, _⟩ => (outsAt0 m c t).2.1
    | ⟨23, _⟩ => (outsAt0 m c t).2.2.1
    | ⟨24, _⟩ => (outsAt0 m c t).2.2.2.1
    | ⟨25, _⟩ => (outsAt0 m c t).2.2.2.2.1
    | ⟨26, _⟩ => (outsAt0 m c t).2.2.2.2.2.1
    | ⟨27, _⟩ => (outsAt0 m c t).2.2.2.2.2.2.1
    | ⟨28, _⟩ => (outsAt0 m c t).2.2.2.2.2.2.2.1
    | ⟨29, _⟩ => (outsAt0 m c t).2.2.2.2.2.2.2.2.1
    | ⟨30, _⟩ => (outsAt0 m c t).2.2.2.2.2.2.2.2.2.1
    | ⟨31, _⟩ => (outsAt0 m c t).2.2.2.2.2.2.2.2.2.2.1
    | ⟨32, _⟩ => (outsAt0 m c t).2.2.2.2.2.2.2.2.2.2.2.1
    | ⟨33, _⟩ => (outsAt0 m c t).2.2.2.2.2.2.2.2.2.2.2.2.1
    | ⟨34, _⟩ => (outsAt0 m c t).2.2.2.2.2.2.2.2.2.2.2.2.2.1
    | ⟨35, _⟩ => (outsAt0 m c t).2.2.2.2.2.2.2.2.2.2.2.2.2.2
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t).1 := by dsimp only [dats]
theorem after0_22 (c : Dev nD) (t : Fin cfg0.N) : (dats m 0 c).after 22 t = (outsAt0 m c t).2.1 := by dsimp only [dats]
theorem after0_23 (c : Dev nD) (t : Fin cfg0.N) : (dats m 0 c).after 23 t = (outsAt0 m c t).2.2.1 := by dsimp only [dats]
theorem after0_24 (c : Dev nD) (t : Fin cfg0.N) : (dats m 0 c).after 24 t = (outsAt0 m c t).2.2.2.1 := by dsimp only [dats]
theorem after0_25 (c : Dev nD) (t : Fin cfg0.N) : (dats m 0 c).after 25 t = (outsAt0 m c t).2.2.2.2.1 := by dsimp only [dats]
theorem after0_26 (c : Dev nD) (t : Fin cfg0.N) : (dats m 0 c).after 26 t = (outsAt0 m c t).2.2.2.2.2.1 := by dsimp only [dats]
theorem after0_27 (c : Dev nD) (t : Fin cfg0.N) : (dats m 0 c).after 27 t = (outsAt0 m c t).2.2.2.2.2.2.1 := by dsimp only [dats]
theorem after0_28 (c : Dev nD) (t : Fin cfg0.N) : (dats m 0 c).after 28 t = (outsAt0 m c t).2.2.2.2.2.2.2.1 := by dsimp only [dats]
theorem after0_29 (c : Dev nD) (t : Fin cfg0.N) : (dats m 0 c).after 29 t = (outsAt0 m c t).2.2.2.2.2.2.2.2.1 := by dsimp only [dats]
theorem after0_30 (c : Dev nD) (t : Fin cfg0.N) : (dats m 0 c).after 30 t = (outsAt0 m c t).2.2.2.2.2.2.2.2.2.1 := by dsimp only [dats]
theorem after0_31 (c : Dev nD) (t : Fin cfg0.N) : (dats m 0 c).after 31 t = (outsAt0 m c t).2.2.2.2.2.2.2.2.2.2.1 := by dsimp only [dats]
theorem after0_32 (c : Dev nD) (t : Fin cfg0.N) : (dats m 0 c).after 32 t = (outsAt0 m c t).2.2.2.2.2.2.2.2.2.2.2.1 := by dsimp only [dats]
theorem after0_33 (c : Dev nD) (t : Fin cfg0.N) : (dats m 0 c).after 33 t = (outsAt0 m c t).2.2.2.2.2.2.2.2.2.2.2.2.1 := by dsimp only [dats]
theorem after0_34 (c : Dev nD) (t : Fin cfg0.N) : (dats m 0 c).after 34 t = (outsAt0 m c t).2.2.2.2.2.2.2.2.2.2.2.2.2.1 := by dsimp only [dats]
theorem after0_35 (c : Dev nD) (t : Fin cfg0.N) : (dats m 0 c).after 35 t = (outsAt0 m c t).2.2.2.2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t))

set_option maxHeartbeats 3600000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  unfold outsAt0
  unfold out0_A_21 out0_A_22 out0_A_23 out0_A_24 out0_A_25 out0_A_26 out0_A_27 out0_A_28 out0_A_29 out0_A_30 out0_A_31 out0_A_32 out0_A_33 out0_A_34 out0_A_35; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩, ⟨%e35, H35⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H31]
  · unfold owns; iexists _; isplitr
    swap; · iexact H31
    ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H32]
  · unfold owns; iexists _; isplitr
    swap; · iexact H32
    ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H33]
  · unfold owns; iexists _; isplitr
    swap; · iexact H33
    ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H35
  ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 0 in
/-- The body obligation at every point: the body's triple, restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At this mesh, for any values, from any memory with zero counters: every weakly fair execution of @main on the
    TensorCores terminates, and every final state has every array of the pipeline at what the proof data say
    and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame, for any values: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel2Ideal.Gen

end
-- ==== Proof.ProjSame.lean ====
/-
The frames of the projection call, of its ideal form and of their reference: a run of the call over bit patterns is a run of
the ideal form, since the two are one program.
-/
module

public import proofs.«01_k».proof.Proof.ProjText
public import proofs.«01_k».proof.Proof.ProjFrame
public import proofs.«01_k».proof.Proof.Gen.Reference2Ideal.Run

@[expose] public section

noncomputable section

namespace Cert.Proof.Proj

open Idealize.ShloMosaic Idealize.SL.Sem

set_option maxHeartbeats 0 in
/-- A run of the projection call over bit patterns leaves the arguments and the semaphores as they were. -/
theorem frame_kernel : Cert.quiescent_Kernel2 := fun m ρ _ => by
  rw [defs_eq, main_eq]
  exact Cert.Kernel2Ideal.Gen.frame (F := Bits) m ρ

theorem frame_kernelIdeal : Cert.quiescent_Kernel2Ideal := fun m ρ _ => Cert.Kernel2Ideal.Gen.frame (F := Ideal) m ρ

theorem frame_reference : Cert.quiescent_Reference2Ideal := fun m ρ _ =>
  (θ_run _ _ _).mono (fun r h => ⟨fun c => (h c).2.2.2.2, sem_eq_zero_of_no_sems (by decide) r.2⟩) (Cert.Reference2Ideal.Value.run (F := Ideal) m ρ)

end Cert.Proof.Proj

end
-- ==== Proof.ProjRow.lean ====
/-
The values, latents and gates of one row over the extended reals: the normalised row through a
block of columns of the weights, the latents normalised again, and the gates' logistic function.
-/
module

public import proofs.«01_k».proof.Proof.FinishRow
public import proofs.«01_k».proof.Proof.Gen.Kernel2Ideal.Skeleton
public import Idealize.ShloMosaic.Lib.Pointwise

@[expose] public section

set_option maxRecDepth 16384

noncomputable section

namespace Cert.Proof.Proj

open Cert.Kernel2Ideal Cert.Kernel2Ideal.Gen Idealize.ShloMosaic
open Cert.Proof.Finish (width eps normed)

/-- The number 256, as the programs hold it. -/
abbrev rank : EReal := Ideal.ofBits .f32 0x43800000#32

/-- A row through a matrix, from column `o` on. -/
def cols {N n : ℕ} (o : ℕ) (ho : o + n ≤ N) (y : Fin 1024 → EReal) (w : Fin 1024 → Fin N → EReal) (j : Fin n) : EReal :=
  ∑ k, y k * w k ⟨o + j.val, by omega⟩

/-- A latent over the root of its mean square, by the gains. -/
def latent (z g : Fin 256 → EReal) (j : Fin 256) : EReal :=
  z j * Ideal.rsqrt (Ideal.div (∑ k, z k * z k) rank + eps) * g j

theorem pay3_apply (x : FVec Ideal S256x1024 .f32) (g : FVec Ideal S1x1024 .f32) (r : Fin 256) (n : Fin 1024) :
    k0_pay3 (F := Ideal) x g (ix2 r n) = normed (fun n => x (ix2 r n)) (fun n => g (ix2 0 n)) n := by
  unfold normed
  pointwise [k0_pay3]

theorem pay42_apply (h : FVec Ideal S256x1024 .bf16) (w : FVec Ideal S1024x512 .bf16) (r : Fin 256) (j : Fin 512) :
    k0_pay42 (F := Ideal) h w (ix2 r j) = ∑ k : Fin 1024, h (ix2 r k) * w (ix2 k j) := by
  pointwise [k0_pay42]

theorem pay122_apply (h : FVec Ideal S256x1024 .bf16) (w : FVec Ideal S1024x256 .bf16) (g : FVec Ideal S1x256 .f32) (r j : Fin 256) :
    k0_pay122 (F := Ideal) h w g (ix2 r j)
      = latent (fun j => ∑ k : Fin 1024, h (ix2 r k) * w (ix2 k j)) (fun j => g (ix2 0 j)) j := by
  unfold latent
  pointwise [k0_pay122]

theorem pay1_apply (h : FVec Ideal S256x1024 .bf16) (w : FVec Ideal S1024x1024 .bf16) (r : Fin 256) (j : Fin 1024) :
    k0_pay1 (F := Ideal) h w (ix2 r j) = Ideal.logistic (∑ k : Fin 1024, h (ix2 r k) * w (ix2 k j)) := by
  pointwise [k0_pay1]

theorem pay2_apply (h : FVec Ideal S256x1024 .bf16) (w : FVec Ideal S1024x1024 .bf16) (r : Fin 256) (j : Fin 1024) :
    k0_pay2 (F := Ideal) h w (ix2 r j) = Ideal.logistic (∑ k : Fin 1024, h (ix2 r k) * w (ix2 k j)) := by
  pointwise [k0_pay2]

end Cert.Proof.Proj

end
-- ==== Proof.ProjRef.lean ====
/-
The reference of the projections entry by entry, over the extended reals.
-/
module

public import proofs.«01_k».proof.Proof.Gen.Reference2Ideal.Run
public import proofs.«01_k».proof.Proof.ProjRow
public import proofs.«01_k».proof.Proof.FinishArray

@[expose] public section

set_option maxRecDepth 16384

noncomputable section

namespace Cert.Proof.Proj.Ref

open Cert.Reference2Ideal Cert.Reference2Ideal.Gen Idealize.ShloMosaic Idealize.ShloMosaic.TcCoe
open Cert.Proof.Finish (width eps normed bat pos)

variable (a0 : FVec Ideal S8x2048x1024 .f32) (a1 : FVec Ideal S1024 .f32) (a2 : FVec Ideal S1024x4552 .f32) (a9 : FVec Ideal S256 .f32)

/-- One over the root of each row's mean square, of rows of 1024 numbers. -/
def invRoot (y : FVec Ideal S8x2048x1024 .f32) : FVec Ideal S8x2048x1 .f32 :=
  Host.rsqrt (addf (Host.divf (broadcastInDim S8x2048x1 ![0, 1] bcast_S8x2048_S8x2048x1_0_1
      (Host.reduceAdd (mulf y y) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_ .f32 0x358637BD#32)))

/-- The same of rows of 256 numbers. -/
def invRootLatent (y : FVec Ideal S8x2048x256 .f32) : FVec Ideal S8x2048x1 .f32 :=
  Host.rsqrt (addf (Host.divf (broadcastInDim S8x2048x1 ![0, 1] bcast_S8x2048_S8x2048x1_0_1
      (Host.reduceAdd (mulf y y) (constant S_ .f32 0x00000000#32) reducesTo_S8x2048x256_S8x2048_d2 h_S_))
    (broadcastInDim S8x2048x1 ![] bcast_S_S8x2048x1 (constant S_ .f32 0x43800000#32))) (broadcastInDim S8x2048x1 ![] bcast_S_S8x2048x1 (constant S_ .f32 0x358637BD#32)))

/-- The normalised rows, by the gains. -/
def norm (y : FVec Ideal S8x2048x1024 .f32) : FVec Ideal S8x2048x1024 .f32 :=
  mulf (mulf y (broadcastInDim S8x2048x1024 ![0, 1, 2] bcast_S8x2048x1_S8x2048x1024_0_1_2 (invRoot y)))
    (broadcastInDim S8x2048x1024 ![0, 1, 2] bcast_S1x1x1024_S8x2048x1024_0_1_2 (broadcastInDim S1x1x1024 ![2] bcast_S1024_S1x1x1024_2 a1))

/-- The normalised latents, by their gains. -/
def normLatent (y : FVec Ideal S8x2048x256 .f32) : FVec Ideal S8x2048x256 .f32 :=
  mulf (mulf y (broadcastInDim S8x2048x256 ![0, 1, 2] bcast_S8x2048x1_S8x2048x256_0_1_2 (invRootLatent y)))
    (broadcastInDim S8x2048x256 ![0, 1, 2] bcast_S1x1x256_S8x2048x256_0_1_2 (broadcastInDim S1x1x256 ![2] bcast_S256_S1x1x256_2 a9))

/-- The normalised rows through the weights. -/
def mixed (y : FVec Ideal S8x2048x1024 .f32) : FVec Ideal S8x2048x4552 .f32 :=
  Host.dotGeneral dot_S8x2048x1024_S1024x4552_S8x2048x4552_2_0_01_1_n_n none y a2

/-- The values' columns and the latents' columns of a projection. -/
def valueCols (z : FVec Ideal S8x2048x4552 .f32) : FVec Ideal S8x2048x512 .f32 :=
  extractStridedSlice S8x2048x512 ![0, 0, 1024] z slices_S8x2048x4552_S8x2048x512_0_0_1024
def latentCols (z : FVec Ideal S8x2048x4552 .f32) : FVec Ideal S8x2048x256 .f32 :=
  extractStridedSlice S8x2048x256 ![0, 0, 2216] z slices_S8x2048x4552_S8x2048x256_0_0_2216
/-- The two gates' columns. -/
def gateCols (z : FVec Ideal S8x2048x4552 .f32) : FVec Ideal S8x2048x1024 .f32 :=
  extractStridedSlice S8x2048x1024 ![0, 0, 2504] z slices_S8x2048x4552_S8x2048x1024_0_0_2504
def gateCols' (z : FVec Ideal S8x2048x4552 .f32) : FVec Ideal S8x2048x1024 .f32 :=
  extractStridedSlice S8x2048x1024 ![0, 0, 3528] z slices_S8x2048x4552_S8x2048x1024_0_0_3528

/-- The logistic function of each entry. -/
def gate (y : FVec Ideal S8x2048x1024 .f32) : FVec Ideal S8x2048x1024 .f32 :=
  Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf y)))

/-- The rows of a batched array, one after another. -/
def flat (y : FVec Ideal S8x2048x1024 .f32) : FVec Ideal S16384x1024 .f32 := shapeCast _ y shapeCasts_S8x2048x1024_S16384x1024
def flatValue (y : FVec Ideal S8x2048x512 .f32) : FVec Ideal S16384x512 .f32 := shapeCast _ y shapeCasts_S8x2048x512_S16384x512
def flatLatent (y : FVec Ideal S8x2048x256 .f32) : FVec Ideal S16384x256 .f32 := shapeCast _ y shapeCasts_S8x2048x256_S16384x256

theorem invRoot_apply (y : FVec Ideal S8x2048x1024 .f32) (b : Fin 8) (t : Fin 2048) :
    invRoot y (ix3 b t 0) = Ideal.rsqrt (Ideal.div (∑ k : Fin 1024, y (ix3 b t k) * y (ix3 b t k)) width + eps) := by
  pointwise [invRoot]

theorem invRootLatent_apply (y : FVec Ideal S8x2048x256 .f32) (b : Fin 8) (t : Fin 2048) :
    invRootLatent y (ix3 b t 0) = Ideal.rsqrt (Ideal.div (∑ k : Fin 256, y (ix3 b t k) * y (ix3 b t k)) rank + eps) := by
  pointwise [invRootLatent]

theorem norm_apply (y : FVec Ideal S8x2048x1024 .f32) (b : Fin 8) (t : Fin 2048) (n : Fin 1024) :
    norm a1 y (ix3 b t n) = y (ix3 b t n) * invRoot y (ix3 b t 0) * a1 (ix1 n) := by
  pointwise [norm]

theorem normLatent_apply (y : FVec Ideal S8x2048x256 .f32) (b : Fin 8) (t : Fin 2048) (n : Fin 256) :
    normLatent a9 y (ix3 b t n) = y (ix3 b t n) * invRootLatent y (ix3 b t 0) * a9 (ix1 n) := by
  pointwise [normLatent]

theorem mixed_apply (y : FVec Ideal S8x2048x1024 .f32) (b : Fin 8) (t : Fin 2048) (n : Fin 4552) :
    mixed a2 y (ix3 b t n) = ∑ k : Fin 1024, y (ix3 b t k) * a2 (ix2 k n) := by
  pointwise [mixed]

theorem valueCols_apply (z : FVec Ideal S8x2048x4552 .f32) (b : Fin 8) (t : Fin 2048) (j : Fin 512) :
    valueCols z (ix3 b t j) = z (ix3 b t (⟨1024 + j.val, by omega⟩ : Fin 4552)) := by
  pointwise [valueCols]
theorem latentCols_apply (z : FVec Ideal S8x2048x4552 .f32) (b : Fin 8) (t : Fin 2048) (j : Fin 256) :
    latentCols z (ix3 b t j) = z (ix3 b t (⟨2216 + j.val, by omega⟩ : Fin 4552)) := by
  pointwise [latentCols]
theorem gateCols_apply (z : FVec Ideal S8x2048x4552 .f32) (b : Fin 8) (t : Fin 2048) (j : Fin 1024) :
    gateCols z (ix3 b t j) = z (ix3 b t (⟨2504 + j.val, by omega⟩ : Fin 4552)) := by
  pointwise [gateCols]
theorem gateCols'_apply (z : FVec Ideal S8x2048x4552 .f32) (b : Fin 8) (t : Fin 2048) (j : Fin 1024) :
    gateCols' z (ix3 b t j) = z (ix3 b t (⟨3528 + j.val, by omega⟩ : Fin 4552)) := by
  pointwise [gateCols']

theorem gate_apply (y : FVec Ideal S8x2048x1024 .f32) (b : Fin 8) (t : Fin 2048) (n : Fin 1024) :
    gate y (ix3 b t n) = Ideal.logistic (y (ix3 b t n)) := by
  show _ = Ideal.div 1 (1 + Ideal.exp (-y (ix3 b t n)))
  pointwise [gate]

theorem flat_apply (y : FVec Ideal S8x2048x1024 .f32) (r : Fin 16384) (n : Fin 1024) :
    flat y (ix2 r n) = y (ix3 (bat r) (pos r) n) := by
  pointwise [flat]
theorem flatValue_apply (y : FVec Ideal S8x2048x512 .f32) (r : Fin 16384) (n : Fin 512) :
    flatValue y (ix2 r n) = y (ix3 (bat r) (pos r) n) := by
  pointwise [flatValue]
theorem flatLatent_apply (y : FVec Ideal S8x2048x256 .f32) (r : Fin 16384) (n : Fin 256) :
    flatLatent y (ix2 r n) = y (ix3 (bat r) (pos r) n) := by
  pointwise [flatLatent]

end Cert.Proof.Proj.Ref

end
-- ==== Proof.ProjHost.lean ====
/-
What the host operations before the projection region leave in the arrays that the values,
latents and gates are read from, as terms of the arguments.
-/
module

public import proofs.«01_k».proof.Proof.Gen.Kernel2Ideal.Frame.Runs
public import Idealize.ShloMosaic.Lib.Pointwise
public import Idealize.ShloMosaic.Lib.StableHlo.ReadAt

@[expose] public section

set_option maxRecDepth 16384

noncomputable section

namespace Cert.Proof.Proj

open Cert.Kernel2Ideal Cert.Kernel2Ideal.Gen Idealize.ShloMosaic Idealize.ShloMosaic.TcCoe Idealize.ShloMosaic.StableHlo

variable (m : (ℓ : Loc nD τ sig) → Buf (Elt Ideal) ℓ) (c : Dev nD)

abbrev A0 : FVec Ideal S8x2048x1024 .f32 := m ((c : Thread nD τ).loc main_arg0)
abbrev A1 : FVec Ideal S1024 .f32 := m ((c : Thread nD τ).loc main_arg1)
abbrev A2 : FVec Ideal S1024x4552 .f32 := m ((c : Thread nD τ).loc main_arg2)
abbrev A9 : FVec Ideal S256 .f32 := m ((c : Thread nD τ).loc main_arg9)

/-- The keys' columns of the packed weights, repeated over the lanes. -/
def spread (w : FVec Ideal S1024x32 .f32) : FVec Ideal S1024x128 .f32 :=
  shapeCast S1024x128 (broadcastInDim S1x1024x4x32 ![0, 1, 2, 3] bcast_S1x1024x1x32_S1x1024x4x32_0_1_2_3
    (shapeCast S1x1024x1x32 w shapeCasts_S1024x32_S1x1024x1x32)) shapeCasts_S1x1024x4x32_S1024x128

/-- The packed weights. -/
def packed (w : FVec Ideal S1024x4552 .f32) : FVec Ideal S1024x4736 .f32 :=
  concatenate S1024x4736 1 [⟨S1024x512, extractStridedSlice S1024x512 ![0, 0] w slices_S1024x4552_S1024x512_0_0⟩,
    ⟨S1024x512, extractStridedSlice S1024x512 ![0, 512] w slices_S1024x4552_S1024x512_0_512⟩,
    ⟨S1024x512, extractStridedSlice S1024x512 ![0, 1024] w slices_S1024x4552_S1024x512_0_1024⟩,
    ⟨S1024x256, extractStridedSlice S1024x256 ![0, 1536] w slices_S1024x4552_S1024x256_0_1536⟩,
    ⟨S1024x128, spread (extractStridedSlice S1024x32 ![0, 1800] w slices_S1024x4552_S1024x32_0_1800)⟩,
    ⟨S1024x384, extractStridedSlice S1024x384 ![0, 1832] w slices_S1024x4552_S1024x384_0_1832⟩,
    ⟨S1024x256, extractStridedSlice S1024x256 ![0, 2216] w slices_S1024x4552_S1024x256_0_2216⟩,
    ⟨S1024x128, spread (extractStridedSlice S1024x32 ![0, 2472] w slices_S1024x4552_S1024x32_0_2472)⟩,
    ⟨S1024x1024, extractStridedSlice S1024x1024 ![0, 2504] w slices_S1024x4552_S1024x1024_0_2504⟩,
    ⟨S1024x1024, extractStridedSlice S1024x1024 ![0, 3528] w slices_S1024x4552_S1024x1024_0_3528⟩]
    concatenates_S1024x512_S1024x512_S1024x512_S1024x256_S1024x128_S1024x384_S1024x256_S1024x128_S1024x1024_S1024x1024_S1024x4736_d1

set_option maxHeartbeats 0 in
theorem V140 : V m c main_v140 = shapeCast S16384x1024 (A0 m c) shapeCasts_S8x2048x1024_S16384x1024 := by
  unfold V
  simp only [List.flatten_cons, List.flatten_nil, List.append_nil, List.cons_append, List.nil_append]
  after_reads_simp
  <;> rfl

set_option maxHeartbeats 0 in
theorem V79 : V m c main_v79 = shapeCast S1x1024 (A1 m c) shapeCasts_S1024_S1x1024 := by
  unfold V
  simp only [List.flatten_cons, List.flatten_nil, List.append_nil, List.cons_append, List.nil_append]
  after_reads_simp
  <;> rfl

set_option maxHeartbeats 0 in
theorem V99 : V m c main_v99 = shapeCast S1x256 (A9 m c) shapeCasts_S256_S1x256 := by
  unfold V
  simp only [List.flatten_cons, List.flatten_nil, List.append_nil, List.cons_append, List.nil_append]
  after_reads_simp
  <;> rfl

set_option maxHeartbeats 0 in
theorem V18 : V m c main_v18 = truncf .bf16 (packed (A2 m c)) bitsLt_bf16_f32 := by
  unfold V
  simp only [List.flatten_cons, List.flatten_nil, List.append_nil, List.cons_append, List.nil_append]
  after_reads_simp
  <;> rfl

end Cert.Proof.Proj

end
-- ==== Proof.ProjLeft.lean ====
/-
What the projection body leaves in four of its output blocks: the values, the latents and the two gates, as functions of the
blocks of the rows, of the weights and of the gains.
-/
module

public import proofs.«01_k».proof.Proof.ProjCover
public import Idealize.ShloMosaic.Lib.Pipeline.ValueKit

@[expose] public section

set_option maxRecDepth 16384

noncomputable section

namespace Cert.Proof.Proj

open Cert.Kernel2Ideal Cert.Kernel2Ideal.Gen Idealize.ShloMosaic Idealize.ShloMosaic.TcCoe

/-- A load through a whole buffer that holds an array is a load of that array. -/
theorem load_whole {s : Shape} {e : EltTy} (a : Memref sig .tc .vmem s e) (ha : a.IsWhole) (x : Vec Ideal s e) (r : Rect s) :
    View.readAt (Elt Ideal) a.view r.toLoadRect (ha.unread x) = View.ld x r := by
  rw [View.readAt_eq_ld, Memref.IsWhole.read_unread]

/-! The columns of the weights that a body loads. -/

abbrev valuePart (w : Vec Ideal S1024x4736 .bf16) : FVec Ideal S1024x512 .bf16 :=
  View.ld w (Rect.unit (s := S1024x4736) ![0, 1024] S1024x512.size inb_S1024x4736_S1024x512_0_1024)
abbrev latentPart (w : Vec Ideal S1024x4736 .bf16) : FVec Ideal S1024x256 .bf16 :=
  View.ld w (Rect.unit (s := S1024x4736) ![0, 2304] S1024x256.size inb_S1024x4736_S1024x256_0_2304)
abbrev gatePart (w : Vec Ideal S1024x4736 .bf16) : FVec Ideal S1024x1024 .bf16 :=
  View.ld w (Rect.unit (s := S1024x4736) ![0, 2688] S1024x1024.size inb_S1024x4736_S1024x1024_0_2688)
abbrev gatePart' (w : Vec Ideal S1024x4736 .bf16) : FVec Ideal S1024x1024 .bf16 :=
  View.ld w (Rect.unit (s := S1024x4736) ![0, 3712] S1024x1024.size inb_S1024x4736_S1024x1024_0_3712)

theorem loadRows (X : Vec Ideal S256x1024 .f32) : View.ld X (Rect.unit (s := S256x1024) ![0, 0] S256x1024.size inb_S256x1024_S256x1024_0_0) = X :=
  View.ld_unit_lit _ X (by decide)
theorem loadGains (X : Vec Ideal S1x1024 .f32) : View.ld X (Rect.unit (s := S1x1024) ![0, 0] S1x1024.size inb_S1x1024_S1x1024_0_0) = X :=
  View.ld_unit_lit _ X (by decide)
theorem loadLatentGains (X : Vec Ideal S1x256 .f32) : View.ld X (Rect.unit (s := S1x256) ![0, 0] S1x256.size inb_S1x256_S1x256_0_0) = X :=
  View.ld_unit_lit _ X (by decide)

variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S1024x4736 .bf16) (harg3 : arg3.IsWhole)
  (arg4 : Memref sig .tc .vmem S8x1024 .bf16) (harg4 : arg4.IsWhole) (arg5 : Memref sig .tc .vmem S256x512 .f32) (harg5 : arg5.IsWhole)
  (arg6 : Memref sig .tc .vmem S256x512 .f32) (harg6 : arg6.IsWhole) (arg7 : Memref sig .tc .vmem S256x256 .f32) (harg7 : arg7.IsWhole)
  (arg8 : Memref sig .tc .vmem S256x256 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x384 .f32) (harg11 : arg11.IsWhole)
  (arg12 : Memref sig .tc .vmem S1x512 .f32) (harg12 : arg12.IsWhole) (arg13 : Memref sig .tc .vmem S1x256 .f32) (harg13 : arg13.IsWhole)
  (arg14 : Memref sig .tc .vmem S1x256 .f32) (harg14 : arg14.IsWhole) (arg15 : Memref sig .tc .vmem S1x128 .f32) (harg15 : arg15.IsWhole)
  (arg16 : Memref sig .tc .vmem S512x512 .bf16) (harg16 : arg16.IsWhole) (arg17 : Memref sig .tc .vmem S512x256 .bf16)
  (harg17 : arg17.IsWhole) (arg18 : Memref sig .tc .vmem S256x512 .bf16) (harg18 : arg18.IsWhole)
  (arg19 : Memref sig .tc .vmem S256x256 .bf16) (harg19 : arg19.IsWhole) (arg20 : Memref sig .tc .vmem S384x768 .bf16)
  (harg20 : arg20.IsWhole) (arg21 : Memref sig .tc .vmem S512x2048 .bf16) (harg21 : arg21.IsWhole)
  (arg22 : Memref sig .tc .vmem S256x512 .f32) (harg22 : arg22.IsWhole) (arg23 : Memref sig .tc .vmem S256x512 .f32) (harg23 : arg23.IsWhole)
  (arg24 : Memref sig .tc .vmem S256x128 .f32) (harg24 : arg24.IsWhole) (arg25 : Memref sig .tc .vmem S256x256 .f32) (harg25 : arg25.IsWhole)
  (arg26 : Memref sig .tc .vmem S256x128 .f32) (harg26 : arg26.IsWhole) (arg27 : Memref sig .tc .vmem S256x1024 .f32) (harg27 : arg27.IsWhole)
  (arg28 : Memref sig .tc .vmem S256x1024 .f32) (harg28 : arg28.IsWhole) (arg29 : Memref sig .tc .vmem S256x512 .bf16)
  (harg29 : arg29.IsWhole) (arg30 : Memref sig .tc .vmem S256x512 .bf16) (harg30 : arg30.IsWhole)
  (arg31 : Memref sig .tc .vmem S256x128 .bf16) (harg31 : arg31.IsWhole) (arg32 : Memref sig .tc .vmem S256x384 .bf16)
  (harg32 : arg32.IsWhole) (arg33 : Memref sig .tc .vmem S8x256x128 .bf16) (harg33 : arg33.IsWhole)
  (arg34 : Memref sig .tc .vmem S8x256x128 .bf16) (harg34 : arg34.IsWhole) (arg35 : Memref sig .tc .vmem S8x256 .f32) (harg35 : arg35.IsWhole)
  (arg36 : Memref sig .tc .vmem S8x256x384 .bf16) (harg36 : arg36.IsWhole) (x0 : Vec Ideal S256x1024 .f32) (x1 : Vec Ideal S1x1024 .f32)
  (x2 : Vec Ideal S1024x4736 .bf16) (x3 : Vec Ideal S8x1024 .bf16) (x4 : Vec Ideal S256x512 .f32) (x5 : Vec Ideal S256x512 .f32) (x6 : Vec Ideal S256x256 .f32)
  (x7 : Vec Ideal S256x256 .f32) (x8 : Vec Ideal S1x512 .f32) (x9 : Vec Ideal S1x512 .f32) (x10 : Vec Ideal S1x384 .f32) (x11 : Vec Ideal S1x512 .f32)
  (x12 : Vec Ideal S1x256 .f32) (x13 : Vec Ideal S1x256 .f32) (x14 : Vec Ideal S1x128 .f32) (x15 : Vec Ideal S512x512 .bf16) (x16 : Vec Ideal S512x256 .bf16)
  (x17 : Vec Ideal S256x512 .bf16) (x18 : Vec Ideal S256x256 .bf16) (x19 : Vec Ideal S384x768 .bf16) (x20 : Vec Ideal S512x2048 .bf16)

/-- The normalised rows, of the loaded rows and gains. -/
theorem loaded_rows :
    k0_pay3 (F := Ideal) (View.readAt (Elt Ideal) arg1.view (Rect.unit (s := S256x1024) ![0, 0] S256x1024.size inb_S256x1024_S256x1024_0_0).toLoadRect (harg1.unread x0))
      (View.readAt (Elt Ideal) arg2.view (Rect.unit (s := S1x1024) ![0, 0] S1x1024.size inb_S1x1024_S1x1024_0_0).toLoadRect (harg2.unread x1))
      = k0_pay3 (F := Ideal) x0 x1 :=
  congrArg₂ (k0_pay3 (F := Ideal)) ((load_whole arg1 harg1 x0 _).trans (loadRows x0)) ((load_whole arg2 harg2 x1 _).trans (loadGains x1))

theorem left22 : out0_A_22 (F := Ideal) c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21
      harg21 arg22 harg22 arg23 harg23 arg24 harg24 arg25 harg25 arg26 harg26 arg27 harg27 arg28 harg28 arg29 harg29 arg30 harg30
      arg31 harg31 arg32 harg32 arg33 harg33 arg34 harg34 arg35 harg35 arg36 harg36 x0 x1 x2 x3 x4 x5 x6 x7 x8 x9 x10 x11 x12 x13
      x14 x15 x16 x17 x18 x19 x20 = k0_pay42 (F := Ideal) (k0_pay3 (F := Ideal) x0 x1) (valuePart x2) := by
  refine (View.read_writes_junk_eq_canon _ _).trans ((View.canon_cons_unit_lit _ _ _ (by decide)).trans ?_)
  exact congrArg₂ (k0_pay42 (F := Ideal)) (loaded_rows arg1 harg1 arg2 harg2 x0 x1) (load_whole arg3 harg3 x2 _)

theorem left24 : out0_A_24 (F := Ideal) c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21
      harg21 arg22 harg22 arg23 harg23 arg24 harg24 arg25 harg25 arg26 harg26 arg27 harg27 arg28 harg28 arg29 harg29 arg30 harg30
      arg31 harg31 arg32 harg32 arg33 harg33 arg34 harg34 arg35 harg35 arg36 harg36 x0 x1 x2 x3 x4 x5 x6 x7 x8 x9 x10 x11 x12 x13
      x14 x15 x16 x17 x18 x19 x20 = k0_pay122 (F := Ideal) (k0_pay3 (F := Ideal) x0 x1) (latentPart x2) x13 := by
  refine (View.read_writes_junk_eq_canon _ _).trans ((View.canon_cons_unit_lit _ _ _ (by decide)).trans ?_)
  exact (congrArg₂ (fun h w => k0_pay122 (F := Ideal) h w _) (loaded_rows arg1 harg1 arg2 harg2 x0 x1) (load_whole arg3 harg3 x2 _)).trans
    (congrArg (k0_pay122 (F := Ideal) _ _) ((load_whole arg14 harg14 x13 _).trans (loadLatentGains x13)))

theorem left26 : out0_A_26 (F := Ideal) c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21
      harg21 arg22 harg22 arg23 harg23 arg24 harg24 arg25 harg25 arg26 harg26 arg27 harg27 arg28 harg28 arg29 harg29 arg30 harg30
      arg31 harg31 arg32 harg32 arg33 harg33 arg34 harg34 arg35 harg35 arg36 harg36 x0 x1 x2 x3 x4 x5 x6 x7 x8 x9 x10 x11 x12 x13
      x14 x15 x16 x17 x18 x19 x20 = k0_pay1 (F := Ideal) (k0_pay3 (F := Ideal) x0 x1) (gatePart x2) := by
  refine (View.read_writes_junk_eq_canon _ _).trans ((View.canon_cons_unit_lit _ _ _ (by decide)).trans ?_)
  exact congrArg₂ (k0_pay1 (F := Ideal)) (loaded_rows arg1 harg1 arg2 harg2 x0 x1) (load_whole arg3 harg3 x2 _)

theorem left27 : out0_A_27 (F := Ideal) c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21
      harg21 arg22 harg22 arg23 harg23 arg24 harg24 arg25 harg25 arg26 harg26 arg27 harg27 arg28 harg28 arg29 harg29 arg30 harg30
      arg31 harg31 arg32 harg32 arg33 harg33 arg34 harg34 arg35 harg35 arg36 harg36 x0 x1 x2 x3 x4 x5 x6 x7 x8 x9 x10 x11 x12 x13
      x14 x15 x16 x17 x18 x19 x20 = k0_pay2 (F := Ideal) (k0_pay3 (F := Ideal) x0 x1) (gatePart' x2) := by
  refine (View.read_writes_junk_eq_canon _ _).trans ((View.canon_cons_unit_lit _ _ _ (by decide)).trans ?_)
  exact congrArg₂ (k0_pay2 (F := Ideal)) (loaded_rows arg1 harg1 arg2 harg2 x0 x1) (load_whole arg3 harg3 x2 _)

end Cert.Proof.Proj

end
-- ==== Proof.ProjWeights.lean ====
/-
The packed weights' columns of the values, of the latents and of the gates are columns of the weights.
-/
module

public import proofs.«01_k».proof.Proof.ProjHost
public import proofs.«01_k».proof.Proof.ProjLeft

@[expose] public section

set_option maxRecDepth 16384

noncomputable section

namespace Cert.Proof.Proj

open Cert.Kernel2Ideal Cert.Kernel2Ideal.Gen Idealize.ShloMosaic

theorem packed_value (w : FVec Ideal S1024x4552 .f32) (k : Fin 1024) (j : Fin 512) :
    packed w (ix2 k (⟨1024 + j.val, by omega⟩ : Fin 4736)) = w (ix2 k (⟨1024 + j.val, by omega⟩ : Fin 4552)) := by
  pointwise [packed]
  rw [dif_neg (by omega), dif_neg (by omega), dif_pos (by omega)]
  exact congrArg (fun q : Fin 4552 => w (ix2 k q)) (Fin.ext (by dsimp only; omega))

theorem packed_latent (w : FVec Ideal S1024x4552 .f32) (k : Fin 1024) (j : Fin 256) :
    packed w (ix2 k (⟨2304 + j.val, by omega⟩ : Fin 4736)) = w (ix2 k (⟨2216 + j.val, by omega⟩ : Fin 4552)) := by
  pointwise [packed]
  rw [dif_neg (by omega), dif_neg (by omega), dif_neg (by omega), dif_neg (by omega), dif_neg (by omega), dif_neg (by omega),
    dif_pos (by omega)]
  exact congrArg (fun q : Fin 4552 => w (ix2 k q)) (Fin.ext (by dsimp only; omega))

theorem packed_gate (w : FVec Ideal S1024x4552 .f32) (k : Fin 1024) (j : Fin 1024) :
    packed w (ix2 k (⟨2688 + j.val, by omega⟩ : Fin 4736)) = w (ix2 k (⟨2504 + j.val, by omega⟩ : Fin 4552)) := by
  pointwise [packed]
  rw [dif_neg (by omega), dif_neg (by omega), dif_neg (by omega), dif_neg (by omega), dif_neg (by omega), dif_neg (by omega),
    dif_neg (by omega), dif_neg (by omega), dif_pos (by omega)]
  exact congrArg (fun q : Fin 4552 => w (ix2 k q)) (Fin.ext (by dsimp only; omega))

theorem packed_gate' (w : FVec Ideal S1024x4552 .f32) (k : Fin 1024) (j : Fin 1024) :
    packed w (ix2 k (⟨3712 + j.val, by omega⟩ : Fin 4736)) = w (ix2 k (⟨3528 + j.val, by omega⟩ : Fin 4552)) := by
  pointwise [packed]
  rw [dif_neg (by omega), dif_neg (by omega), dif_neg (by omega), dif_neg (by omega), dif_neg (by omega), dif_neg (by omega),
    dif_neg (by omega), dif_neg (by omega), dif_neg (by omega)]
  exact congrArg (fun q : Fin 4552 => w (ix2 k q)) (Fin.ext (by dsimp only; omega))

/-! The columns that a body loads of packed weights. -/

theorem valuePart_apply (w : Vec Ideal S1024x4736 .bf16) (k : Fin 1024) (j : Fin 512) :
    valuePart w (ix2 k j) = w (ix2 k (⟨1024 + j.val, by omega⟩ : Fin 4736)) :=
  View.ld_unit_apply_of w _ _ _ _ _ fun a => match a with
    | ⟨0, _⟩ => (Nat.zero_add _).symm
    | ⟨1, _⟩ => rfl
theorem latentPart_apply (w : Vec Ideal S1024x4736 .bf16) (k : Fin 1024) (j : Fin 256) :
    latentPart w (ix2 k j) = w (ix2 k (⟨2304 + j.val, by omega⟩ : Fin 4736)) :=
  View.ld_unit_apply_of w _ _ _ _ _ fun a => match a with
    | ⟨0, _⟩ => (Nat.zero_add _).symm
    | ⟨1, _⟩ => rfl
theorem gatePart_apply (w : Vec Ideal S1024x4736 .bf16) (k j : Fin 1024) :
    gatePart w (ix2 k j) = w (ix2 k (⟨2688 + j.val, by omega⟩ : Fin 4736)) :=
  View.ld_unit_apply_of w _ _ _ _ _ fun a => match a with
    | ⟨0, _⟩ => (Nat.zero_add _).symm
    | ⟨1, _⟩ => rfl
theorem gatePart'_apply (w : Vec Ideal S1024x4736 .bf16) (k j : Fin 1024) :
    gatePart' w (ix2 k j) = w (ix2 k (⟨3712 + j.val, by omega⟩ : Fin 4736)) :=
  View.ld_unit_apply_of w _ _ _ _ _ fun a => match a with
    | ⟨0, _⟩ => (Nat.zero_add _).symm
    | ⟨1, _⟩ => rfl

end Cert.Proof.Proj

end
-- ==== Proof.ProjArray.lean ====
/-
What four output arrays of the projections hold after all blocks, over the extended reals: the values, the latents and the two
gates, row by row, as functions of the arguments.
-/
module

public import proofs.«01_k».proof.Proof.ProjRow
public import proofs.«01_k».proof.Proof.ProjWeights
public import proofs.«01_k».proof.Proof.ProjFrame
public import proofs.«01_k».proof.Proof.FinishArray

@[expose] public section

set_option maxRecDepth 16384

noncomputable section

namespace Cert.Proof.Proj

open Cert.Kernel2Ideal Cert.Kernel2Ideal.Gen Idealize.ShloMosaic Idealize.ShloMosaic.TcCoe Idealize.ShloMosaic.StableHlo
open Idealize.ShloMosaic.Pipeline (Dat)
open Cert.Proof.Finish (normed bat pos cast3 cast1)

section
variable (a0 : FVec Ideal S8x2048x1024 .f32) (a1 : FVec Ideal S1024 .f32) (a2 : FVec Ideal S1024x4552 .f32) (a9 : FVec Ideal S256 .f32)

/-- A normalised row of the input. -/
def hRow (r : Fin 16384) : Fin 1024 → EReal := normed (fun n => a0 (ix3 (bat r) (pos r) n)) (fun n => a1 (ix1 n))

/-- The columns of its projection from column `o` on. -/
def part {n : ℕ} (o : ℕ) (ho : o + n ≤ 4552) (r : Fin 16384) : Fin n → EReal := cols o ho (hRow a0 a1 r) (fun k j => a2 (ix2 k j))

/-- The four arrays. -/
def valueArray : FVec Ideal S16384x512 .f32 := fun i => part a0 a1 a2 (n := 512) 1024 (by decide) (i 0) (i 1)
def latentArray : FVec Ideal S16384x256 .f32 := fun i => latent (part a0 a1 a2 (n := 256) 2216 (by decide) (i 0)) (fun j => a9 (ix1 j)) (i 1)
def gateArray : FVec Ideal S16384x1024 .f32 := fun i => Ideal.logistic (part a0 a1 a2 (n := 1024) 2504 (by decide) (i 0) (i 1))
def gateArray' : FVec Ideal S16384x1024 .f32 := fun i => Ideal.logistic (part a0 a1 a2 (n := 1024) 3528 (by decide) (i 0) (i 1))
end

variable (m : (ℓ : Loc nD τ sig) → Buf (Elt Ideal) ℓ) (c : Dev nD)

/-! The blocks of a point: rows `256 t` to `256 t + 255` of the row arrays, the weights and the gains whole. -/

abbrev row (t : Fin cfg0.N) (r : Fin 256) : Fin 16384 := ⟨t.val * 256 + r.val, by have : t.val < 64 := t.isLt; omega⟩

theorem idx (t : Fin cfg0.N) :
    ((cfg0.win 0).index t 0 = t.val ∧ (cfg0.win 0).index t 1 = 0) ∧ ((cfg0.win 1).index t 0 = 0 ∧ (cfg0.win 1).index t 1 = 0)
    ∧ ((cfg0.win 2).index t 0 = 0 ∧ (cfg0.win 2).index t 1 = 0) ∧ ((cfg0.win 13).index t 0 = 0 ∧ (cfg0.win 13).index t 1 = 0)
    ∧ ((cfg0.win 22).index t 0 = t.val ∧ (cfg0.win 22).index t 1 = 0) ∧ ((cfg0.win 24).index t 0 = t.val ∧ (cfg0.win 24).index t 1 = 0)
    ∧ ((cfg0.win 26).index t 0 = t.val ∧ (cfg0.win 26).index t 1 = 0) ∧ ((cfg0.win 27).index t 0 = t.val ∧ (cfg0.win 27).index t 1 = 0) := by
  revert t; decide +kernel

theorem read0 (X : Vec Ideal S16384x1024 .f32) (t : Fin cfg0.N) (r : Fin 256) (n : Fin 1024) :
    (((cfg0.win 0).blk t).view.read (Elt Ideal) X : Vec Ideal S256x1024 .f32) (ix2 r n) = X (ix2 (row t r) n) := by
  obtain ⟨e0, e1⟩ := (idx t).1
  blk_ext [e0, e1]
theorem read1 (X : Vec Ideal S1x1024 .f32) (t : Fin cfg0.N) (k : Fin 1) (n : Fin 1024) :
    (((cfg0.win 1).blk t).view.read (Elt Ideal) X : Vec Ideal S1x1024 .f32) (ix2 k n) = X (ix2 k n) := by
  obtain ⟨e0, e1⟩ := (idx t).2.1
  blk_ext [e0, e1]
theorem read2 (X : Vec Ideal S1024x4736 .bf16) (t : Fin cfg0.N) (k : Fin 1024) (n : Fin 4736) :
    (((cfg0.win 2).blk t).view.read (Elt Ideal) X : Vec Ideal S1024x4736 .bf16) (ix2 k n) = X (ix2 k n) := by
  obtain ⟨e0, e1⟩ := (idx t).2.2.1
  blk_ext [e0, e1]
theorem read13 (X : Vec Ideal S1x256 .f32) (t : Fin cfg0.N) (k : Fin 1) (n : Fin 256) :
    (((cfg0.win 13).blk t).view.read (Elt Ideal) X : Vec Ideal S1x256 .f32) (ix2 k n) = X (ix2 k n) := by
  obtain ⟨e0, e1⟩ := (idx t).2.2.2.1
  blk_ext [e0, e1]

theorem cast1' (X : FVec Ideal S256 .f32) (n : Fin 256) :
    shapeCast S1x256 X shapeCasts_S256_S1x256 (ix2 0 n) = X (ix1 n) := by
  pointwise []

abbrev B0 (t : Fin cfg0.N) : FVec Ideal S256x1024 .f32 := iblk m c 0 t
abbrev B1 (t : Fin cfg0.N) : FVec Ideal S1x1024 .f32 := iblk m c 1 t
abbrev B2 (t : Fin cfg0.N) : FVec Ideal S1024x4736 .bf16 := iblk m c 2 t
abbrev B13 (t : Fin cfg0.N) : FVec Ideal S1x256 .f32 := iblk m c 13 t

theorem b0 (t : Fin cfg0.N) (r : Fin 256) (n : Fin 1024) : B0 m c t (ix2 r n) = A0 m c (ix3 (bat (row t r)) (pos (row t r)) n) :=
  (read0 _ t r n).trans ((congrFun (V140 m c) _).trans (cast3 _ _ _))
theorem b1 (t : Fin cfg0.N) (n : Fin 1024) : B1 m c t (ix2 0 n) = A1 m c (ix1 n) :=
  (read1 _ t 0 n).trans ((congrFun (V79 m c) _).trans (cast1 _ _))
theorem b2 (t : Fin cfg0.N) (k : Fin 1024) (n : Fin 4736) : B2 m c t (ix2 k n) = packed (A2 m c) (ix2 k n) :=
  (read2 _ t k n).trans (congrFun (V18 m c) _)
theorem b13 (t : Fin cfg0.N) (n : Fin 256) : B13 m c t (ix2 0 n) = A9 m c (ix1 n) :=
  (read13 _ t 0 n).trans ((congrFun (V99 m c) _).trans (cast1' _ _))

/-! What a point computes. -/

abbrev H (t : Fin cfg0.N) : FVec Ideal S256x1024 .bf16 := k0_pay3 (F := Ideal) (B0 m c t) (B1 m c t)

theorem blockRow (t : Fin cfg0.N) (r : Fin 256) (n : Fin 1024) : H m c t (ix2 r n) = hRow (A0 m c) (A1 m c) (row t r) n := by
  refine (pay3_apply _ _ r n).trans ?_
  have e0 := funext (b0 m c t r)
  have e1 := funext (b1 m c t)
  unfold hRow
  rw [e0, e1]

theorem blockValue (t : Fin cfg0.N) (r : Fin 256) (j : Fin 512) :
    k0_pay42 (F := Ideal) (H m c t) (valuePart (B2 m c t)) (ix2 r j) = part (A0 m c) (A1 m c) (A2 m c) (n := 512) 1024 (by decide) (row t r) j :=
  (pay42_apply _ _ r j).trans (Finset.sum_congr rfl fun k _ => congrArg₂ (fun x y : EReal => x * y) (blockRow m c t r k)
    ((valuePart_apply _ k j).trans ((b2 m c t k _).trans (packed_value _ k j))))

theorem latentRow (t : Fin cfg0.N) (r : Fin 256) (j : Fin 256) :
    ∑ k : Fin 1024, H m c t (ix2 r k) * latentPart (B2 m c t) (ix2 k j)
      = part (A0 m c) (A1 m c) (A2 m c) (n := 256) 2216 (by decide) (row t r) j :=
  Finset.sum_congr rfl fun k _ => congrArg₂ (fun x y : EReal => x * y) (blockRow m c t r k)
    ((latentPart_apply _ k j).trans ((b2 m c t k _).trans (packed_latent _ k j)))

theorem blockLatent (t : Fin cfg0.N) (r : Fin 256) (j : Fin 256) :
    k0_pay122 (F := Ideal) (H m c t) (latentPart (B2 m c t)) (B13 m c t) (ix2 r j)
      = latent (part (A0 m c) (A1 m c) (A2 m c) (n := 256) 2216 (by decide) (row t r)) (fun j => A9 m c (ix1 j)) j :=
  (pay122_apply _ _ _ r j).trans (congrArg₂ (fun z g => latent z g j) (funext (latentRow m c t r)) (funext (b13 m c t)))

theorem blockGate (t : Fin cfg0.N) (r : Fin 256) (j : Fin 1024) :
    k0_pay1 (F := Ideal) (H m c t) (gatePart (B2 m c t)) (ix2 r j)
      = Ideal.logistic (part (A0 m c) (A1 m c) (A2 m c) (n := 1024) 2504 (by decide) (row t r) j) :=
  (pay1_apply _ _ r j).trans (congrArg Ideal.logistic (Finset.sum_congr rfl fun k _ => congrArg₂ (fun x y : EReal => x * y) (blockRow m c t r k)
    ((gatePart_apply _ k j).trans ((b2 m c t k _).trans (packed_gate _ k j)))))

theorem blockGate' (t : Fin cfg0.N) (r : Fin 256) (j : Fin 1024) :
    k0_pay2 (F := Ideal) (H m c t) (gatePart' (B2 m c t)) (ix2 r j)
      = Ideal.logistic (part (A0 m c) (A1 m c) (A2 m c) (n := 1024) 3528 (by decide) (row t r) j) :=
  (pay2_apply _ _ r j).trans (congrArg Ideal.logistic (Finset.sum_congr rfl fun k _ => congrArg₂ (fun x y : EReal => x * y) (blockRow m c t r k)
    ((gatePart'_apply _ k j).trans ((b2 m c t k _).trans (packed_gate' _ k j)))))

/-! Each as an entry of the arrays. -/

theorem value_row (t : Fin cfg0.N) (r : Fin 256) (j : Fin 512) :
    part (A0 m c) (A1 m c) (A2 m c) (n := 512) 1024 (by decide) (row t r) j = valueArray (A0 m c) (A1 m c) (A2 m c) (ix2 (row t r) j) := rfl
theorem latent_row (t : Fin cfg0.N) (r : Fin 256) (j : Fin 256) :
    latent (part (A0 m c) (A1 m c) (A2 m c) (n := 256) 2216 (by decide) (row t r)) (fun j => A9 m c (ix1 j)) j
      = latentArray (A0 m c) (A1 m c) (A2 m c) (A9 m c) (ix2 (row t r) j) := rfl
theorem gate_row (t : Fin cfg0.N) (r : Fin 256) (j : Fin 1024) :
    Ideal.logistic (part (A0 m c) (A1 m c) (A2 m c) (n := 1024) 2504 (by decide) (row t r) j)
      = gateArray (A0 m c) (A1 m c) (A2 m c) (ix2 (row t r) j) := rfl
theorem gate_row' (t : Fin cfg0.N) (r : Fin 256) (j : Fin 1024) :
    Ideal.logistic (part (A0 m c) (A1 m c) (A2 m c) (n := 1024) 3528 (by decide) (row t r) j)
      = gateArray' (A0 m c) (A1 m c) (A2 m c) (ix2 (row t r) j) := rfl

/-! What the body leaves at a point. -/

theorem outs22 (t : Fin cfg0.N) : (outsAt0 m c t).2.1 = k0_pay42 (F := Ideal) (H m c t) (valuePart (B2 m c t)) := by
  dsimp only [outsAt0]
  exact left22 ..
theorem outs24 (t : Fin cfg0.N) : (outsAt0 m c t).2.2.2.1 = k0_pay122 (F := Ideal) (H m c t) (latentPart (B2 m c t)) (B13 m c t) := by
  dsimp only [outsAt0]
  exact left24 ..
theorem outs26 (t : Fin cfg0.N) : (outsAt0 m c t).2.2.2.2.2.1 = k0_pay1 (F := Ideal) (H m c t) (gatePart (B2 m c t)) := by
  dsimp only [outsAt0]
  exact left26 ..
theorem outs27 (t : Fin cfg0.N) : (outsAt0 m c t).2.2.2.2.2.2.1 = k0_pay2 (F := Ideal) (H m c t) (gatePart' (B2 m c t)) := by
  dsimp only [outsAt0]
  exact left27 ..

/-! The output arrays after all blocks. -/

theorem array22 : (dats m 0 c).arrAt 22 cfg0.N = valueArray (A0 m c) (A1 m c) (A2 m c) := by
  refine (dats m 0 c).arrAt_eq_of_covers 22 _ (by decide +kernel) fun t hf y => ?_
  obtain ⟨e0, e1⟩ := (idx t).2.2.2.2.1
  blk_simp
  rw [after0_22]
  obtain ⟨r, n, rfl⟩ : ∃ (r : Fin 256) (n : Fin 512), y = ix2 r n := ⟨y 0, y 1, eq_ix2 y⟩
  refine (congrFun (outs22 m c t) _).trans ((blockValue m c t r n).trans ((value_row m c t r n).trans (congrArg (valueArray (A0 m c) (A1 m c) (A2 m c)) (?_ : ix2 (row t r) n = _))))
  funext a
  match a with
  | ⟨0, _⟩ => exact Fin.ext (by blk_simp [e0])
  | ⟨1, _⟩ => exact Fin.ext (by blk_simp [e1])

theorem array24 : (dats m 0 c).arrAt 24 cfg0.N = latentArray (A0 m c) (A1 m c) (A2 m c) (A9 m c) := by
  refine (dats m 0 c).arrAt_eq_of_covers 24 _ (by decide +kernel) fun t hf y => ?_
  obtain ⟨e0, e1⟩ := (idx t).2.2.2.2.2.1
  blk_simp
  rw [after0_24]
  obtain ⟨r, n, rfl⟩ : ∃ (r : Fin 256) (n : Fin 256), y = ix2 r n := ⟨y 0, y 1, eq_ix2 y⟩
  refine (congrFun (outs24 m c t) _).trans ((blockLatent m c t r n).trans ((latent_row m c t r n).trans (congrArg (latentArray (A0 m c) (A1 m c) (A2 m c) (A9 m c)) (?_ : ix2 (row t r) n = _))))
  funext a
  match a with
  | ⟨0, _⟩ => exact Fin.ext (by blk_simp [e0])
  | ⟨1, _⟩ => exact Fin.ext (by blk_simp [e1])

theorem array26 : (dats m 0 c).arrAt 26 cfg0.N = gateArray (A0 m c) (A1 m c) (A2 m c) := by
  refine (dats m 0 c).arrAt_eq_of_covers 26 _ (by decide +kernel) fun t hf y => ?_
  obtain ⟨e0, e1⟩ := (idx t).2.2.2.2.2.2.1
  blk_simp
  rw [after0_26]
  obtain ⟨r, n, rfl⟩ : ∃ (r : Fin 256) (n : Fin 1024), y = ix2 r n := ⟨y 0, y 1, eq_ix2 y⟩
  refine (congrFun (outs26 m c t) _).trans ((blockGate m c t r n).trans ((gate_row m c t r n).trans (congrArg (gateArray (A0 m c) (A1 m c) (A2 m c)) (?_ : ix2 (row t r) n = _))))
  funext a
  match a with
  | ⟨0, _⟩ => exact Fin.ext (by blk_simp [e0])
  | ⟨1, _⟩ => exact Fin.ext (by blk_simp [e1])

theorem array27 : (dats m 0 c).arrAt 27 cfg0.N = gateArray' (A0 m c) (A1 m c) (A2 m c) := by
  refine (dats m 0 c).arrAt_eq_of_covers 27 _ (by decide +kernel) fun t hf y => ?_
  obtain ⟨e0, e1⟩ := (idx t).2.2.2.2.2.2.2
  blk_simp
  rw [after0_27]
  obtain ⟨r, n, rfl⟩ : ∃ (r : Fin 256) (n : Fin 1024), y = ix2 r n := ⟨y 0, y 1, eq_ix2 y⟩
  refine (congrFun (outs27 m c t) _).trans ((blockGate' m c t r n).trans ((gate_row' m c t r n).trans (congrArg (gateArray' (A0 m c) (A1 m c) (A2 m c)) (?_ : ix2 (row t r) n = _))))
  funext a
  match a with
  | ⟨0, _⟩ => exact Fin.ext (by blk_simp [e0])
  | ⟨1, _⟩ => exact Fin.ext (by blk_simp [e1])

end Cert.Proof.Proj

end
-- ==== Proof.ProjEquation.lean ====
/-
The results of the projections and of their reference are equal.
-/
module

public import proofs.«01_k».proof.Defs
public import proofs.«01_k».proof.Proof.ProjRef
public import proofs.«01_k».proof.Proof.ProjArray

@[expose] public section

set_option maxRecDepth 16384

noncomputable section

namespace Cert.Proof.Proj

open Idealize.ShloMosaic Idealize.ShloMosaic.TcCoe Idealize.SL.Sem
open Cert.Proof.Finish (bat pos)

section
open Cert.Kernel2Ideal

variable (a0 : FVec Ideal S8x2048x1024 .f32) (a1 : FVec Ideal S1024 .f32) (a2 : FVec Ideal S1024x4552 .f32) (a9 : FVec Ideal S256 .f32)

theorem ref_row (r : Fin 16384) (n : Fin 1024) : Ref.norm a1 a0 (ix3 (bat r) (pos r) n) = hRow a0 a1 r n := by
  rw [Ref.norm_apply, Ref.invRoot_apply]
  rfl

theorem ref_mixed (r : Fin 16384) (n : Fin 4552) :
    Ref.mixed a2 (Ref.norm a1 a0) (ix3 (bat r) (pos r) n) = ∑ k : Fin 1024, hRow a0 a1 r k * a2 (ix2 k n) := by
  rw [Ref.mixed_apply]
  simp only [ref_row]

theorem ref_value : Ref.flatValue (Ref.valueCols (Ref.mixed a2 (Ref.norm a1 a0))) = valueArray a0 a1 a2 := by
  funext i
  obtain ⟨r, n, rfl⟩ : ∃ (r : Fin 16384) (n : Fin 512), i = ix2 r n := ⟨i 0, i 1, eq_ix2 i⟩
  exact (Ref.flatValue_apply _ r n).trans ((Ref.valueCols_apply _ _ _ n).trans (ref_mixed a0 a1 a2 r _))

theorem ref_latentRow (r : Fin 16384) (n : Fin 256) :
    Ref.latentCols (Ref.mixed a2 (Ref.norm a1 a0)) (ix3 (bat r) (pos r) n) = part a0 a1 a2 (n := 256) 2216 (by decide) r n :=
  (Ref.latentCols_apply _ _ _ n).trans (ref_mixed a0 a1 a2 r _)

theorem ref_latent : Ref.flatLatent (Ref.normLatent a9 (Ref.latentCols (Ref.mixed a2 (Ref.norm a1 a0)))) = latentArray a0 a1 a2 a9 := by
  funext i
  obtain ⟨r, n, rfl⟩ : ∃ (r : Fin 16384) (n : Fin 256), i = ix2 r n := ⟨i 0, i 1, eq_ix2 i⟩
  refine (Ref.flatLatent_apply _ r n).trans ?_
  rw [Ref.normLatent_apply, Ref.invRootLatent_apply]
  simp only [ref_latentRow]
  rfl

theorem ref_gate : Ref.flat (Ref.gate (Ref.gateCols (Ref.mixed a2 (Ref.norm a1 a0)))) = gateArray a0 a1 a2 := by
  funext i
  obtain ⟨r, n, rfl⟩ : ∃ (r : Fin 16384) (n : Fin 1024), i = ix2 r n := ⟨i 0, i 1, eq_ix2 i⟩
  exact (Ref.flat_apply _ r n).trans ((Ref.gate_apply _ _ _ n).trans (congrArg Ideal.logistic
    ((Ref.gateCols_apply _ _ _ n).trans (ref_mixed a0 a1 a2 r _))))

theorem ref_gate' : Ref.flat (Ref.gate (Ref.gateCols' (Ref.mixed a2 (Ref.norm a1 a0)))) = gateArray' a0 a1 a2 := by
  funext i
  obtain ⟨r, n, rfl⟩ : ∃ (r : Fin 16384) (n : Fin 1024), i = ix2 r n := ⟨i 0, i 1, eq_ix2 i⟩
  exact (Ref.flat_apply _ r n).trans ((Ref.gate_apply _ _ _ n).trans (congrArg Ideal.logistic
    ((Ref.gateCols'_apply _ _ _ n).trans (ref_mixed a0 a1 a2 r _))))

end

section
open Cert.Kernel2Ideal Cert.Kernel2Ideal.Gen

variable (m : (ℓ : Loc nD τ sig) → Buf (Elt Ideal) ℓ) (ρ : Dev nD → PrngReg)

/-- An argument that no block of a point stages ends as it was launched. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c)⟩

end

theorem algebraic [Cert.Kernel2Ideal.Facts] [Cert.Reference2Ideal.Facts] : Cert.algebraic_Kernel2Ideal_Reference2Ideal := by
  intro m g m' g' _ hagree
  refine ⟨fun c => valueArray (A0 m c) (A1 m c) (A2 m c), fun c => latentArray (A0 m c) (A1 m c) (A2 m c) (A9 m c),
    fun c => gateArray (A0 m c) (A1 m c) (A2 m c), fun c => gateArray' (A0 m c) (A1 m c) (A2 m c), ?_, ?_⟩
  · exact (θ_run _ _ _).mono (fun r h c => ⟨((h c).1 22).trans (array22 m c), ((h c).1 24).trans (array24 m c),
      ((h c).1 26).trans (array26 m c), ((h c).1 27).trans (array27 m c), kept m r h c⟩) (Cert.Kernel2Ideal.Gen.run_main m g)
  · refine (θ_run _ _ _).mono (fun r h c => ⟨(h c).1.trans ?_, (h c).2.1.trans ?_, (h c).2.2.1.trans ?_, (h c).2.2.2.1.trans ?_, (h c).2.2.2.2⟩)
      (Cert.Reference2Ideal.Value.run (F := Ideal) m' g')
    · obtain ⟨e0, e1, e2, -⟩ := hagree c
      rw [e0, e1, e2]
      exact ref_value (A0 m c) (A1 m c) (A2 m c)
    · obtain ⟨e0, e1, e2, e3, e4, e5, e6, e7, e8, e9, -⟩ := hagree c
      rw [e0, e1, e2, e9]
      exact ref_latent (A0 m c) (A1 m c) (A2 m c) (A9 m c)
    · obtain ⟨e0, e1, e2, -⟩ := hagree c
      rw [e0, e1, e2]
      exact ref_gate (A0 m c) (A1 m c) (A2 m c)
    · obtain ⟨e0, e1, e2, -⟩ := hagree c
      rw [e0, e1, e2]
      exact ref_gate' (A0 m c) (A1 m c) (A2 m c)

end Cert.Proof.Proj

end
-- ==== Proof.lean ====
/- The certificate's claim, put together: of each call the three frames, the ideal kernel (`preserves`, without
   rewrites), and the equation of the ideal kernel with its ideal reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Frames
public import proofs.«01_k».proof.Proof.Equation
public import proofs.«01_k».proof.Proof.FinishEquation
public import proofs.«01_k».proof.Proof.ProjSame
public import proofs.«01_k».proof.Proof.ProjEquation
public import Idealize.ShloMosaic.Adequacy
public import Idealize.ShloMosaic.Init

@[expose] public section

noncomputable section

namespace Cert.Proof

open Idealize.ShloMosaic Idealize.SL.Sem Cert.Kernel

theorem frame_kernel3 : Cert.quiescent_Kernel3 := fun m ρ _ => Cert.Kernel3.Gen.frame (F := Bits) m ρ
theorem frame_kernel3Ideal : Cert.quiescent_Kernel3Ideal := fun m ρ _ => Cert.Kernel3Ideal.Gen.frame (F := Ideal) m ρ

theorem frame_reference3 : Cert.quiescent_Reference3Ideal := fun m ρ _ =>
  (θ_run _ _ _).mono (fun r h => ⟨fun c => (h c).2.2.2, sem_eq_zero_of_no_sems (by decide) r.2⟩) (Cert.Reference3Ideal.Value.run (F := Ideal) m ρ)

/-- All the claims of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, pre_facts,
    frame_kernel, frame_kernelIdeal, fun m ρ _ => frame_kernelIdeal m ρ trivial, frame_reference, fun m ρ _ => frame_reference m ρ trivial,
    Proj.frame_kernel, Proj.frame_kernelIdeal, Proj.frame_reference,
    frame_kernel3, frame_kernel3Ideal, frame_reference3,
    trivial, @algebraic Cert.KernelIdeal.Gen.facts Cert.ReferenceIdeal.Gen.facts pre_facts,
    trivial, @Proj.algebraic Cert.Kernel2Ideal.Gen.facts Cert.Reference2Ideal.Gen.facts,
    trivial, @Finish.algebraic Cert.Kernel3Ideal.Gen.facts Cert.Reference3Ideal.Gen.facts⟩

end Cert.Proof

end
